-- ==== Defs.lean ====
def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_finite [hPre_finite : Cert.Pre_finite.Facts] (m : (ℓ : Loc Cert.MixerIdeal.nD Cert.MixerIdeal.τ Cert.MixerIdeal.sig) → Buf (Elt Ideal) ℓ) : Prop :=
  ∀ c : Dev Cert.MixerIdeal.nD,
    (Cert.Pre_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8))) = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_finite [hPre_finite : Cert.Pre_finite.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8))
      ∧ r.2.sem = fun _ => 0)

def quiescent_MixerIdeal_pre_finite [hMixerIdeal : Cert.MixerIdeal.Facts] [hPre_finite : Cert.Pre_finite.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_finite m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8))
      ∧ r.2.sem = fun _ => 0)

def quiescent_MixerRefIdeal_pre_finite [hMixerRefIdeal : Cert.MixerRefIdeal.Facts] [hPre_finite : Cert.Pre_finite.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_finite m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def preserves_Mixer_MixerIdeal : Prop :=
  IdealRules.named_const.Statement Cert.MixerIdeal.κ "mask" .f32 0xF149F2CA#32 ⊥
  ∧ IdealRules.named_const.Statement Cert.MixerIdeal.κ "log2e" .f32 0x3FB8AA3B#32 (((Real.log 2)⁻¹ : ℝ) : EReal)
  ∧ IdealRules.named_const.Statement Cert.MixerIdeal.κ "qscale" .f32 0x3E38AA3B#32 ((8⁻¹ * (Real.log 2)⁻¹ : ℝ) : EReal)

def algebraic_MixerIdeal_MixerRefIdeal_pre_finite [hMixerIdeal : Cert.MixerIdeal.Facts] [hMixerRefIdeal : Cert.MixerRefIdeal.Facts] [hPre_finite : Cert.Pre_finite.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_finite m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)) →
    ∃ (v0 : (c : Dev Cert.MixerIdeal.nD) → Buf (Elt Ideal) ((c.tc : Thread Cert.MixerIdeal.nD Cert.MixerIdeal.τ).loc Cert.MixerIdeal.main_v37)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v37) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v213) = v0 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v54) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def Claim : Prop :=
  ∃ (hMixer : Cert.Mixer.Facts) (hMixerIdeal : Cert.MixerIdeal.Facts) (hMixerRefIdeal : Cert.MixerRefIdeal.Facts) (hFfn : Cert.Ffn.Facts) (hFfnIdeal : Cert.FfnIdeal.Facts) (hFfnRefIdeal : Cert.FfnRefIdeal.Facts) (hPre_finite : Cert.Pre_finite.Facts),
    quiescent_Mixer (hMixer := hMixer)
    ∧ quiescent_MixerIdeal (hMixerIdeal := hMixerIdeal)
    ∧ quiescent_MixerIdeal_pre_finite (hMixerIdeal := hMixerIdeal) (hPre_finite := hPre_finite)
    ∧ quiescent_MixerRefIdeal (hMixerRefIdeal := hMixerRefIdeal)
    ∧ quiescent_MixerRefIdeal_pre_finite (hMixerRefIdeal := hMixerRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ preserves_Mixer_MixerIdeal
    ∧ algebraic_MixerIdeal_MixerRefIdeal_pre_finite (hMixerIdeal := hMixerIdeal) (hMixerRefIdeal := hMixerRefIdeal) (hPre_finite := hPre_finite)
    ∧ preserves_Ffn_FfnIdeal
    ∧ algebraic_FfnIdeal_FfnRefIdeal (hFfnIdeal := hFfnIdeal) (hFfnRefIdeal := hFfnRefIdeal)
-- ==== Pre_finite.lean ====
abbrev S16x2048x1024 : Shape := ⟨3, ![16, 2048, 1024]⟩
abbrev S16x9216 : Shape := ⟨2, ![16, 9216]⟩
abbrev S16x2048 : Shape := ⟨2, ![16, 2048]⟩
abbrev S1024x2304 : Shape := ⟨2, ![1024, 2304]⟩
abbrev S3x512 : Shape := ⟨2, ![3, 512]⟩
abbrev S8 : Shape := ⟨1, ![8]⟩
abbrev S1024x1024 : Shape := ⟨2, ![1024, 1024]⟩
abbrev S1024 : Shape := ⟨1, ![1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S16x9216 : S_.BroadcastsInDim S16x9216 (![] : Fin 0 → Fin S16x9216.rank)
  reducesTo_S16x9216_S_d0_1 : S16x9216.ReducesTo [0, 1] S_
  bcast_S_S1024x2304 : S_.BroadcastsInDim S1024x2304 (![] : Fin 0 → Fin S1024x2304.rank)
  reducesTo_S1024x2304_S_d0_1 : S1024x2304.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S16x2048x1024 .f32) (main_arg1 : FVec F S16x9216 .f32) (main_arg2 : IVec S16x2048 32) (main_arg3 : FVec F S1024x2304 .f32) (main_arg4 : FVec F S3x512 .f32) (main_arg5 : FVec F S8 .f32) (main_arg6 : FVec F S1024x1024 .f32) (main_arg7 : FVec F S1024 .f32) (main_arg8 : FVec F S1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x9216 .f32 := Host.absf main_arg1
  let main_cst_0 : FVec F S_ .f32 := constant S_ .f32 0x7F800000#32
  let main_v5 : FVec F S16x9216 .f32 := broadcastInDim S16x9216 ![] bcast_S_S16x9216 main_cst_0
  let main_v6 : IVec S16x9216 1 := cmpf .olt main_v4 main_v5
  let main_c_1 : IVec S_ 1 := constantI S_ 1 1#1
  let main_v7 : IVec S_ 1 := (fun x v => Host.reduce IntOp.andi x v reducesTo_S16x9216_S_d0_1 h_S_) main_v6 main_c_1
  let main_v8 : IVec S_ 1 := andi main_v3 main_v7
  let main_v9 : FVec F S1024x2304 .f32 := Host.absf main_arg3
  let main_cst_2 : FVec F S_ .f32 := constant S_ .f32 0x7F800000#32
  let main_v10 : FVec F S1024x2304 .f32 := broadcastInDim S1024x2304 ![] bcast_S_S1024x2304 main_cst_2
  let main_v11 : IVec S1024x2304 1 := cmpf .olt main_v9 main_v10
  let main_c_3 : IVec S_ 1 := constantI S_ 1 1#1
  let main_v12 : IVec S_ 1 := (fun x v => Host.reduce IntOp.andi x v reducesTo_S1024x2304_S_d0_1 h_S_) main_v11 main_c_3
  let main_v13 : IVec S_ 1 := andi main_v8 main_v12
  let main_v14 : FVec F S8 .f32 := Host.absf main_arg5
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Mixer.lean ====
abbrev S16x2048x1024 : Shape := ⟨3, ![16, 2048, 1024]⟩
abbrev S16x9216 : Shape := ⟨2, ![16, 9216]⟩
abbrev S16x2048 : Shape := ⟨2, ![16, 2048]⟩
abbrev S1024x2304 : Shape := ⟨2, ![1024, 2304]⟩
abbrev S3x512 : Shape := ⟨2, ![3, 512]⟩
abbrev S8 : Shape := ⟨1, ![8]⟩
abbrev S1024x1024 : Shape := ⟨2, ![1024, 1024]⟩
abbrev S1024 : Shape := ⟨1, ![1024]⟩
abbrev S16x9x1024 : Shape := ⟨3, ![16, 9, 1024]⟩
abbrev S9x16x1024 : Shape := ⟨3, ![9, 16, 1024]⟩
abbrev S1024x768 : Shape := ⟨2, ![1024, 768]⟩
abbrev S768x1024 : Shape := ⟨2, ![768, 1024]⟩
abbrev S_ : Shape := ⟨0, ![]⟩
abbrev S8x128 : Shape := ⟨2, ![8, 128]⟩
abbrev S1x1024 : Shape := ⟨2, ![1, 1024]⟩
abbrev S256x1024 : Shape := ⟨2, ![256, 1024]⟩
abbrev S16x1x2048 : Shape := ⟨3, ![16, 1, 2048]⟩
abbrev S8x1 : Shape := ⟨2, ![8, 1]⟩
abbrev S1x1024x1024 : Shape := ⟨3, ![1, 1024, 1024]⟩
abbrev S1x1x1024 : Shape := ⟨3, ![1, 1, 1024]⟩
abbrev S1152x128 : Shape := ⟨2, ![1152, 128]⟩
abbrev S128x1152 : Shape := ⟨2, ![128, 1152]⟩
abbrev S4x1032x128 : Shape := ⟨3, ![4, 1032, 128]⟩
abbrev S4x128x1024 : Shape := ⟨3, ![4, 128, 1024]⟩
abbrev S512x1024 : Shape := ⟨2, ![512, 1024]⟩
abbrev S512x1536 : Shape := ⟨2, ![512, 1536]⟩
abbrev S128x128 : Shape := ⟨2, ![128, 128]⟩
abbrev S4x8x128 : Shape := ⟨3, ![4, 8, 128]⟩
abbrev S256x1 : Shape := ⟨2, ![256, 1]⟩
abbrev S1x512x1024 : Shape := ⟨3, ![1, 512, 1024]⟩
abbrev S1x1x512 : Shape := ⟨3, ![1, 1, 512]⟩
abbrev S1x512 : Shape := ⟨2, ![1, 512]⟩
abbrev S8x512 : Shape := ⟨2, ![8, 512]⟩
abbrev S768x512 : Shape := ⟨2, ![768, 512]⟩
abbrev S64x512 : Shape := ⟨2, ![64, 512]⟩
abbrev S48x512 : Shape := ⟨2, ![48, 512]⟩
abbrev S64x128 : Shape := ⟨2, ![64, 128]⟩
abbrev S1x64x128 : Shape := ⟨3, ![1, 64, 128]⟩
abbrev S128x512 : Shape := ⟨2, ![128, 512]⟩
abbrev S512x128 : Shape := ⟨2, ![512, 128]⟩
abbrev S256x128 : Shape := ⟨2, ![256, 128]⟩
abbrev S1x128x1024 : Shape := ⟨3, ![1, 128, 1024]⟩
abbrev S128x1024 : Shape := ⟨2, ![128, 1024]⟩
abbrev S1024x256 : Shape := ⟨2, ![1024, 256]⟩
abbrev S512x256 : Shape := ⟨2, ![512, 256]⟩
abbrev S128x256 : Shape := ⟨2, ![128, 256]⟩
abbrev S64x1024 : Shape := ⟨2, ![64, 1024]⟩
abbrev S1x512x128 : Shape := ⟨3, ![1, 512, 128]⟩
abbrev S1x128 : Shape := ⟨2, ![1, 128]⟩
abbrev S512 : Shape := ⟨1, ![512]⟩
abbrev S512x1 : Shape := ⟨2, ![512, 1]⟩
abbrev S256 : Shape := ⟨1, ![256]⟩
abbrev S1x256x1024 : Shape := ⟨3, ![1, 256, 1024]⟩

abbrev nBuf : Space → Nat
  | .hbm => 77
  | .vmem => 28
  | .smem => 0
  | _ => 0

abbrev bufTy : (tb : Table) → Fin (tcTables nBuf tb) → BufTy
  | .hbm, ⟨0, _⟩ => ⟨S16x2048x1024, .f32⟩
  | .hbm, ⟨1, _⟩ => ⟨S16x9216, .f32⟩
  | .hbm, ⟨2, _⟩ => ⟨S16x2048, .i32⟩
  | .hbm, ⟨3, _⟩ => ⟨S1024x2304, .f32⟩
  | .hbm, ⟨4, _⟩ => ⟨S3x512, .f32⟩
  | .hbm, ⟨5, _⟩ => ⟨S8, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S16x9x1024, .f32⟩
  | .hbm, ⟨10, _⟩ => ⟨S9x16x1024, .f32⟩
  | .hbm, ⟨11, _⟩ => ⟨S1024x768, .f32⟩
  | .hbm, ⟨12, _⟩ => ⟨S768x1024, .f32⟩
  | .hbm, ⟨13, _⟩ => ⟨S768x1024, .bf16⟩
  | .hbm, ⟨14, _⟩ => ⟨S1024x768, .f32⟩
  | .hbm, ⟨15, _⟩ => ⟨S1024x768, .bf16⟩
  | .hbm, ⟨16, _⟩ => ⟨S1024x768, .f32⟩
  | .hbm, ⟨17, _⟩ => ⟨S1024x768, .bf16⟩
  | .hbm, ⟨18, _⟩ => ⟨S1024x1024, .bf16⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S8x128, .f32⟩
  | .hbm, ⟨34, _⟩ => ⟨S1024, .f32⟩
  | .hbm, ⟨35, _⟩ => ⟨S1x1024, .f32⟩
  | .hbm, ⟨36, _⟩ => ⟨S256x1024, .i32⟩
  | .hbm, ⟨37, _⟩ => ⟨S256x1024, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S256x1024, .i32⟩
  | .hbm, ⟨45, _⟩ => ⟨S256x1024, .i32⟩
  | .hbm, ⟨46, _⟩ => ⟨S_, .i32⟩
  | .hbm, ⟨47, _⟩ => ⟨S256x1024, .i32⟩
  | .hbm, ⟨48, _⟩ => ⟨S256x1024, .i1⟩
  | .hbm, ⟨49, _⟩ => ⟨S_, .i32⟩
  | .hbm, ⟨50, _⟩ => ⟨S256x1024, .i32⟩
  | .hbm, ⟨51, _⟩ => ⟨S256x1024, .i1⟩
  | .hbm, ⟨52, _⟩ => ⟨S_, .i32⟩
  | .hbm, ⟨53, _⟩ => ⟨S_, .i1⟩
  | .hbm, ⟨54, _⟩ => ⟨S256x1024, .i1⟩
  | .hbm, ⟨55, _⟩ => ⟨S256x1024, .i1⟩
  | .hbm, ⟨56, _⟩ => ⟨S256x1024, .i1⟩
  | .hbm, ⟨57, _⟩ => ⟨S256x1024, .i32⟩
  | .hbm, ⟨58, _⟩ => ⟨S256x1024, .i32⟩
  | .hbm, ⟨59, _⟩ => ⟨S256x1024, .i32⟩
  | .hbm, ⟨60, _⟩ => ⟨S256x1024, .i1⟩
  | .hbm, ⟨61, _⟩ => ⟨S_, .i32⟩
  | .hbm, ⟨62, _⟩ => ⟨S256x1024, .i32⟩
  | .hbm, ⟨63, _⟩ => ⟨S256x1024, .i32⟩
  | .hbm, ⟨64, _⟩ => ⟨S256x1024, .i1⟩
  | .hbm, ⟨65, _⟩ => ⟨S256x1024, .i1⟩
  | .hbm, ⟨66, _⟩ => ⟨S_, .f32⟩
  | .hbm, ⟨67, _⟩ => ⟨S_, .f32⟩
  | .hbm, ⟨68, _⟩ => ⟨S256x1024, .f32⟩
  | .hbm, ⟨69, _⟩ => ⟨S256x1024, .f32⟩
  | .hbm, ⟨70, _⟩ => ⟨S256x1024, .f32⟩
  | .hbm, ⟨71, _⟩ => ⟨S256x1024, .f32⟩
  | .hbm, ⟨72, _⟩ => ⟨S16x1x2048, .i32⟩
  | .hbm, ⟨73, _⟩ => ⟨S8x1, .f32⟩
  | .hbm, ⟨74, _⟩ => ⟨S1x1024, .f32⟩
  | .hbm, ⟨75, _⟩ => ⟨S1x1024, .f32⟩
  | .hbm, ⟨76, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S9x16x1024, .f32⟩
  | .local _ .vmem, ⟨3, _⟩ => ⟨S1x1x1024, .i32⟩
  | .local _ .vmem, ⟨4, _⟩ => ⟨S1x1x1024, .i32⟩
  | .local _ .vmem, ⟨5, _⟩ => ⟨S8x1, .f32⟩
  | .local _ .vmem, ⟨6, _⟩ => ⟨S1x1024, .f32⟩
  | .local _ .vmem, ⟨7, _⟩ => ⟨S768x1024, .bf16⟩
  | .local _ .vmem, ⟨8, _⟩ => ⟨S1024x768, .bf16⟩
  | .local _ .vmem, ⟨9, _⟩ => ⟨S1024x768, .bf16⟩
  | .local _ .vmem, ⟨10, _⟩ => ⟨S3x512, .f32⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S1x1024x1024, .f32⟩
  | .local _ .vmem, ⟨16, _⟩ => ⟨S1x1024x1024, .f32⟩
  | .local _ .vmem, ⟨17, _⟩ => ⟨S1152x128, .bf16⟩
  | .local _ .vmem, ⟨18, _⟩ => ⟨S128x1152, .bf16⟩
  | .local _ .vmem, ⟨19, _⟩ => ⟨S4x1032x128, .f32⟩
  | .local _ .vmem, ⟨20, _⟩ => ⟨S1024x1024, .bf16⟩
  | .local _ .vmem, ⟨21, _⟩ => ⟨S768x1024, .f32⟩
  | .local _ .vmem, ⟨22, _⟩ => ⟨S4x128x1024, .bf16⟩
  | .local _ .vmem, ⟨23, _⟩ => ⟨S512x1024, .bf16⟩
  | .local _ .vmem, ⟨24, _⟩ => ⟨S512x1536, .f32⟩
  | .local _ .vmem, ⟨25, _⟩ => ⟨S4x128x1024, .bf16⟩
  | .local _ .vmem, ⟨26, _⟩ => ⟨S512x1024, .bf16⟩
  | .local _ .vmem, ⟨27, _⟩ => ⟨S512x1536, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_call0_v0 : Ref sig .tc := ⟨.hbm, 39, rfl⟩
abbrev main_call0_c : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_c_1 : Ref sig .tc := ⟨.hbm, 46, rfl⟩
abbrev main_call0_v5 : Ref sig .tc := ⟨.hbm, 47, rfl⟩
abbrev main_call0_v6 : Ref sig .tc := ⟨.hbm, 48, rfl⟩
abbrev main_call0_c_2 : Ref sig .tc := ⟨.hbm, 49, rfl⟩
abbrev main_call0_v7 : Ref sig .tc := ⟨.hbm, 50, rfl⟩
abbrev main_call0_v8 : Ref sig .tc := ⟨.hbm, 51, rfl⟩
abbrev main_call0_c_3 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_v25 : Ref sig .tc := ⟨.hbm, 59, rfl⟩
abbrev main_v26 : Ref sig .tc := ⟨.hbm, 60, rfl⟩
abbrev main_c_3 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_4 : Ref sig .tc := ⟨.hbm, 66, rfl⟩
abbrev main_cst_5 : Ref sig .tc := ⟨.hbm, 67, rfl⟩
abbrev main_call1_v0 : Ref sig .tc := ⟨.hbm, 68, rfl⟩
abbrev main_call1_v1 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_scratch9 : Ref sig .tc := ⟨.vmem, 26, rfl⟩
abbrev cc0_scratch10 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨2, ![16, 2], ![false, false]⟩

def k0_off1 (i : grid0.Coords) : Fin 3 → Nat :=
  let c3 : Index := 3#32
  let arg0 : BitVec 32 := BitVec.ofNat 32 (i 0).val
  let v3 : Index := Scalar.indexCast arg0
  let c0 : Index := 0#32
  ![3, v3.toNat, 0]
def k0_off2 (i : grid0.Coords) : Fin 3 → Nat :=
  let c4 : Index := 4#32
  let arg0 : BitVec 32 := BitVec.ofNat 32 (i 0).val
  let v6 : Index := Scalar.indexCast arg0
  let c0_1 : Index := 0#32
  ![4, v6.toNat, 0]
def k0_off3 (i : grid0.Coords) : Fin 3 → Nat :=
  let c5 : Index := 5#32
  let arg0 : BitVec 32 := BitVec.ofNat 32 (i 0).val
  let v9 : Index := Scalar.indexCast arg0
  let c0_2 : Index := 0#32
  ![5, v9.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S9x16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MixerIdeal.lean ====
variable {F : FTy → Type} [FloatOps F] [Named F]
def κ : String → Option EReal := fun
  | "log2e" => some (((Real.log 2)⁻¹ : ℝ) : EReal)
  | "mask" => some ⊥
  | "qscale" => some ((8⁻¹ * (Real.log 2)⁻¹ : ℝ) : EReal)
  | _ => none
-- ==== MixerRefIdeal.lean ====
abbrev S16x2048x1024 : Shape := ⟨3, ![16, 2048, 1024]⟩
abbrev S16x9216 : Shape := ⟨2, ![16, 9216]⟩
abbrev S16x2048 : Shape := ⟨2, ![16, 2048]⟩
abbrev S1024x2304 : Shape := ⟨2, ![1024, 2304]⟩
abbrev S3x512 : Shape := ⟨2, ![3, 512]⟩
abbrev S8 : Shape := ⟨1, ![8]⟩
abbrev S1024x1024 : Shape := ⟨2, ![1024, 1024]⟩
abbrev S1024 : Shape := ⟨1, ![1024]⟩
abbrev S16x1x9216 : Shape := ⟨3, ![16, 1, 9216]⟩
abbrev S16x1x1024 : Shape := ⟨3, ![16, 1, 1024]⟩
abbrev S_ : Shape := ⟨0, ![]⟩
abbrev S16x2048x2304 : Shape := ⟨3, ![16, 2048, 2304]⟩
abbrev S16x2048x512 : Shape := ⟨3, ![16, 2048, 512]⟩
abbrev S16x2048x128 : Shape := ⟨3, ![16, 2048, 128]⟩
abbrev S16x2048x8x64 : Shape := ⟨4, ![16, 2048, 8, 64]⟩
abbrev S16x2048x1 : Shape := ⟨3, ![16, 2048, 1]⟩
abbrev S1x1x8 : Shape := ⟨3, ![1, 1, 8]⟩
abbrev S16x2048x8 : Shape := ⟨3, ![16, 2048, 8]⟩
abbrev S16x2048x1x8 : Shape := ⟨4, ![16, 2048, 1, 8]⟩
abbrev S16x2048x8x8 : Shape := ⟨4, ![16, 2048, 8, 8]⟩
abbrev S16x2048x8x48 : Shape := ⟨4, ![16, 2048, 8, 48]⟩
abbrev S16x2048x2x64 : Shape := ⟨4, ![16, 2048, 2, 64]⟩
abbrev S16x2048x2x8 : Shape := ⟨4, ![16, 2048, 2, 8]⟩
abbrev S16x2048x2x48 : Shape := ⟨4, ![16, 2048, 2, 48]⟩
abbrev S16x16x128x2x4x64 : Shape := ⟨6, ![16, 16, 128, 2, 4, 64]⟩
abbrev S16x2176x2x64 : Shape := ⟨4, ![16, 2176, 2, 64]⟩
abbrev S16x17x128x2x64 : Shape := ⟨5, ![16, 17, 128, 2, 64]⟩
abbrev S16x16x128x2x64 : Shape := ⟨5, ![16, 16, 128, 2, 64]⟩
abbrev S16x16x256x2x64 : Shape := ⟨5, ![16, 16, 256, 2, 64]⟩
abbrev S16x16x2x256x128x4 : Shape := ⟨6, ![16, 16, 2, 256, 128, 4]⟩
abbrev S16x16x2x4x128x256 : Shape := ⟨6, ![16, 16, 2, 4, 128, 256]⟩
abbrev S16 : Shape := ⟨1, ![16]⟩
abbrev S16x1x1 : Shape := ⟨3, ![16, 1, 1]⟩
abbrev S128 : Shape := ⟨1, ![128]⟩
abbrev S1x128x1 : Shape := ⟨3, ![1, 128, 1]⟩
abbrev S256 : Shape := ⟨1, ![256]⟩
abbrev S1x1x256 : Shape := ⟨3, ![1, 1, 256]⟩
abbrev S1x128x256 : Shape := ⟨3, ![1, 128, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S2x4 : Shape := ⟨2, ![2, 4]⟩
abbrev S1x1x2x4x1x1 : Shape := ⟨6, ![1, 1, 2, 4, 1, 1]⟩
abbrev S16x16x2x4x128x1 : Shape := ⟨6, ![16, 16, 2, 4, 128, 1]⟩
abbrev S16x16x2x4x128x257 : Shape := ⟨6, ![16, 16, 2, 4, 128, 257]⟩
abbrev S16x16x2x4x128 : Shape := ⟨5, ![16, 16, 2, 4, 128]⟩
abbrev S16x16x2x64x4x128 : Shape := ⟨6, ![16, 16, 2, 64, 4, 128]⟩
abbrev S16x2050x512 : Shape := ⟨3, ![16, 2050, 512]⟩
abbrev S1x512 : Shape := ⟨2, ![1, 512]⟩
abbrev S512 : Shape := ⟨1, ![512]⟩
abbrev S1x1x512 : Shape := ⟨3, ![1, 1, 512]⟩
abbrev S1x1x1024 : Shape := ⟨3, ![1, 1, 1024]⟩

abbrev nBuf : Space → Nat
  | .hbm => 259
  | .vmem => 0
  | .smem => 0
  | _ => 0

abbrev hbmTy0_0 (i : Nat) : BufTy := match i % 128 with
  | 0 => ⟨S16x2048x1024, .f32⟩
  | 1 => ⟨S16x9216, .f32⟩
  | 2 => ⟨S16x2048, .i32⟩
  | 3 => ⟨S1024x2304, .f32⟩
  | 4 => ⟨S3x512, .f32⟩
  | 5 => ⟨S8, .f32⟩
  | 6 => ⟨S1024x1024, .f32⟩
  | 7 => ⟨S1024, .f32⟩
  | 8 => ⟨S1024, .f32⟩
  | 9 => ⟨S16x1x9216, .f32⟩
  | 10 => ⟨S16x1x1024, .f32⟩
  | 11 => ⟨S16x1x1024, .f32⟩
  | 12 => ⟨S16x1x1024, .f32⟩
  | 13 => ⟨S16x1x1024, .f32⟩
  | 14 => ⟨S16x1x1024, .f32⟩
  | 15 => ⟨S16x1x1024, .f32⟩
  | 16 => ⟨S16x1x1024, .f32⟩
  | 17 => ⟨S16x1x1024, .f32⟩
  | 18 => ⟨S16x1x1024, .f32⟩
  | 19 => ⟨S_, .f32⟩
  | 20 => ⟨S16x1x1024, .f32⟩
  | 21 => ⟨S16x1x1024, .f32⟩
  | 22 => ⟨S16x2048x1024, .f32⟩
  | 23 => ⟨S16x2048x1024, .f32⟩
  | 24 => ⟨S16x2048x1024, .f32⟩
  | 25 => ⟨S16x2048x1024, .f32⟩
  | 26 => ⟨S16x2048x2304, .f32⟩
  | 27 => ⟨S16x2048x512, .f32⟩
  | 28 => ⟨S16x2048x128, .f32⟩
  | 29 => ⟨S16x2048x128, .f32⟩
  | 30 => ⟨S16x2048x512, .f32⟩
  | 31 => ⟨S16x2048x512, .f32⟩
  | 32 => ⟨S16x2048x512, .f32⟩
  | 33 => ⟨S16x2048x8x64, .f32⟩
  | 34 => ⟨S8, .f32⟩
  | 35 => ⟨S_, .f32⟩
  | 36 => ⟨S8, .f32⟩
  | 37 => ⟨S8, .f32⟩
  | 38 => ⟨S_, .f32⟩
  | 39 => ⟨S8, .f32⟩
  | 40 => ⟨S8, .f32⟩
  | 41 => ⟨S8, .f32⟩
  | 42 => ⟨S_, .f32⟩
  | 43 => ⟨S8, .f32⟩
  | 44 => ⟨S8, .f32⟩
  | 45 => ⟨S_, .f32⟩
  | 46 => ⟨S8, .f32⟩
  | 47 => ⟨S8, .f32⟩
  | 48 => ⟨S16x2048, .f32⟩
  | 49 => ⟨S16x2048x1, .f32⟩
  | 50 => ⟨S1x1x8, .f32⟩
  | 51 => ⟨S16x2048x8, .f32⟩
  | 52 => ⟨S16x2048x8, .f32⟩
  | 53 => ⟨S16x2048x8, .f32⟩
  | 54 => ⟨S16x2048x8, .f32⟩
  | 55 => ⟨S16x2048x1x8, .f32⟩
  | 56 => ⟨S16x2048x8, .f32⟩
  | 57 => ⟨S16x2048x1x8, .f32⟩
  | 58 => ⟨S16x2048x8x8, .f32⟩
  | 59 => ⟨S16x2048x8x8, .f32⟩
  | 60 => ⟨S16x2048x8x48, .f32⟩
  | 61 => ⟨S16x2048x8x8, .f32⟩
  | 62 => ⟨S16x2048x8x8, .f32⟩
  | 63 => ⟨S16x2048x8x8, .f32⟩
  | 64 => ⟨S16x2048x8x8, .f32⟩
  | 65 => ⟨S16x2048x8x8, .f32⟩
  | 66 => ⟨S16x2048x8x8, .f32⟩
  | 67 => ⟨S16x2048x8x8, .f32⟩
  | 68 => ⟨S16x2048x8x8, .f32⟩
  | 69 => ⟨S16x2048x8x8, .f32⟩
  | 70 => ⟨S16x2048x8x8, .f32⟩
  | 71 => ⟨S16x2048x8x64, .f32⟩
  | 72 => ⟨S16x2048x2x64, .f32⟩
  | 73 => ⟨S8, .f32⟩
  | 74 => ⟨S_, .f32⟩
  | 75 => ⟨S8, .f32⟩
  | 76 => ⟨S8, .f32⟩
  | 77 => ⟨S_, .f32⟩
  | 78 => ⟨S8, .f32⟩
  | 79 => ⟨S8, .f32⟩
  | 80 => ⟨S8, .f32⟩
  | 81 => ⟨S_, .f32⟩
  | 82 => ⟨S8, .f32⟩
  | 83 => ⟨S8, .f32⟩
  | 84 => ⟨S_, .f32⟩
  | 85 => ⟨S8, .f32⟩
  | 86 => ⟨S8, .f32⟩
  | 87 => ⟨S16x2048, .f32⟩
  | 88 => ⟨S16x2048x1, .f32⟩
  | 89 => ⟨S1x1x8, .f32⟩
  | 90 => ⟨S16x2048x8, .f32⟩
  | 91 => ⟨S16x2048x8, .f32⟩
  | 92 => ⟨S16x2048x8, .f32⟩
  | 93 => ⟨S16x2048x8, .f32⟩
  | 94 => ⟨S16x2048x1x8, .f32⟩
  | 95 => ⟨S16x2048x8, .f32⟩
  | 96 => ⟨S16x2048x1x8, .f32⟩
  | 97 => ⟨S16x2048x2x8, .f32⟩
  | 98 => ⟨S16x2048x2x8, .f32⟩
  | 99 => ⟨S16x2048x2x48, .f32⟩
  | 100 => ⟨S16x2048x2x8, .f32⟩
  | 101 => ⟨S16x2048x2x8, .f32⟩
  | 102 => ⟨S16x2048x2x8, .f32⟩
  | 103 => ⟨S16x2048x2x8, .f32⟩
  | 104 => ⟨S16x2048x2x8, .f32⟩
  | 105 => ⟨S16x2048x2x8, .f32⟩
  | 106 => ⟨S16x2048x2x8, .f32⟩
  | 107 => ⟨S16x2048x2x8, .f32⟩
  | 108 => ⟨S16x2048x2x8, .f32⟩
  | 109 => ⟨S16x2048x2x8, .f32⟩
  | 110 => ⟨S16x2048x2x64, .f32⟩
  | 111 => ⟨S16x2048x2x64, .f32⟩
  | 112 => ⟨S16x16x128x2x4x64, .f32⟩
  | 113 => ⟨S_, .i32⟩
  | 114 => ⟨S_, .f32⟩
  | 115 => ⟨S16x2176x2x64, .f32⟩
  | 116 => ⟨S16x17x128x2x64, .f32⟩
  | 117 => ⟨S_, .i32⟩
  | 118 => ⟨S_, .f32⟩
  | 119 => ⟨S16x2176x2x64, .f32⟩
  | 120 => ⟨S16x17x128x2x64, .f32⟩
  | 121 => ⟨S16x16x128x2x64, .f32⟩
  | 122 => ⟨S16x16x128x2x64, .f32⟩
  | 123 => ⟨S16x16x256x2x64, .f32⟩
  | 124 => ⟨S16x16x128x2x64, .f32⟩
  | 125 => ⟨S16x16x128x2x64, .f32⟩
  | 126 => ⟨S16x16x256x2x64, .f32⟩
  | 127 => ⟨S16x16x2x256x128x4, .f32⟩
  | _ => ⟨S16x2048x1024, .f32⟩

abbrev hbmTy0_1 (i : Nat) : BufTy := match i % 128 with
  | 0 => ⟨S16x16x2x4x128x256, .f32⟩
  | 1 => ⟨S_, .f32⟩
  | 2 => ⟨S16x16x2x4x128x256, .f32⟩
  | 3 => ⟨S16x16x2x4x128x256, .f32⟩
  | 4 => ⟨S16, .i32⟩
  | 5 => ⟨S16x1x1, .i32⟩
  | 6 => ⟨S128, .i32⟩
  | 7 => ⟨S1x128x1, .i32⟩
  | 8 => ⟨S256, .i32⟩
  | 9 => ⟨S1x1x256, .i32⟩
  | 10 => ⟨S_, .i32⟩
  | 11 => ⟨S1x128x1, .i32⟩
  | 12 => ⟨S1x128x1, .i32⟩
  | 13 => ⟨S1x128x256, .i32⟩
  | 14 => ⟨S1x128x256, .i32⟩
  | 15 => ⟨S1x128x256, .i32⟩
  | 16 => ⟨S_, .i32⟩
  | 17 => ⟨S16x1x1, .i32⟩
  | 18 => ⟨S16x1x1, .i32⟩
  | 19 => ⟨S_, .i32⟩
  | 20 => ⟨S16x1x1, .i32⟩
  | 21 => ⟨S16x1x1, .i32⟩
  | 22 => ⟨S16x1x256, .i32⟩
  | 23 => ⟨S16x1x256, .i32⟩
  | 24 => ⟨S16x1x256, .i32⟩
  | 25 => ⟨S_, .i32⟩
  | 26 => ⟨S1x128x256, .i32⟩
  | 27 => ⟨S1x128x256, .i1⟩
  | 28 => ⟨S_, .i32⟩
  | 29 => ⟨S1x128x256, .i32⟩
  | 30 => ⟨S1x128x256, .i1⟩
  | 31 => ⟨S1x128x256, .i1⟩
  | 32 => ⟨S_, .i32⟩
  | 33 => ⟨S16x1x256, .i32⟩
  | 34 => ⟨S16x1x256, .i1⟩
  | 35 => ⟨S16x128x256, .i1⟩
  | 36 => ⟨S16x128x256, .i1⟩
  | 37 => ⟨S16x128x256, .i1⟩
  | 38 => ⟨S1x16x1x1x128x256, .i1⟩
  | 39 => ⟨S_, .f32⟩
  | 40 => ⟨S_, .f32⟩
  | 41 => ⟨S16x16x2x4x128x256, .i1⟩
  | 42 => ⟨S16x16x2x4x128x256, .f32⟩
  | 43 => ⟨S16x16x2x4x128x256, .f32⟩
  | 44 => ⟨S2x4, .f32⟩
  | 45 => ⟨S1x1x2x4x1x1, .f32⟩
  | 46 => ⟨S16x16x2x4x128x1, .f32⟩
  | 47 => ⟨S16x16x2x4x128x257, .f32⟩
  | 48 => ⟨S_, .f32⟩
  | 49 => ⟨S16x16x2x4x128, .f32⟩
  | 50 => ⟨S_, .f32⟩
  | 51 => ⟨S16x16x2x4x128, .f32⟩
  | 52 => ⟨S16x16x2x4x128, .f32⟩
  | 53 => ⟨S16x16x2x4x128x1, .f32⟩
  | 54 => ⟨S16x16x2x4x128x257, .f32⟩
  | 55 => ⟨S16x16x2x4x128x257, .f32⟩
  | 56 => ⟨S16x16x2x4x128x257, .f32⟩
  | 57 => ⟨S_, .f32⟩
  | 58 => ⟨S16x16x2x4x128, .f32⟩
  | 59 => ⟨S16x16x2x4x128x1, .f32⟩
  | 60 => ⟨S16x16x2x4x128x257, .f32⟩
  | 61 => ⟨S16x16x2x4x128x257, .f32⟩
  | 62 => ⟨S16x16x2x4x128x256, .f32⟩
  | 63 => ⟨S16x16x2x64x4x128, .f32⟩
  | 64 => ⟨S16x16x128x2x4x64, .f32⟩
  | 65 => ⟨S16x2048x512, .f32⟩
  | 66 => ⟨S16x2048x512, .f32⟩
  | 67 => ⟨S_, .i32⟩
  | 68 => ⟨S_, .f32⟩
  | 69 => ⟨S16x2050x512, .f32⟩
  | 70 => ⟨S1x512, .f32⟩
  | 71 => ⟨S512, .f32⟩
  | 72 => ⟨S16x2048x512, .f32⟩
  | 73 => ⟨S1x1x512, .f32⟩
  | 74 => ⟨S16x2048x512, .f32⟩
  | 75 => ⟨S16x2048x512, .f32⟩
  | 76 => ⟨S1x512, .f32⟩
  | 77 => ⟨S512, .f32⟩
  | 78 => ⟨S16x2048x512, .f32⟩
  | 79 => ⟨S1x1x512, .f32⟩
  | 80 => ⟨S16x2048x512, .f32⟩
  | 81 => ⟨S16x2048x512, .f32⟩
  | 82 => ⟨S16x2048x512, .f32⟩
  | 83 => ⟨S1x512, .f32⟩
  | 84 => ⟨S512, .f32⟩
  | 85 => ⟨S16x2048x512, .f32⟩
  | 86 => ⟨S1x1x512, .f32⟩
  | 87 => ⟨S16x2048x512, .f32⟩
  | 88 => ⟨S16x2048x512, .f32⟩
  | 89 => ⟨S16x2048x512, .f32⟩
  | 90 => ⟨S16x2048x512, .f32⟩
  | 91 => ⟨S16x2048x1024, .f32⟩
  | 92 => ⟨S16x2048x1024, .f32⟩
  | 93 => ⟨S_, .f32⟩
  | 94 => ⟨S16x2048x1024, .f32⟩
  | 95 => ⟨S16x2048x1024, .f32⟩
  | 96 => ⟨S_, .f32⟩
  | 97 => ⟨S16x1x1024, .f32⟩
  | 98 => ⟨S16x1x1024, .f32⟩
  | 99 => ⟨S16x2048x1024, .f32⟩
  | 100 => ⟨S16x2048x1024, .f32⟩
  | 101 => ⟨S16x2048x1024, .f32⟩
  | 102 => ⟨S_, .f32⟩
  | 103 => ⟨S16x2048, .f32⟩
  | 104 => ⟨S16x2048x1, .f32⟩
  | 105 => ⟨S_, .f32⟩
  | 106 => ⟨S16x2048x1, .f32⟩
  | 107 => ⟨S16x2048x1, .f32⟩
  | 108 => ⟨S16x2048x1024, .f32⟩
  | 109 => ⟨S16x2048x1024, .f32⟩
  | 110 => ⟨S16x2048x1024, .f32⟩
  | 111 => ⟨S_, .f32⟩
  | 112 => ⟨S16x2048, .f32⟩
  | 113 => ⟨S16x2048x1, .f32⟩
  | 114 => ⟨S_, .f32⟩
  | 115 => ⟨S16x2048x1, .f32⟩
  | 116 => ⟨S16x2048x1, .f32⟩
  | 117 => ⟨S16x2048x1024, .f32⟩
  | 118 => ⟨S16x2048x1024, .f32⟩
  | 119 => ⟨S_, .f32⟩
  | 120 => ⟨S16x2048x1, .f32⟩
  | 121 => ⟨S16x2048x1, .f32⟩
  | 122 => ⟨S16x2048x1, .f32⟩
  | 123 => ⟨S16x2048x1024, .f32⟩
  | 124 => ⟨S16x2048x1024, .f32⟩
  | 125 => ⟨S1x1x1024, .f32⟩
  | 126 => ⟨S16x2048x1024, .f32⟩
  | 127 => ⟨S16x2048x1024, .f32⟩
  | _ => ⟨S16x2048x1024, .f32⟩

abbrev hbmTy0_2 (i : Nat) : BufTy := match i % 128 with
  | 0 => ⟨S1x1x1024, .f32⟩
  | 1 => ⟨S16x2048x1024, .f32⟩
  | 2 => ⟨S16x2048x1024, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_4 : Ref sig .tc := ⟨.hbm, 74, rfl⟩
abbrev main_v60 : Ref sig .tc := ⟨.hbm, 75, rfl⟩
abbrev main_v61 : Ref sig .tc := ⟨.hbm, 76, rfl⟩
abbrev main_cst_5 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_6 : Ref sig .tc := ⟨.hbm, 81, rfl⟩
abbrev main_v65 : Ref sig .tc := ⟨.hbm, 82, rfl⟩
abbrev main_v66 : Ref sig .tc := ⟨.hbm, 83, rfl⟩
abbrev main_cst_7 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_c : Ref sig .tc := ⟨.hbm, 113, rfl⟩
abbrev main_call0_v0 : Ref sig .tc := ⟨.hbm, 114, rfl⟩
abbrev main_v95 : Ref sig .tc := ⟨.hbm, 115, rfl⟩
abbrev main_v96 : Ref sig .tc := ⟨.hbm, 116, rfl⟩
abbrev main_c_8 : Ref sig .tc := ⟨.hbm, 117, rfl⟩
abbrev main_call1_v0 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_cst_9 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_c_10 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_c_11 : Ref sig .tc := ⟨.hbm, 144, rfl⟩
abbrev main_v120 : Ref sig .tc := ⟨.hbm, 145, rfl⟩
abbrev main_v121 : Ref sig .tc := ⟨.hbm, 146, rfl⟩
abbrev main_c_12 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_c_13 : Ref sig .tc := ⟨.hbm, 153, rfl⟩
abbrev main_v127 : Ref sig .tc := ⟨.hbm, 154, rfl⟩
abbrev main_v128 : Ref sig .tc := ⟨.hbm, 155, rfl⟩
abbrev main_c_14 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_c_15 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_cst_16 : Ref sig .tc := ⟨.hbm, 167, rfl⟩
abbrev main_call2_v0 : Ref sig .tc := ⟨.hbm, 168, rfl⟩
abbrev main_call2_v1 : Ref sig .tc := ⟨.hbm, 169, rfl⟩
abbrev main_call2_v2 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_cst_17 : Ref sig .tc := ⟨.hbm, 176, rfl⟩
abbrev main_v143 : Ref sig .tc := ⟨.hbm, 177, rfl⟩
abbrev main_cst_18 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_cst_19 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_c_20 : Ref sig .tc := ⟨.hbm, 195, rfl⟩
abbrev main_call3_v0 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_cst_21 : Ref sig .tc := ⟨.hbm, 221, rfl⟩
abbrev main_v183 : Ref sig .tc := ⟨.hbm, 222, rfl⟩
abbrev main_v184 : Ref sig .tc := ⟨.hbm, 223, rfl⟩
abbrev main_cst_22 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_cst_23 : Ref sig .tc := ⟨.hbm, 230, rfl⟩
abbrev main_v190 : Ref sig .tc := ⟨.hbm, 231, rfl⟩
abbrev main_v191 : Ref sig .tc := ⟨.hbm, 232, rfl⟩
abbrev main_cst_24 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_cst_25 : Ref sig .tc := ⟨.hbm, 239, rfl⟩
abbrev main_v197 : Ref sig .tc := ⟨.hbm, 240, rfl⟩
abbrev main_v198 : Ref sig .tc := ⟨.hbm, 241, rfl⟩
abbrev main_cst_26 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_cst_27 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩

abbrev nD : Nat := 1
abbrev τ : Topo := Topo.v7x

variable {F : FTy → Type} [FloatOps F]
-- ==== Ffn.lean ====
abbrev S16x2048x1024 : Shape := ⟨3, ![16, 2048, 1024]⟩
abbrev S16x9216 : Shape := ⟨2, ![16, 9216]⟩
abbrev S1024x5632 : Shape := ⟨2, ![1024, 5632]⟩
abbrev S2816x1024 : Shape := ⟨2, ![2816, 1024]⟩
abbrev S1024 : Shape := ⟨1, ![1024]⟩
abbrev S16x9x1024 : Shape := ⟨3, ![16, 9, 1024]⟩
abbrev S9x16x1024 : Shape := ⟨3, ![9, 16, 1024]⟩
abbrev S1x1024 : Shape := ⟨2, ![1, 1024]⟩
abbrev S1x1024x1024 : Shape := ⟨3, ![1, 1024, 1024]⟩
abbrev S1024x1024 : Shape := ⟨2, ![1024, 1024]⟩
abbrev S1024x2816 : Shape := ⟨2, ![1024, 2816]⟩
abbrev S1x1x1024 : Shape := ⟨3, ![1, 1, 1024]⟩
abbrev S1024x256 : Shape := ⟨2, ![1024, 256]⟩
abbrev S512x1024 : Shape := ⟨2, ![512, 1024]⟩
abbrev S512x256 : Shape := ⟨2, ![512, 256]⟩
abbrev S256x2816 : Shape := ⟨2, ![256, 2816]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 13
  | .vmem => 11
  | .smem => 0
  | _ => 0

abbrev bufTy : (tb : Table) → Fin (tcTables nBuf tb) → BufTy
  | .hbm, ⟨0, _⟩ => ⟨S16x2048x1024, .f32⟩
  | .hbm, ⟨1, _⟩ => ⟨S16x9216, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S16x9x1024, .f32⟩
  | .hbm, ⟨7, _⟩ => ⟨S9x16x1024, .f32⟩
  | .hbm, ⟨8, _⟩ => ⟨S1024x5632, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S9x16x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1024x1024, .bf16⟩
  | .local _ .vmem, ⟨10, _⟩ => ⟨S1024x2816, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![16, 2], ![false, false]⟩

def k0_off1 (i : grid0.Coords) : Fin 3 → Nat :=
  let c6 : Index := 6#32
  let arg0 : BitVec 32 := BitVec.ofNat 32 (i 0).val
  let v0 : Index := Scalar.indexCast arg0
  let c0 : Index := 0#32
  ![6, v0.toNat, 0]
def k0_off2 (i : grid0.Coords) : Fin 3 → Nat :=
  let c7 : Index := 7#32
  let arg0 : BitVec 32 := BitVec.ofNat 32 (i 0).val
  let v3 : Index := Scalar.indexCast arg0
  let c0_0 : Index := 0#32
  ![7, v3.toNat, 0]
def k0_off3 (i : grid0.Coords) : Fin 3 → Nat :=
  let c8 : Index := 8#32
  let arg0 : BitVec 32 := BitVec.ofNat 32 (i 0).val
  let v6 : Index := Scalar.indexCast arg0
  let c0_1 : Index := 0#32
  ![8, v6.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S9x16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnRefIdeal.lean ====
abbrev S16x2048x1024 : Shape := ⟨3, ![16, 2048, 1024]⟩
abbrev S16x9216 : Shape := ⟨2, ![16, 9216]⟩
abbrev S1024x5632 : Shape := ⟨2, ![1024, 5632]⟩
abbrev S2816x1024 : Shape := ⟨2, ![2816, 1024]⟩
abbrev S1024 : Shape := ⟨1, ![1024]⟩
abbrev S16x1x9216 : Shape := ⟨3, ![16, 1, 9216]⟩
abbrev S16x1x1024 : Shape := ⟨3, ![16, 1, 1024]⟩
abbrev S_ : Shape := ⟨0, ![]⟩
abbrev S16x2048x5632 : Shape := ⟨3, ![16, 2048, 5632]⟩
abbrev S16x2048x2816 : Shape := ⟨3, ![16, 2048, 2816]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x9216, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S16x1x9216, .f32⟩
  | .hbm, ⟨7, _⟩ => ⟨S16x1x1024, .f32⟩
  | .hbm, ⟨8, _⟩ => ⟨S16x1x1024, .f32⟩
  | .hbm, ⟨9, _⟩ => ⟨S16x1x1024, .f32⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S16x1x1024, .f32⟩
  | .hbm, ⟨16, _⟩ => ⟨S_, .f32⟩
  | .hbm, ⟨17, _⟩ => ⟨S16x1x1024, .f32⟩
  | .hbm, ⟨18, _⟩ => ⟨S16x1x1024, .f32⟩
  | .hbm, ⟨19, _⟩ => ⟨S16x2048x1024, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S_, .f32⟩
  | .hbm, ⟨24, _⟩ => ⟨S16x2048x1024, .f32⟩
  | .hbm, ⟨25, _⟩ => ⟨S16x2048x1024, .f32⟩
  | .hbm, ⟨26, _⟩ => ⟨S_, .f32⟩
  | .hbm, ⟨27, _⟩ => ⟨S16x1x1024, .f32⟩
  | .hbm, ⟨28, _⟩ => ⟨S16x1x1024, .f32⟩
  | .hbm, ⟨29, _⟩ => ⟨S_, .f32⟩
  | .hbm, ⟨30, _⟩ => ⟨S16x1x1024, .f32⟩
  | .hbm, ⟨31, _⟩ => ⟨S16x1x1024, .f32⟩
  | .hbm, ⟨32, _⟩ => ⟨S16x2048x5632, .f32⟩
  | .hbm, ⟨33, _⟩ => ⟨S16x2048x2816, .f32⟩
  | .hbm, ⟨34, _⟩ => ⟨S16x2048x2816, .f32⟩
  | .hbm, ⟨35, _⟩ => ⟨S16x2048x2816, .f32⟩
  | .hbm, ⟨36, _⟩ => ⟨S16x2048x2816, .f32⟩
  | .hbm, ⟨37, _⟩ => ⟨S_, .f32⟩
  | .hbm, ⟨38, _⟩ => ⟨S16x2048x2816, .f32⟩
  | .hbm, ⟨39, _⟩ => ⟨S16x2048x2816, .f32⟩
  | .hbm, ⟨40, _⟩ => ⟨S_, .f32⟩
  | .hbm, ⟨41, _⟩ => ⟨S16x2048x2816, .f32⟩
  | .hbm, ⟨42, _⟩ => ⟨S16x2048x2816, .f32⟩
  | .hbm, ⟨43, _⟩ => ⟨S16x2048x2816, .f32⟩
  | .hbm, ⟨44, _⟩ => ⟨S16x2048x2816, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S16x2048x1024, .f32⟩
  | .hbm, ⟨49, _⟩ => ⟨S_, .f32⟩
  | .hbm, ⟨50, _⟩ => ⟨S16x2048, .f32⟩
  | .hbm, ⟨51, _⟩ => ⟨S16x2048x1, .f32⟩
  | .hbm, ⟨52, _⟩ => ⟨S_, .f32⟩
  | .hbm, ⟨53, _⟩ => ⟨S16x2048x1, .f32⟩
  | .hbm, ⟨54, _⟩ => ⟨S16x2048x1, .f32⟩
  | .hbm, ⟨55, _⟩ => ⟨S16x2048x1024, .f32⟩
  | .hbm, ⟨56, _⟩ => ⟨S16x2048x1024, .f32⟩
  | .hbm, ⟨57, _⟩ => ⟨S16x2048x1024, .f32⟩
  | .hbm, ⟨58, _⟩ => ⟨S_, .f32⟩
  | .hbm, ⟨59, _⟩ => ⟨S16x2048, .f32⟩
  | .hbm, ⟨60, _⟩ => ⟨S16x2048x1, .f32⟩
  | .hbm, ⟨61, _⟩ => ⟨S_, .f32⟩
  | .hbm, ⟨62, _⟩ => ⟨S16x2048x1, .f32⟩
  | .hbm, ⟨63, _⟩ => ⟨S16x2048x1, .f32⟩
  | .hbm, ⟨64, _⟩ => ⟨S16x2048x1024, .f32⟩
  | .hbm, ⟨65, _⟩ => ⟨S16x2048x1024, .f32⟩
  | .hbm, ⟨66, _⟩ => ⟨S_, .f32⟩
  | .hbm, ⟨67, _⟩ => ⟨S16x2048x1, .f32⟩
  | .hbm, ⟨68, _⟩ => ⟨S16x2048x1, .f32⟩
  | .hbm, ⟨69, _⟩ => ⟨S16x2048x1, .f32⟩
  | .hbm, ⟨70, _⟩ => ⟨S16x2048x1024, .f32⟩
  | .hbm, ⟨71, _⟩ => ⟨S16x2048x1024, .f32⟩
  | .hbm, ⟨72, _⟩ => ⟨S1x1x1024, .f32⟩
  | .hbm, ⟨73, _⟩ => ⟨S16x2048x1024, .f32⟩
  | .hbm, ⟨74, _⟩ => ⟨S16x2048x1024, .f32⟩
  | .hbm, ⟨75, _⟩ => ⟨S1x1x1024, .f32⟩
  | .hbm, ⟨76, _⟩ => ⟨S16x2048x1024, .f32⟩
  | .hbm, ⟨77, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]
-- ==== Proof.MixerFrames.lean ====
/- The mixer's frames, and what its named constants are: each name stands for a word of the program, and at the extended
   reals the word is read as the number it was rounded from. -/
module

public import proofs.«01_k».proof.Defs
public import proofs.«01_k».proof.Proof.Gen.Mixer.Frame
public import proofs.«01_k».proof.Proof.Gen.MixerIdeal.Frame
public import proofs.«01_k».proof.Proof.Gen.MixerRefIdeal.Run
public import Idealize.ShloMosaic.Lib.Quiescent

@[expose] public section

noncomputable section

open Idealize.ShloMosaic Idealize.ShloMosaic.TcCoe Idealize.SL.Sem

namespace Cert.MixerClaims

theorem frame_p : Cert.quiescent_Mixer := fun m ρ _ => Cert.Mixer.Gen.frame m ρ
theorem frame_pi : Cert.quiescent_MixerIdeal := fun m ρ _ => Cert.MixerIdeal.Gen.frame m ρ
theorem frame_ri : Cert.quiescent_MixerRefIdeal := fun m ρ _ =>
  (θ_run Cert.MixerRefIdeal.defs _ _).mono (fun r h => ⟨fun c => (h c).2, Idealize.ShloMosaic.sem_eq_zero_of_no_sems (by decide) r.2⟩)
    (Cert.MixerRefIdeal.Value.run (F := Ideal) m ρ)
theorem preserves : Cert.preserves_Mixer_MixerIdeal :=
  ⟨IdealRules.named_const.statement Cert.MixerIdeal.κ "mask" .f32 0xF149F2CA#32 _ rfl,
   IdealRules.named_const.statement Cert.MixerIdeal.κ "log2e" .f32 0x3FB8AA3B#32 _ rfl,
   IdealRules.named_const.statement Cert.MixerIdeal.κ "qscale" .f32 0x3E38AA3B#32 _ rfl⟩

end Cert.MixerClaims

end
-- ==== Proof.Math.lean ====
/- The vocabulary of the layer's value claims: the gated unit, one row of layer normalization, and how a buffer written in
   rectangular pieces reads back at an index. Everything is over the extended reals; nothing here mentions a program. -/
module

public import Idealize.ShloMosaic.Lib.Pipeline.ValueKit
public import Idealize.ShloMosaic.Lib.Pointwise

@[expose] public section

noncomputable section

open Idealize.ShloMosaic

namespace Cert.Layer

/-! ## Scalars and rows -/

/-- The gated unit: `g · σ(g) · u`. -/
def glu (g u : EReal) : EReal := g * Ideal.logistic g * u

/-- The mean of a row of 1024: its sum divided by the float 1024. -/
def mean (y : Fin 1024 → EReal) : EReal := Ideal.div (∑ k, y k) (Ideal.ofBits .f32 0x44800000#32)

/-- One row of layer normalization: centre, divide by the root of the mean square plus epsilon, scale and shift. -/
def lnRow (y g b : Fin 1024 → EReal) (j : Fin 1024) : EReal :=
  (y j - mean y)
    * Ideal.rsqrt (mean (fun k => (y k - mean y) * (y k - mean y)) + Ideal.ofBits .f32 0x3727C5AC#32) * g j + b j

/-- A row scaled by one plus one row and shifted by another: the layer's modulation. -/
def modRow (x scale shift : Fin 1024 → EReal) (k : Fin 1024) : EReal := x k * (1 + scale k) + shift k

/-! ## Buffers written in pieces -/

variable {Val : EltTy → Type} {e : EltTy} [∀ e, Nonempty (Val e)]

/-- The newest piece of a matrix written in rectangles, at an index: where the piece holds the index its own value must be
    `v`, elsewhere the older pieces must give `v`. -/
theorem canon_step2 {M N m n : ℕ} (a b : ℕ) (inb : ∀ x, (![a, b] : Fin 2 → ℕ) x + (⟨2, ![m, n]⟩ : Shape).size x ≤ (⟨2, ![M, N]⟩ : Shape).size x)
    (w : (⟨2, ![m, n]⟩ : Shape).Idx → Val e) (L : List (View.Piece Val (⟨2, ![M, N]⟩ : Shape) e)) (i : Fin M) (j : Fin N) (v : Val e)
    (h : ∀ (p : Fin m) (q : Fin n), i.val = a + p.val → j.val = b + q.val → w (ix2 p q) = v)
    (h' : ¬(a ≤ i.val ∧ i.val < a + m ∧ b ≤ j.val ∧ j.val < b + n) → View.canon L (ix2 i j) = v) :
    View.canon ((⟨Rect.unit (s := ⟨2, ![M, N]⟩) ![a, b] (⟨2, ![m, n]⟩ : Shape).size inb, w⟩ : View.Piece Val _ e) :: L) (ix2 i j) = v := by
  by_cases hm : a ≤ i.val ∧ i.val < a + m ∧ b ≤ j.val ∧ j.val < b + n
  · obtain ⟨h1, h2, h3, h4⟩ := hm
    have hx : (Rect.unit (s := ⟨2, ![M, N]⟩) ![a, b] (⟨2, ![m, n]⟩ : Shape).size inb).emb
        (ix2 (⟨i.val - a, by omega⟩ : Fin m) (⟨j.val - b, by omega⟩ : Fin n)) = ix2 i j := by
      funext x
      apply Fin.ext
      fin_cases x
      · show a + 1 * (i.val - a) = i.val; omega
      · show b + 1 * (j.val - b) = j.val; omega
    rw [← hx, View.canon_cons_emb]
    exact h _ _ (by dsimp only; omega) (by dsimp only; omega)
  · rw [View.canon_cons_of_not_mem]
    · exact h' hm
    · intro hmem
      have hall := (Rect.mem_set_unit (inb := inb)).mp hmem
      have e0 : a ≤ i.val ∧ i.val < a + m := hall 0
      have e1 : b ≤ j.val ∧ j.val < b + n := hall 1
      exact hm ⟨e0.1, e0.2, e1.1, e1.2⟩

/-- The same for a stack of matrices. -/
theorem canon_step3 {K M N k m n : ℕ} (c a b : ℕ)
    (inb : ∀ x, (![c, a, b] : Fin 3 → ℕ) x + (⟨3, ![k, m, n]⟩ : Shape).size x ≤ (⟨3, ![K, M, N]⟩ : Shape).size x)
    (w : (⟨3, ![k, m, n]⟩ : Shape).Idx → Val e) (L : List (View.Piece Val (⟨3, ![K, M, N]⟩ : Shape) e)) (l : Fin K) (i : Fin M) (j : Fin N) (v : Val e)
    (h : ∀ (o : Fin k) (p : Fin m) (q : Fin n), l.val = c + o.val → i.val = a + p.val → j.val = b + q.val → w (ix3 o p q) = v)
    (h' : ¬(c ≤ l.val ∧ l.val < c + k ∧ a ≤ i.val ∧ i.val < a + m ∧ b ≤ j.val ∧ j.val < b + n) → View.canon L (ix3 l i j) = v) :
    View.canon ((⟨Rect.unit (s := ⟨3, ![K, M, N]⟩) ![c, a, b] (⟨3, ![k, m, n]⟩ : Shape).size inb, w⟩ : View.Piece Val _ e) :: L) (ix3 l i j) = v := by
  by_cases hm : c ≤ l.val ∧ l.val < c + k ∧ a ≤ i.val ∧ i.val < a + m ∧ b ≤ j.val ∧ j.val < b + n
  · obtain ⟨h5, h6, h1, h2, h3, h4⟩ := hm
    have hx : (Rect.unit (s := ⟨3, ![K, M, N]⟩) ![c, a, b] (⟨3, ![k, m, n]⟩ : Shape).size inb).emb
        (ix3 (⟨l.val - c, by omega⟩ : Fin k) (⟨i.val - a, by omega⟩ : Fin m) (⟨j.val - b, by omega⟩ : Fin n)) = ix3 l i j := by
      funext x
      apply Fin.ext
      fin_cases x
      · show c + 1 * (l.val - c) = l.val; omega
      · show a + 1 * (i.val - a) = i.val; omega
      · show b + 1 * (j.val - b) = j.val; omega
    rw [← hx, View.canon_cons_emb]
    exact h _ _ _ (by dsimp only; omega) (by dsimp only; omega) (by dsimp only; omega)
  · rw [View.canon_cons_of_not_mem]
    · exact h' hm
    · intro hmem
      have hall := (Rect.mem_set_unit (inb := inb)).mp hmem
      have e0 : c ≤ l.val ∧ l.val < c + k := hall 0
      have e1 : a ≤ i.val ∧ i.val < a + m := hall 1
      have e2 : b ≤ j.val ∧ j.val < b + n := hall 2
      exact hm ⟨e0.1, e0.2, e1.1, e1.2, e2.1, e2.2⟩

/-- The residual sum before normalization: the scaled input plus the branch `y` under half of its gate. -/
def pre (x gate y : EReal) : EReal :=
  Ideal.ofBits .f32 0x3F9837F0#32 * x + Ideal.ofBits .f32 0x3F000000#32 * (1 + gate) * y

/-- A load of what one store through the whole shape left reads that store's value. -/
theorem readCov_one {S : Shape} {sig : RefSig} {κ : Kind} {sp : Space} (v : View sig κ sp S e) {off : Fin S.rank → ℕ}
    (hoff : off = fun _ => 0) (inb : ∀ a, off a + S.size a ≤ S.size a) (w : S.Idx → Val e) (r : Rect S) :
    v.readCov [(⟨Rect.unit off S.size inb, w⟩ : View.Piece Val S e)] r.toLoadRect = View.ld w r := by
  rw [View.readCov_eq_canon', View.canon_unit_zero hoff]

end Cert.Layer

end
-- ==== Proof.MixerSpec.lean ====
/- What the mixer computes, for one batch, as functions of natural-number positions. Reads outside an array give zero; none of
   the positions below is outside. Nothing here mentions a program. -/
module

public import proofs.«01_k».proof.Proof.Math

@[expose] public section

noncomputable section

open Idealize.ShloMosaic

namespace Cert.Layer

/-- The word of minus infinity. -/
theorem ofBits_neg_inf : Ideal.ofBits .f32 0xFF800000#32 = ⊥ := by
  simp [Ideal.ofBits, Ideal.ieee]

/-- An array read at natural-number positions. -/
def rd1 {n : ℕ} (x : FVec Ideal ⟨1, ![n]⟩ .f32) (a : ℕ) : EReal := if h : a < n then x (ix1 ⟨a, h⟩) else 0
def rd2 {n m : ℕ} (x : FVec Ideal ⟨2, ![n, m]⟩ .f32) (a b : ℕ) : EReal := if h : a < n ∧ b < m then x (ix2 ⟨a, h.1⟩ ⟨b, h.2⟩) else 0
def rd3 {n m l : ℕ} (x : FVec Ideal ⟨3, ![n, m, l]⟩ .f32) (a b c : ℕ) : EReal :=
  if h : a < n ∧ b < m ∧ c < l then x (ix3 ⟨a, h.1⟩ ⟨b, h.2.1⟩ ⟨c, h.2.2⟩) else 0

theorem rd1_val {n : ℕ} (x : FVec Ideal ⟨1, ![n]⟩ .f32) (a : Fin n) : x (ix1 a) = rd1 x a.val := by
  unfold rd1; rw [dif_pos a.isLt]
theorem rd2_val {n m : ℕ} (x : FVec Ideal ⟨2, ![n, m]⟩ .f32) (a : Fin n) (b : Fin m) : x (ix2 a b) = rd2 x a.val b.val := by
  unfold rd2; rw [dif_pos ⟨a.isLt, b.isLt⟩]
theorem rd3_val {n m l : ℕ} (x : FVec Ideal ⟨3, ![n, m, l]⟩ .f32) (a : Fin n) (b : Fin m) (c : Fin l) : x (ix3 a b c) = rd3 x a.val b.val c.val := by
  unfold rd3; rw [dif_pos ⟨a.isLt, b.isLt, c.isLt⟩]

/-- One batch's operands: its tokens, its rows of the modulation table, its positions, and the weights. -/
structure Data where
  x : ℕ → ℕ → EReal
  w : ℕ → ℕ → EReal
  cw : ℕ → ℕ → EReal
  wo : ℕ → ℕ → EReal
  shift : ℕ → EReal
  scale : ℕ → EReal
  gate : ℕ → EReal
  pos : ℕ → EReal
  freq : ℕ → EReal
  sink : ℕ → EReal
  g : ℕ → EReal
  b : ℕ → EReal

namespace Data
variable (d : Data)

/-- The modulated input, its projection to the 2304 features, and the rotary angles. -/
def h (t k : ℕ) : EReal := d.x t k * (1 + d.scale k) + d.shift k
def proj (t f : ℕ) : EReal := ∑ k : Fin 1024, d.h t k.val * d.w k.val f
def ang (t e : ℕ) : EReal := d.pos t * d.freq e

/-- A head of 64 features starting at `base`, its first sixteen rotated in pairs eight apart. -/
def rope (t base e : ℕ) : EReal :=
  if e < 8 then d.proj t (base + e) * Ideal.cos (d.ang t e) - d.proj t (base + e + 8) * Ideal.sin (d.ang t e)
  else if e < 16 then d.proj t (base + e) * Ideal.cos (d.ang t (e - 8)) + d.proj t (base + e - 8) * Ideal.sin (d.ang t (e - 8))
  else d.proj t (base + e)

/-- Keys and values, with 128 zero rows before the first token. -/
def key (p c : ℕ) : EReal := if p < 128 then 0 else d.rope (p - 128) (512 + 64 * (c / 64)) (c % 64)
def val (p c : ℕ) : EReal := if p < 128 then 0 else d.proj (p - 128) (640 + c)

/-- Attention of query block `n`, head `hd`, query `q` over the 256 padded rows from `128 n` on. -/
def dot (n hd q w : ℕ) : EReal := ∑ e : Fin 64, d.key (128 * n + w) (64 * (hd / 4) + e.val) * d.rope (128 * n + q) (64 * hd) e.val
def open_ (n q w : ℕ) : Prop := q < w ∧ w ≤ q + 128 ∧ 128 ≤ 128 * n + w
instance (n q w : ℕ) : Decidable (open_ n q w) := by unfold open_; infer_instance
def logit (n hd q w : ℕ) : EReal := if open_ n q w then d.dot n hd q w * Ideal.ofBits .f32 0x3E000000#32 else ⊥
def top (n hd q : ℕ) : EReal := max (Finset.univ.sup fun w : Fin 256 => d.logit n hd q w.val) (d.sink hd)
def wt (n hd q w : ℕ) : EReal := Ideal.exp (d.logit n hd q w - d.top n hd q)
def den (n hd q : ℕ) : EReal := (∑ w : Fin 256, d.wt n hd q w.val) + Ideal.exp (d.sink hd - d.top n hd q)
def attn (n hd q e : ℕ) : EReal := ∑ w : Fin 256, d.val (128 * n + w.val) (64 * (hd / 4) + e) * Ideal.div (d.wt n hd q w.val) (d.den n hd q)

/-- The gated convolution over three tokens, with eight zero rows before the first token. -/
def z (p j : ℕ) : EReal := if p < 8 then 0 else d.proj (p - 8) (1792 + j) * d.proj (p - 8) (768 + j)
def conv (t j : ℕ) : EReal :=
  d.proj t (1280 + j) * (d.cw 0 j * d.z (t + 6) j + d.cw 1 j * d.z (t + 7) j + d.cw 2 j * d.z (t + 8) j)

/-- The two branches mixed, the gated residual sum, and the normalized row. -/
def mix (t k : ℕ) : EReal := ∑ f : Fin 512, d.attn (t / 128) (f.val / 64) (t % 128) (f.val % 64) * d.wo f.val k + ∑ f : Fin 512, d.conv t f.val * d.wo (512 + f.val) k
def res (t k : ℕ) : EReal := Ideal.ofBits .f32 0x3F9837F0#32 * d.x t k + (1 + d.gate k) * d.mix t k
def out (t : ℕ) (j : Fin 1024) : EReal := lnRow (fun k => d.res t k.val) (fun k => d.g k.val) (fun k => d.b k.val) j

end Data

end Cert.Layer

end
-- ==== Proof.MixerSoftmax.lean ====
/- The attention's arithmetic on the extended reals: the kernel works in powers of two, with the scores scaled by the inverse of
   the natural logarithm of two, and divides once at the end; the reference works in powers of e and divides each weight. The two
   agree when the largest score is a number, which it is for finite operands. -/
module

public import proofs.«01_k».proof.Proof.MixerSpec

@[expose] public section

noncomputable section

open Idealize.ShloMosaic

namespace Cert.Layer

/-- The two named constants the kernel scales by. -/
def L2 : EReal := (((Real.log 2)⁻¹ : ℝ) : EReal)
def qscale : EReal := ((8⁻¹ * (Real.log 2)⁻¹ : ℝ) : EReal)

theorem log2_inv_pos : (0 : ℝ) < (Real.log 2)⁻¹ := inv_pos.mpr (Real.log_pos (by norm_num))
theorem L2_nonneg : (0 : EReal) ≤ L2 := by unfold L2; exact_mod_cast log2_inv_pos.le
theorem L2_ne_top : L2 ≠ ⊤ := EReal.coe_ne_top _
theorem qscale_nonneg : (0 : EReal) ≤ qscale := by
  unfold qscale; exact_mod_cast (mul_pos (by norm_num) log2_inv_pos).le
theorem qscale_ne_top : qscale ≠ ⊤ := EReal.coe_ne_top _
theorem bot_mul_L2 : (⊥ : EReal) * L2 = ⊥ := EReal.bot_mul_coe_of_pos log2_inv_pos
theorem top_mul_L2 : (⊤ : EReal) * L2 = ⊤ := EReal.top_mul_coe_of_pos log2_inv_pos

theorem eighth : Ideal.ofBits .f32 0x3E000000#32 = ((8⁻¹ : ℝ) : EReal) := by
  simp [Ideal.ofBits, Ideal.ieee, -EReal.coe_mul]; norm_num
theorem qscale_eq : qscale = Ideal.ofBits .f32 0x3E000000#32 * L2 := by
  rw [eighth]; unfold qscale L2; rw [EReal.coe_mul]

/-- A sum times a nonnegative number. -/
theorem sum_mul {ι : Type} (s : Finset ι) (f : ι → EReal) {c : EReal} (h0 : 0 ≤ c) (ht : c ≠ ⊤) : (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

/-- The powers of two of a scaled number are the powers of e of the number. -/
theorem exp2_scale (x : EReal) : Ideal.exp2 (x * L2) = Ideal.exp x := by
  induction x with
  | bot => rw [bot_mul_L2]; rfl
  | top => rw [top_mul_L2]; rfl
  | coe r =>
    show Ideal.exp2 (((r : ℝ) : EReal) * (((Real.log 2)⁻¹ : ℝ) : EReal)) = _
    rw [← EReal.coe_mul]
    show ((Real.rpow 2 (r * (Real.log 2)⁻¹) : ℝ) : EReal) = ((Real.exp r : ℝ) : EReal)
    congr 1
    have h2 : Real.log 2 ≠ 0 := (Real.log_pos (by norm_num)).ne'
    have : (2 : ℝ) ^ (r * (Real.log 2)⁻¹) = Real.exp r := by
      rw [Real.rpow_def_of_pos (by norm_num)]
      congr 1
      field_simp
    exact this

theorem sub_scale (a b : EReal) : a * L2 - b * L2 = (a - b) * L2 := by
  rw [sub_eq_add_neg, sub_eq_add_neg, ← EReal.neg_mul, ← EReal.right_distrib_of_nonneg_of_ne_top L2_nonneg L2_ne_top]

theorem exp2_sub_scale (a b : EReal) : Ideal.exp2 (a * L2 - b * L2) = Ideal.exp (a - b) := by
  rw [sub_scale, exp2_scale]

theorem mono_L2 : Monotone fun x : EReal => x * L2 := fun _ _ h => mul_le_mul_of_nonneg_right h L2_nonneg
theorem max_scale (a b : EReal) : max (a * L2) (b * L2) = max a b * L2 := (mono_L2.map_max).symm
theorem sup_scale {n : ℕ} (f : Fin n → EReal) : (Finset.univ.sup fun w => f w * L2) = (Finset.univ.sup f) * L2 :=
  (Finset.comp_sup_eq_sup_comp_of_is_total (fun x : EReal => x * L2) mono_L2 bot_mul_L2).symm

theorem exp_nonneg (x : EReal) : 0 ≤ Ideal.exp x := by
  induction x with
  | bot => exact le_refl _
  | top => exact le_top
  | coe r => show (0 : EReal) ≤ ((Real.exp r : ℝ) : EReal); exact_mod_cast (Real.exp_pos r).le

/-! ## Finite operands -/

/-- A number: neither infinity. -/
def IsNum (x : EReal) : Prop := ∃ r : ℝ, x = r

theorem IsNum.add {a b : EReal} : IsNum a → IsNum b → IsNum (a + b) := fun ⟨r, hr⟩ ⟨s, hs⟩ => ⟨r + s, by rw [hr, hs, EReal.coe_add]⟩
theorem IsNum.sub {a b : EReal} : IsNum a → IsNum b → IsNum (a - b) := fun ⟨r, hr⟩ ⟨s, hs⟩ => ⟨r - s, by rw [hr, hs, EReal.coe_sub]⟩
theorem IsNum.mul {a b : EReal} : IsNum a → IsNum b → IsNum (a * b) := fun ⟨r, hr⟩ ⟨s, hs⟩ => ⟨r * s, by rw [hr, hs, EReal.coe_mul]⟩
theorem IsNum.zero : IsNum 0 := ⟨0, rfl⟩
theorem IsNum.one : IsNum 1 := ⟨1, rfl⟩
theorem IsNum.cos {a : EReal} : IsNum a → IsNum (Ideal.cos a) := fun ⟨r, hr⟩ => ⟨Real.cos r, by rw [hr]; rfl⟩
theorem IsNum.sin {a : EReal} : IsNum a → IsNum (Ideal.sin a) := fun ⟨r, hr⟩ => ⟨Real.sin r, by rw [hr]; rfl⟩
theorem IsNum.sum {ι : Type} (s : Finset ι) {f : ι → EReal} (h : ∀ i, IsNum (f i)) : IsNum (∑ i ∈ s, f i) := by
  classical
  induction s using Finset.induction_on with
  | empty => simpa using IsNum.zero
  | insert a s ha ih => rw [Finset.sum_insert ha]; exact (h a).add ih
theorem IsNum.lt_top {a : EReal} : IsNum a → a < ⊤ := fun ⟨r, hr⟩ => hr ▸ EReal.coe_lt_top r
theorem IsNum.bot_lt {a : EReal} : IsNum a → ⊥ < a := fun ⟨r, hr⟩ => hr ▸ EReal.bot_lt_coe r
theorem IsNum.of_lt {a : EReal} (h : ⊥ < a) (h' : a < ⊤) : IsNum a := ⟨a.toReal, (EReal.coe_toReal h'.ne h.ne').symm⟩

/-- The operands that reach the scores are numbers. -/
structure Data.Finite (d : Data) : Prop where
  x : ∀ t k, IsNum (d.x t k)
  w : ∀ k f, IsNum (d.w k f)
  shift : ∀ k, IsNum (d.shift k)
  scale : ∀ k, IsNum (d.scale k)
  pos : ∀ t, IsNum (d.pos t)
  freq : ∀ e, IsNum (d.freq e)
  sink : ∀ h, IsNum (d.sink h)

namespace Data.Finite
variable {d : Data} (hd : d.Finite)
include hd

theorem proj (t f : ℕ) : IsNum (d.proj t f) :=
  IsNum.sum _ fun k => (((hd.x t k.val).mul (IsNum.one.add (hd.scale k.val))).add (hd.shift k.val)).mul (hd.w k.val f)
theorem ang (t e : ℕ) : IsNum (d.ang t e) := (hd.pos t).mul (hd.freq e)
theorem rope (t base e : ℕ) : IsNum (d.rope t base e) := by
  unfold Data.rope
  split_ifs
  · exact ((hd.proj _ _).mul (hd.ang _ _).cos).sub ((hd.proj _ _).mul (hd.ang _ _).sin)
  · exact ((hd.proj _ _).mul (hd.ang _ _).cos).add ((hd.proj _ _).mul (hd.ang _ _).sin)
  · exact hd.proj _ _
theorem key (p c : ℕ) : IsNum (d.key p c) := by
  unfold Data.key
  split_ifs
  · exact IsNum.zero
  · exact hd.rope _ _ _
theorem dot (n h q w : ℕ) : IsNum (d.dot n h q w) := IsNum.sum _ fun e => (hd.key _ _).mul (hd.rope _ _ _)
theorem logit_lt (n h q w : ℕ) : d.logit n h q w < ⊤ := by
  unfold Data.logit
  split_ifs
  · exact ((hd.dot n h q w).mul ⟨8⁻¹, eighth⟩).lt_top
  · exact bot_lt_top
theorem top (n h q : ℕ) : IsNum (d.top n h q) := by
  refine IsNum.of_lt (lt_of_lt_of_le (hd.sink h).bot_lt (le_max_right _ _)) (max_lt ?_ (hd.sink h).lt_top)
  exact (Finset.sup_lt_iff bot_lt_top).mpr fun w _ => hd.logit_lt n h q w.val

/-- The largest score is one of the scores or the sink, so the denominator has a term that is one. -/
theorem den_ne_zero (n h q : ℕ) : d.den n h q ≠ 0 := by
  obtain ⟨r, hr⟩ := hd.top n h q
  have hself : Ideal.exp (d.top n h q - d.top n h q) = 1 := by
    rw [hr, ← EReal.coe_sub, sub_self]
    show ((Real.exp 0 : ℝ) : EReal) = 1
    rw [Real.exp_zero]; rfl
  have h1 : (0 : EReal) < 1 := zero_lt_one
  refine ne_of_gt (lt_of_lt_of_le h1 ?_)
  rcases max_choice (Finset.univ.sup fun w : Fin 256 => d.logit n h q w.val) (d.sink h) with e | e
  · obtain ⟨w, -, hw⟩ := Finset.exists_mem_eq_sup Finset.univ Finset.univ_nonempty (fun w : Fin 256 => d.logit n h q w.val)
    have hw1 : d.wt n h q w.val = 1 := by
      unfold Data.wt
      have : d.logit n h q w.val = d.top n h q := by
        rw [← hw]; exact e.symm
      rw [this, hself]
    refine le_trans (le_trans hw1.ge ?_) (le_add_of_nonneg_right (exp_nonneg _))
    exact Finset.single_le_sum (f := fun w : Fin 256 => d.wt n h q w.val) (fun w _ => exp_nonneg _) (Finset.mem_univ w)
  · refine le_trans ?_ (le_add_of_nonneg_left (Finset.sum_nonneg fun w _ => exp_nonneg _))
    have : d.sink h = d.top n h q := e.symm
    rw [this, hself]

/-- Dividing once, after the weighted sum, is dividing each weight. -/
theorem attend (n h q c : ℕ) :
    (∑ w : Fin 256, d.val (128 * n + w.val) c * d.wt n h q w.val) * Ideal.div 1 (d.den n h q)
      = ∑ w : Fin 256, d.val (128 * n + w.val) c * Ideal.div (d.wt n h q w.val) (d.den n h q) := by
  have h0 : 0 ≤ d.den n h q := add_nonneg (Finset.sum_nonneg fun w _ => exp_nonneg _) (exp_nonneg _)
  have hz := hd.den_ne_zero n h q
  have hi : 0 ≤ (d.den n h q)⁻¹ := EReal.inv_nonneg_of_nonneg h0
  have ht : (d.den n h q)⁻¹ ≠ ⊤ := (by
    intro h
    exact absurd h (EReal.inv_lt_top _).ne)
  simp only [Ideal.div, if_neg hz, one_mul]
  rw [sum_mul _ _ hi ht]
  exact Finset.sum_congr rfl fun w _ => mul_assoc _ _ _

end Data.Finite

/-- The kernel's scores are the reference's, scaled; then so is their maximum, and the weights agree. -/
theorem attend_scaled (d : Data) (hd : d.Finite) (n h q c : ℕ) (s v : Fin 256 → EReal) (r : EReal)
    (hs : ∀ w, s w = d.logit n h q w.val * L2) (hr : r = d.sink h * L2) (hv : ∀ w, v w = d.val (128 * n + w.val) c) :
    (∑ w, v w * Ideal.exp2 (s w - max (Finset.univ.sup s) r))
        * Ideal.div 1 ((∑ w, Ideal.exp2 (s w - max (Finset.univ.sup s) r)) + Ideal.exp2 (r - max (Finset.univ.sup s) r))
      = ∑ w : Fin 256, d.val (128 * n + w.val) c * Ideal.div (d.wt n h q w.val) (d.den n h q) := by
  obtain rfl : s = fun w => d.logit n h q w.val * L2 := funext hs
  obtain rfl : v = fun w => d.val (128 * n + w.val) c := funext hv
  subst hr
  rw [sup_scale, max_scale]
  simp only [exp2_sub_scale]
  exact hd.attend n h q c

/-- One score: the block-diagonal queries leave the head's own sixty-four products; the mask adds zero or minus infinity. -/
theorem score_scaled (d : Data) (n h q w : ℕ) (hh : h < 8) (K Q : Fin 128 → EReal) (B : EReal)
    (hK : ∀ c, K c = d.key (128 * n + w) c.val)
    (hQ : ∀ c, Q c = if c.val / 64 = h / 4 then d.rope (128 * n + q) (64 * h) (c.val % 64) * qscale else 0)
    (hB : B = if Data.open_ n q w then 0 else ⊥) :
    (∑ c, K c * Q c) + B = d.logit n h q w * L2 := by
  have hsum : (∑ c, K c * Q c) = d.dot n h q w * Ideal.ofBits .f32 0x3E000000#32 * L2 := by
    rw [mul_assoc, ← qscale_eq]
    unfold Data.dot
    rw [sum_mul _ _ qscale_nonneg qscale_ne_top, Fin.sum_univ_add (a := 64) (b := 64)]
    simp only [hK, hQ, Fin.val_castAdd, Fin.val_natAdd]
    have e0 : ∀ x : Fin 64, x.val / 64 = 0 := fun x => by omega
    have e1 : ∀ x : Fin 64, (64 + x.val) / 64 = 1 := fun x => by omega
    have m0 : ∀ x : Fin 64, x.val % 64 = x.val := fun x => by omega
    have m1 : ∀ x : Fin 64, (64 + x.val) % 64 = x.val := fun x => by omega
    simp only [e0, e1, m0, m1]
    have hc : h / 4 = 0 ∨ h / 4 = 1 := by omega
    rcases hc with hc | hc
    · simp only [hc, if_true, Nat.one_ne_zero, if_false, mul_zero, Finset.sum_const_zero, add_zero, zero_add, mul_assoc]
    · simp only [hc, if_true, Nat.zero_ne_one, if_false, mul_zero, Finset.sum_const_zero, mul_one, zero_add, mul_assoc]
  rw [hsum, hB]
  unfold Data.logit
  split_ifs
  · rw [add_zero]
  · rw [EReal.add_bot, bot_mul_L2]

end Cert.Layer

end
-- ==== Proof.Loads.lean ====
/- Loads read at an index, at any sizes: of an array through a rectangle, of a buffer written in pieces, and of a buffer whose
   contents are an operand's. Each hands the reader the place it reads from. -/
module

public import proofs.«01_k».proof.Proof.Math
public import Idealize.ShloMosaic.Lib.Tactic

@[expose] public section

noncomputable section

open Idealize.ShloMosaic Idealize.ShloMosaic.TcCoe

namespace Cert.Layer

variable {Val : EltTy → Type} {e : EltTy} [∀ e, Nonempty (Val e)] {sig : RefSig} {κ : Kind} {sp : Space}

/-- What pieces leave over contents `x`: the pieces, over one that is the whole. -/
theorem read_over {S : Shape} {arg : Memref sig κ sp S e} (harg : arg.IsWhole) (x : S.Idx → Val e) {off : Fin S.rank → ℕ}
    (hoff : off = fun _ => 0) (inb : ∀ a, off a + S.size a ≤ S.size a) (y : S.Idx) : ∀ L : List (View.Piece Val S e),
    arg.view.read Val (arg.view.writes Val (harg.unread x) L) y = View.canon (L ++ [(⟨Rect.unit off S.size inb, x⟩ : View.Piece Val S e)]) y
  | [] => by
    rw [List.nil_append, View.canon_unit_zero hoff]
    exact congrFun (harg.read_unread x) y
  | p :: L => by
    obtain ⟨r, w⟩ := p
    rw [List.cons_append]
    by_cases hy : y ∈ r.set
    · obtain ⟨z, rfl⟩ : ∃ z, r.emb z = y := r.exists_idx_of_mem hy
      rw [View.read_writes_cons_emb, View.canon_cons_emb]
    · have hy' : y ∉ Finset.univ.map r.emb := by rwa [Rect.map_emb_univ]
      rw [View.writes_cons, View.read_slice_write_of_not_mem r _ _ _ hy', View.canon_cons_of_not_mem _ _ hy]
      exact read_over harg x hoff inb y L

section two
variable {M N m n : ℕ} (a b : ℕ) (inb : ∀ x, (![a, b] : Fin 2 → ℕ) x + (⟨2, ![m, n]⟩ : Shape).size x ≤ (⟨2, ![M, N]⟩ : Shape).size x)

theorem place2 (p : Fin m) (q : Fin n) : ∃ (P : Fin M) (Q : Fin N), P.val = a + p.val ∧ Q.val = b + q.val ∧
    (Rect.unit (s := ⟨2, ![M, N]⟩) ![a, b] (⟨2, ![m, n]⟩ : Shape).size inb).emb (ix2 p q) = ix2 P Q := by
  have h0 : a + m ≤ M := inb 0
  have h1 : b + n ≤ N := inb 1
  refine ⟨⟨a + p.val, by omega⟩, ⟨b + q.val, by omega⟩, rfl, rfl, ?_⟩
  funext x
  apply Fin.ext
  fin_cases x
  · show a + 1 * p.val = a + p.val; omega
  · show b + 1 * q.val = b + q.val; omega

theorem ld2 (x : (⟨2, ![M, N]⟩ : Shape).Idx → Val e) (p : Fin m) (q : Fin n) (w : Val e)
    (h : ∀ P Q, P.val = a + p.val → Q.val = b + q.val → x (ix2 P Q) = w) :
    View.ld x (Rect.unit (s := ⟨2, ![M, N]⟩) ![a, b] (⟨2, ![m, n]⟩ : Shape).size inb) (ix2 p q) = w := by
  obtain ⟨P, Q, hP, hQ, hE⟩ := place2 a b inb p q
  show x ((Rect.unit (s := ⟨2, ![M, N]⟩) ![a, b] (⟨2, ![m, n]⟩ : Shape).size inb).emb (ix2 p q)) = w
  rw [hE]
  exact h P Q hP hQ

theorem cov2 (v : View sig κ sp (⟨2, ![M, N]⟩ : Shape) e) (L : List (View.Piece Val (⟨2, ![M, N]⟩ : Shape) e)) (p : Fin m) (q : Fin n) (w : Val e)
    (h : ∀ P Q, P.val = a + p.val → Q.val = b + q.val → View.canon L (ix2 P Q) = w) :
    v.readCov L (Rect.unit (s := ⟨2, ![M, N]⟩) ![a, b] (⟨2, ![m, n]⟩ : Shape).size inb).toLoadRect (ix2 p q) = w := by
  rw [View.readCov_eq_canon']
  exact ld2 a b inb (View.canon L) p q w h

theorem at2 {arg : Memref sig κ sp (⟨2, ![M, N]⟩ : Shape) e} (harg : arg.IsWhole) (x : (⟨2, ![M, N]⟩ : Shape).Idx → Val e) (p : Fin m) (q : Fin n) (w : Val e)
    (h : ∀ P Q, P.val = a + p.val → Q.val = b + q.val → x (ix2 P Q) = w) :
    View.readAt Val arg.view (Rect.unit (s := ⟨2, ![M, N]⟩) ![a, b] (⟨2, ![m, n]⟩ : Shape).size inb).toLoadRect (harg.unread x) (ix2 p q) = w := by
  rw [View.readAt_eq_ld, harg.read_unread]
  exact ld2 a b inb x p q w h

/-- A load of what pieces left over an operand's contents. -/
theorem over2 {arg : Memref sig κ sp (⟨2, ![M, N]⟩ : Shape) e} (harg : arg.IsWhole) (x : (⟨2, ![M, N]⟩ : Shape).Idx → Val e)
    (L : List (View.Piece Val (⟨2, ![M, N]⟩ : Shape) e)) (p : Fin m) (q : Fin n) (w : Val e)
    (inb0 : ∀ x, (![0, 0] : Fin 2 → ℕ) x + (⟨2, ![M, N]⟩ : Shape).size x ≤ (⟨2, ![M, N]⟩ : Shape).size x)
    (h : ∀ P Q, P.val = a + p.val → Q.val = b + q.val →
      View.canon (L ++ [(⟨Rect.unit (s := ⟨2, ![M, N]⟩) ![0, 0] (⟨2, ![M, N]⟩ : Shape).size inb0, x⟩ : View.Piece Val _ e)]) (ix2 P Q) = w) :
    View.readAt Val arg.view (Rect.unit (s := ⟨2, ![M, N]⟩) ![a, b] (⟨2, ![m, n]⟩ : Shape).size inb).toLoadRect (arg.view.writes Val (harg.unread x) L) (ix2 p q) = w := by
  rw [View.readAt_eq_ld]
  refine ld2 a b inb _ p q w fun P Q hP hQ => ?_
  rw [read_over harg x (by funext i; fin_cases i <;> rfl) inb0]
  exact h P Q hP hQ

/-- A load through a slice of the buffer. -/
theorem covSlice2 {m' n' : ℕ} (a' b' : ℕ)
    (inb' : ∀ x, (![a', b'] : Fin 2 → ℕ) x + (⟨2, ![m', n']⟩ : Shape).size x ≤ (⟨2, ![m, n]⟩ : Shape).size x) (h₀)
    (v : View sig κ sp (⟨2, ![M, N]⟩ : Shape) e) (L : List (View.Piece Val (⟨2, ![M, N]⟩ : Shape) e)) (p : Fin m') (q : Fin n') (w : Val e)
    (h : ∀ P Q, P.val = a + a' + p.val → Q.val = b + b' + q.val → View.canon L (ix2 P Q) = w) :
    v.readCov L ((Rect.unit (s := ⟨2, ![M, N]⟩) ![a, b] (⟨2, ![m, n]⟩ : Shape).size inb).withinL
      (Rect.unit (s := ⟨2, ![m, n]⟩) ![a', b'] (⟨2, ![m', n']⟩ : Shape).size inb').toLoadRect h₀) (ix2 p q) = w := by
  rw [View.readCov_eq_canon']
  show View.canon L (((Rect.unit (s := ⟨2, ![M, N]⟩) ![a, b] (⟨2, ![m, n]⟩ : Shape).size inb).withinL
      (Rect.unit (s := ⟨2, ![m, n]⟩) ![a', b'] (⟨2, ![m', n']⟩ : Shape).size inb').toLoadRect h₀).idx (ix2 p q)) = w
  rw [Rect.idx_withinL]
  obtain ⟨P', Q', hP', hQ', hE'⟩ := place2 a' b' inb' p q
  obtain ⟨P, Q, hP, hQ, hE⟩ := place2 a b inb P' Q'
  have e1 : (Rect.unit (s := ⟨2, ![m, n]⟩) ![a', b'] (⟨2, ![m', n']⟩ : Shape).size inb').toLoadRect.idx (ix2 p q) = ix2 P' Q' := hE'
  rw [e1, hE]
  exact h P Q (by omega) (by omega)
end two

section three
variable {K M N k m n : ℕ} (c a b : ℕ)
  (inb : ∀ x, (![c, a, b] : Fin 3 → ℕ) x + (⟨3, ![k, m, n]⟩ : Shape).size x ≤ (⟨3, ![K, M, N]⟩ : Shape).size x)

theorem place3 (o : Fin k) (p : Fin m) (q : Fin n) : ∃ (O : Fin K) (P : Fin M) (Q : Fin N), O.val = c + o.val ∧ P.val = a + p.val ∧ Q.val = b + q.val ∧
    (Rect.unit (s := ⟨3, ![K, M, N]⟩) ![c, a, b] (⟨3, ![k, m, n]⟩ : Shape).size inb).emb (ix3 o p q) = ix3 O P Q := by
  have h2 : c + k ≤ K := inb 0
  have h0 : a + m ≤ M := inb 1
  have h1 : b + n ≤ N := inb 2
  refine ⟨⟨c + o.val, by omega⟩, ⟨a + p.val, by omega⟩, ⟨b + q.val, by omega⟩, rfl, rfl, rfl, ?_⟩
  funext x
  apply Fin.ext
  fin_cases x
  · show c + 1 * o.val = c + o.val; omega
  · show a + 1 * p.val = a + p.val; omega
  · show b + 1 * q.val = b + q.val; omega

theorem ld3 (x : (⟨3, ![K, M, N]⟩ : Shape).Idx → Val e) (o : Fin k) (p : Fin m) (q : Fin n) (w : Val e)
    (h : ∀ O P Q, O.val = c + o.val → P.val = a + p.val → Q.val = b + q.val → x (ix3 O P Q) = w) :
    View.ld x (Rect.unit (s := ⟨3, ![K, M, N]⟩) ![c, a, b] (⟨3, ![k, m, n]⟩ : Shape).size inb) (ix3 o p q) = w := by
  obtain ⟨O, P, Q, hO, hP, hQ, hE⟩ := place3 c a b inb o p q
  show x ((Rect.unit (s := ⟨3, ![K, M, N]⟩) ![c, a, b] (⟨3, ![k, m, n]⟩ : Shape).size inb).emb (ix3 o p q)) = w
  rw [hE]
  exact h O P Q hO hP hQ

theorem cov3 (v : View sig κ sp (⟨3, ![K, M, N]⟩ : Shape) e) (L : List (View.Piece Val (⟨3, ![K, M, N]⟩ : Shape) e)) (o : Fin k) (p : Fin m) (q : Fin n) (w : Val e)
    (h : ∀ O P Q, O.val = c + o.val → P.val = a + p.val → Q.val = b + q.val → View.canon L (ix3 O P Q) = w) :
    v.readCov L (Rect.unit (s := ⟨3, ![K, M, N]⟩) ![c, a, b] (⟨3, ![k, m, n]⟩ : Shape).size inb).toLoadRect (ix3 o p q) = w := by
  rw [View.readCov_eq_canon']
  exact ld3 c a b inb (View.canon L) o p q w h

theorem at3 {arg : Memref sig κ sp (⟨3, ![K, M, N]⟩ : Shape) e} (harg : arg.IsWhole) (x : (⟨3, ![K, M, N]⟩ : Shape).Idx → Val e) (o : Fin k) (p : Fin m) (q : Fin n) (w : Val e)
    (h : ∀ O P Q, O.val = c + o.val → P.val = a + p.val → Q.val = b + q.val → x (ix3 O P Q) = w) :
    View.readAt Val arg.view (Rect.unit (s := ⟨3, ![K, M, N]⟩) ![c, a, b] (⟨3, ![k, m, n]⟩ : Shape).size inb).toLoadRect (harg.unread x) (ix3 o p q) = w := by
  rw [View.readAt_eq_ld, harg.read_unread]
  exact ld3 c a b inb x o p q w h

theorem over3 {arg : Memref sig κ sp (⟨3, ![K, M, N]⟩ : Shape) e} (harg : arg.IsWhole) (x : (⟨3, ![K, M, N]⟩ : Shape).Idx → Val e)
    (L : List (View.Piece Val (⟨3, ![K, M, N]⟩ : Shape) e)) (o : Fin k) (p : Fin m) (q : Fin n) (w : Val e)
    (inb0 : ∀ x, (![0, 0, 0] : Fin 3 → ℕ) x + (⟨3, ![K, M, N]⟩ : Shape).size x ≤ (⟨3, ![K, M, N]⟩ : Shape).size x)
    (h : ∀ O P Q, O.val = c + o.val → P.val = a + p.val → Q.val = b + q.val →
      View.canon (L ++ [(⟨Rect.unit (s := ⟨3, ![K, M, N]⟩) ![0, 0, 0] (⟨3, ![K, M, N]⟩ : Shape).size inb0, x⟩ : View.Piece Val _ e)]) (ix3 O P Q) = w) :
    View.readAt Val arg.view (Rect.unit (s := ⟨3, ![K, M, N]⟩) ![c, a, b] (⟨3, ![k, m, n]⟩ : Shape).size inb).toLoadRect (arg.view.writes Val (harg.unread x) L) (ix3 o p q) = w := by
  rw [View.readAt_eq_ld]
  refine ld3 c a b inb _ o p q w fun O P Q hO hP hQ => ?_
  rw [read_over harg x (by funext i; fin_cases i <;> rfl) inb0]
  exact h O P Q hO hP hQ
end three

/-- The block-diagonal query buffer, its pieces stored by head and then by query block: the newest is the last head's last
    block. A piece at block `n` and column `b` holds head `b / 128`; reading inside a diagonal block, a piece that does not hold
    the index leaves only the older ones. -/
theorem canon_diag (n a b : ℕ) (ha : a = 64 * (b / 512)) (hb : b % 128 = 0) (hn : n < 4)
    (inb : ∀ x, (![n, a, b] : Fin 3 → ℕ) x + (⟨3, ![1, 64, 128]⟩ : Shape).size x ≤ (⟨3, ![4, 128, 1024]⟩ : Shape).size x)
    (w : (⟨3, ![1, 64, 128]⟩ : Shape).Idx → Val e) (L : List (View.Piece Val (⟨3, ![4, 128, 1024]⟩ : Shape) e)) (l : Fin 4) (i : Fin 128) (j : Fin 1024)
    (v : Val e) (hd : i.val / 64 = j.val / 512) (hN : 4 * (j.val / 128) + l.val ≤ 4 * (b / 128) + n)
    (h : ∀ (p : Fin 64) (q : Fin 128), l.val = n → i.val = a + p.val → j.val = b + q.val → w (ix3 0 p q) = v)
    (h' : 4 * (j.val / 128) + l.val < 4 * (b / 128) + n → View.canon L (ix3 l i j) = v) :
    View.canon ((⟨Rect.unit (s := ⟨3, ![4, 128, 1024]⟩) ![n, a, b] (⟨3, ![1, 64, 128]⟩ : Shape).size inb, w⟩ : View.Piece Val _ e) :: L) (ix3 l i j) = v := by
  refine canon_step3 n a b inb w L l i j v (fun o p q ho hp hq => ?_) (fun hne => h' ?_)
  · obtain rfl : o = 0 := Subsingleton.elim _ _
    exact h p q (by simpa using ho) hp hq
  · by_contra hlt
    have := l.isLt
    exact hne (by omega)

/-- Outside the diagonal blocks no piece holds the index. -/
theorem canon_off (n a b : ℕ) (ha : a = 64 * (b / 512)) (hb : b % 128 = 0)
    (inb : ∀ x, (![n, a, b] : Fin 3 → ℕ) x + (⟨3, ![1, 64, 128]⟩ : Shape).size x ≤ (⟨3, ![4, 128, 1024]⟩ : Shape).size x)
    (w : (⟨3, ![1, 64, 128]⟩ : Shape).Idx → Val e) (L : List (View.Piece Val (⟨3, ![4, 128, 1024]⟩ : Shape) e)) (l : Fin 4) (i : Fin 128) (j : Fin 1024)
    (v : Val e) (hd : ¬i.val / 64 = j.val / 512) (h' : View.canon L (ix3 l i j) = v) :
    View.canon ((⟨Rect.unit (s := ⟨3, ![4, 128, 1024]⟩) ![n, a, b] (⟨3, ![1, 64, 128]⟩ : Shape).size inb, w⟩ : View.Piece Val _ e) :: L) (ix3 l i j) = v :=
  canon_step3 n a b inb w L l i j v (fun o p q ho hp hq => absurd (by omega) hd) (fun _ => h')

end Cert.Layer

end
-- ==== Proof.MixerStage.lean ====
/- The mixer kernel's stages at an index. The kernel repeats a few computations many times over: the rotation of one head's
   features, the attention of one block of queries, the pairing of two heads' results, a tile of a projection. Each is one
   function here, read once; the kernel's own values are these functions of what it has loaded. -/
module

public import proofs.«01_k».proof.Proof.MixerSoftmax
public import proofs.«01_k».proof.Proof.Loads
public import proofs.«01_k».proof.Proof.Gen.MixerIdeal.Value
public import Idealize.ShloMosaic.Lib.Tactic

@[expose] public section

noncomputable section

open Idealize.ShloMosaic Idealize.ShloMosaic.TcCoe Idealize.SL.Sem

namespace Cert.MixerIdeal.Stage

open Cert.MixerIdeal Cert.MixerIdeal.Gen Cert.Layer

/-- The modulated rows. -/
theorem h_apply (v4 v7 : Vec Ideal S1x1x1024 .f32) (v24 : Vec Ideal S1x1024x1024 .f32) (t k : Fin 1024) :
    shapeCast S1024x1024 (k0_pay9 (F := Ideal) v4 v7 v24) shapeCasts_S1024x1024_S1024x1024 (ix2 t k) = v24 (ix3 0 t k) * (1 + v7 (ix3 0 0 k)) + v4 (ix3 0 0 k) := by
  pointwise [k0_pay9]

/-- The first projection, features by tokens. -/
def front (w : Vec Ideal S768x1024 .bf16) (h : FVec Ideal S1024x1024 .bf16) : FVec Ideal S768x1024 .f32 :=
  shapeCast S768x1024 (matmul dot_S768x1024_S1024x1024_S768x1024_1_1_0_0_n_n none (φ₁ := .bf16) (shapeCast S768x1024 w shapeCasts_S768x1024_S768x1024) h (constant S768x1024 .f32 0x00000000#32)) shapeCasts_S768x1024_S768x1024

theorem front_apply (w : Vec Ideal S768x1024 .bf16) (h : FVec Ideal S1024x1024 .bf16) (f : Fin 768) (t : Fin 1024) :
    front w h (ix2 f t) = ∑ k, w (ix2 f k) * h (ix2 t k) := by
  pointwise [front]

/-- The rotary angles. -/
def angles (f : Vec Ideal S8x1 .f32) (p : Vec Ideal S1x1x512 .i32) : FVec Ideal S8x512 .f32 :=
  mulf (broadcastTo S8x512 (shapeCast S8x1 f shapeCasts_S8x1_S8x1 : FVec Ideal S8x1 .f32) broadcasts_S8x1_S8x512)
    (broadcastTo S8x512 (sitofp .f32 (shapeCast S1x512 p shapeCasts_S1x1x512_S1x512 : IVec S1x512 32)) broadcasts_S1x512_S8x512)

theorem angles_apply (f : Vec Ideal S8x1 .f32) (p : Vec Ideal S1x1x512 .i32) (e : Fin 8) (r : Fin 512) :
    angles f p (ix2 e r) = f (ix2 e 0) * (((p (ix3 0 0 r)).toInt : ℝ) : EReal) := by
  pointwise [angles]
  rfl

/-- The sinks, scaled. -/
theorem sink_apply (v : Vec Ideal S1x1024 .f32) (j : Fin 1024) : k0_pay8 (F := Ideal) v (ix2 0 j) = v (ix2 0 j) * L2 := by
  pointwise [k0_pay8]
  rfl

/-- The first block's mask of the rows before the sequence. -/
theorem pen_apply (i : grid0.Coords) (w : Fin 256) : k0_pay7 (F := Ideal) i (ix2 w 0) = if (i 1).val = 0 ∧ w.val < 128 then ⊥ else 0 := by
  pointwise [k0_pay7]
  have hm : Named.named (F := Ideal) (φ := .f32) κ "mask" 4048155338#32 = ⊥ := rfl
  have h128 : ∀ w : Fin 256, IntOp.cmpi .slt (BitVec.ofNat 32 w.val) 128#32 = if w.val < 128 then 1#1 else 0#1 := by decide
  have h0 : ∀ w : Fin 256, IntOp.cmpi .slt (BitVec.ofNat 32 w.val) 0#32 = 0#1 := by decide
  have hi : (i 1).val < 2 := (i 1).isLt
  rw [hm]
  obtain e | e : (i 1).val = 0 ∨ (i 1).val = 1 := by omega
  · rw [e]
    show Scalar.select (IntOp.cmpi .slt (BitVec.ofNat 32 w.val) 128#32) ⊥ 0 = _
    rw [h128]
    by_cases h : w.val < 128
    · rw [if_pos h, if_pos ⟨rfl, h⟩]; rfl
    · rw [if_neg h, if_neg (fun h' => h h'.2)]; rfl
  · rw [e, if_neg (fun h => by omega)]
    show Scalar.select (IntOp.cmpi .slt (BitVec.ofNat 32 w.val) 0#32) ⊥ 0 = _
    rw [h0]; rfl

/-- The gate's row. -/
theorem gate_apply (v : Vec Ideal S1x1x1024 .f32) (k : Fin 1024) : k0_pay6 (F := Ideal) v (ix2 0 k) = v (ix3 0 0 k) := by
  pointwise [k0_pay6]

/-- A head's sixty-four features over 512 tokens, rotated. -/
theorem rope_at (d : Data) (T base : ℕ) (C S : Vec Ideal S8x512 .f32) (v : Vec Ideal S64x512 .f32)
    (hC : ∀ e r, C (ix2 e r) = Ideal.cos (d.ang (T + r.val) e.val)) (hS : ∀ e r, S (ix2 e r) = Ideal.sin (d.ang (T + r.val) e.val))
    (hv : ∀ e r, v (ix2 e r) = d.proj (T + r.val) (base + e.val)) (e : Fin 64) (r : Fin 512) :
    k0_pay69 (F := Ideal) C S v (ix2 e r) = d.rope (T + r.val) base e.val := by
  pointwise [k0_pay69]
  simp only [hC, hS, hv]
  unfold Data.rope
  by_cases h8 : e.val < 8
  · rw [dif_pos h8, if_pos h8, show base + (8 + e.val) = base + e.val + 8 by omega]
  · rw [dif_neg h8, if_neg h8]
    by_cases h16 : e.val < 16
    · rw [dif_pos (by omega), if_pos h16, show base + (8 + (e.val - 8)) = base + e.val by omega, show base + (e.val - 8) = base + e.val - 8 by omega]
    · rw [dif_neg (by omega), if_neg h16, show base + (16 + (e.val - 8 - 8)) = base + e.val by omega]

/-- The same, scaled for the scores. -/
theorem qrope_at (d : Data) (T base : ℕ) (C S : Vec Ideal S8x512 .f32) (v : Vec Ideal S64x512 .f32)
    (hC : ∀ e r, C (ix2 e r) = Ideal.cos (d.ang (T + r.val) e.val)) (hS : ∀ e r, S (ix2 e r) = Ideal.sin (d.ang (T + r.val) e.val))
    (hv : ∀ e r, v (ix2 e r) = d.proj (T + r.val) (base + e.val)) (e : Fin 64) (r : Fin 512) :
    k0_pay26 (F := Ideal) C S v (ix2 e r) = d.rope (T + r.val) base e.val * qscale := by
  rw [← rope_at d T base C S v hC hS hv]
  pointwise [k0_pay26, k0_pay69]
  rfl

/-- One block of 128 queries against 256 keys: the scores of all eight heads, side by side. -/
def score (K : FVec Ideal S256x128 .bf16) (Q : FVec Ideal S1x128x1024 .bf16) (B : FVec Ideal S256x1024 .f32) : FVec Ideal S256x1024 .f32 :=
  addf (matmul dot_S256x128_S128x1024_S256x1024_1_0_0_1_n_n none K (shapeCast S128x1024 Q shapeCasts_S1x128x1024_S128x1024) (constant S256x1024 .f32 0x00000000#32)) B

/-- The weights, the weighted sum of the values, and the one division. -/
def attend (s : FVec Ideal S256x1024 .f32) (r : FVec Ideal S1x1024 .f32) (V : FVec Ideal S128x256 .bf16) : FVec Ideal S128x1024 .f32 :=
  have top : FVec Ideal S1x1024 .f32 := maximumf (shapeCast S1x1024 (multiReduction .maximumf [0] S1024 s 0xFF800000#32 reduces_S256x1024_S1024 (.inl rfl) rfl) shapeCasts_S1024_S1x1024) r
  have p : FVec Ideal S256x1024 .f32 := exp2 (subf s (broadcastTo S256x1024 top broadcasts_S1x1024_S256x1024))
  have den : FVec Ideal S1x1024 .f32 := addf (shapeCast S1x1024 (multiReduction .add [0] S1024 p 0x00000000#32 reduces_S256x1024_S1024 (.inl rfl) rfl) shapeCasts_S1024_S1x1024) (exp2 (subf r top))
  mulf (matmul dot_S128x256_S256x1024_S128x1024_1_0_0_1_n_n none V (truncf .bf16 p bitsLt_bf16_f32) (constant S128x1024 .f32 0x00000000#32))
    (broadcastTo S128x1024 (divf (broadcast S1x1024 (Scalar.ofBits .f32 0x3F800000#32)) den) broadcasts_S1x1024_S128x1024)

theorem score_apply (K : FVec Ideal S256x128 .bf16) (Q : FVec Ideal S1x128x1024 .bf16) (B : FVec Ideal S256x1024 .f32) (w : Fin 256) (j : Fin 1024) :
    score K Q B (ix2 w j) = (∑ c : Fin 128, K (ix2 w c) * Q (ix3 0 c j)) + B (ix2 w j) := by
  pointwise [score]

theorem attend_apply (s : FVec Ideal S256x1024 .f32) (r : FVec Ideal S1x1024 .f32) (V : FVec Ideal S128x256 .bf16) (c : Fin 128) (j : Fin 1024) :
    attend s r V (ix2 c j)
      = (∑ w : Fin 256, V (ix2 c w) * Ideal.exp2 (s (ix2 w j) - max (Finset.univ.sup fun w : Fin 256 => s (ix2 w j)) (r (ix2 0 j))))
        * Ideal.div 1 ((∑ w : Fin 256, Ideal.exp2 (s (ix2 w j) - max (Finset.univ.sup fun w : Fin 256 => s (ix2 w j)) (r (ix2 0 j))))
            + Ideal.exp2 (r (ix2 0 j) - max (Finset.univ.sup fun w : Fin 256 => s (ix2 w j)) (r (ix2 0 j)))) := by
  pointwise [attend]
  rw [ofBits_neg_inf]
  rfl

/-- Both key heads' rotated features, one row per token. -/
def keys (C S : FVec Ideal S8x512 .f32) (va vb : Vec Ideal S64x512 .f32) : FVec Ideal S512x128 .bf16 :=
  shapeCast S512x128 (truncf .bf16 (transpose S512x128 [1, 0] (concatenate S128x512 0 [⟨S64x512, k0_pay69 C S va⟩, ⟨S64x512, k0_pay69 C S vb⟩]
    concatenates_S64x512_S64x512_S128x512_d0) transposes_S128x512_p1_0_S512x128) bitsLt_bf16_f32) shapeCasts_S512x128_S512x128

theorem keys_apply (C S : FVec Ideal S8x512 .f32) (va vb : Vec Ideal S64x512 .f32) (r : Fin 512) (c : Fin 128) :
    keys C S va vb (ix2 r c) = if h : c.val < 64 then k0_pay69 C S va (ix2 ⟨c.val, h⟩ r) else k0_pay69 C S vb (ix2 ⟨c.val - 64, by omega⟩ r) := by
  pointwise [keys]

/-- One query block's slice of a head's scaled rotated features. -/
def qblk0 (C S : FVec Ideal S8x512 .f32) (v : Vec Ideal S64x512 .f32) : FVec Ideal S1x64x128 .bf16 :=
  shapeCast S1x64x128 (extractStridedSlice S64x128 ![0, 0] (k0_pay26 C S v) slices_S64x512_o0_0_S64x128) shapeCasts_S64x128_S1x64x128
def qblk1 (C S : FVec Ideal S8x512 .f32) (v : Vec Ideal S64x512 .f32) : FVec Ideal S1x64x128 .bf16 :=
  shapeCast S1x64x128 (extractStridedSlice S64x128 ![0, 128] (k0_pay26 C S v) slices_S64x512_o0_128_S64x128) shapeCasts_S64x128_S1x64x128
def qblk2 (C S : FVec Ideal S8x512 .f32) (v : Vec Ideal S64x512 .f32) : FVec Ideal S1x64x128 .bf16 :=
  shapeCast S1x64x128 (extractStridedSlice S64x128 ![0, 256] (k0_pay26 C S v) slices_S64x512_o0_256_S64x128) shapeCasts_S64x128_S1x64x128
def qblk3 (C S : FVec Ideal S8x512 .f32) (v : Vec Ideal S64x512 .f32) : FVec Ideal S1x64x128 .bf16 :=
  shapeCast S1x64x128 (extractStridedSlice S64x128 ![0, 384] (k0_pay26 C S v) slices_S64x512_o0_384_S64x128) shapeCasts_S64x128_S1x64x128

theorem qblk_apply (C S : FVec Ideal S8x512 .f32) (v : Vec Ideal S64x512 .f32) (p : Fin 64) (q : Fin 128) :
    qblk0 C S v (ix3 0 p q) = k0_pay26 C S v (ix2 p ⟨q.val, by omega⟩) ∧ qblk1 C S v (ix3 0 p q) = k0_pay26 C S v (ix2 p ⟨128 + q.val, by omega⟩)
      ∧ qblk2 C S v (ix3 0 p q) = k0_pay26 C S v (ix2 p ⟨256 + q.val, by omega⟩) ∧ qblk3 C S v (ix3 0 p q) = k0_pay26 C S v (ix2 p ⟨384 + q.val, by omega⟩) := by
  refine ⟨?_, ?_, ?_, ?_⟩
  · pointwise [qblk0]
  · pointwise [qblk1]
  · pointwise [qblk2]
  · pointwise [qblk3]

/-- Two heads' results, one row per query. -/
def pair0 (x : FVec Ideal S128x1024 .f32) : FVec Ideal S128x128 .bf16 :=
  have y : FVec Ideal S64x1024 .f32 := extractStridedSlice S64x1024 ![0, 0] x slices_S128x1024_o0_0_S64x1024
  shapeCast S128x128 (truncf .bf16 (transpose S128x128 [1, 0] (concatenate S128x128 0 [⟨S64x128, extractStridedSlice S64x128 ![0, 0] y slices_S64x1024_o0_0_S64x128⟩,
    ⟨S64x128, extractStridedSlice S64x128 ![0, 128] y slices_S64x1024_o0_128_S64x128⟩] concatenates_S64x128_S64x128_S128x128_d0) transposes_S128x128_p1_0_S128x128) bitsLt_bf16_f32) shapeCasts_S128x128_S128x128
def pair1 (x : FVec Ideal S128x1024 .f32) : FVec Ideal S128x128 .bf16 :=
  have y : FVec Ideal S64x1024 .f32 := extractStridedSlice S64x1024 ![0, 0] x slices_S128x1024_o0_0_S64x1024
  shapeCast S128x128 (truncf .bf16 (transpose S128x128 [1, 0] (concatenate S128x128 0 [⟨S64x128, extractStridedSlice S64x128 ![0, 256] y slices_S64x1024_o0_256_S64x128⟩,
    ⟨S64x128, extractStridedSlice S64x128 ![0, 384] y slices_S64x1024_o0_384_S64x128⟩] concatenates_S64x128_S64x128_S128x128_d0) transposes_S128x128_p1_0_S128x128) bitsLt_bf16_f32) shapeCasts_S128x128_S128x128
def pair2 (x : FVec Ideal S128x1024 .f32) : FVec Ideal S128x128 .bf16 :=
  have y : FVec Ideal S64x1024 .f32 := extractStridedSlice S64x1024 ![64, 0] x slices_S128x1024_o64_0_S64x1024
  shapeCast S128x128 (truncf .bf16 (transpose S128x128 [1, 0] (concatenate S128x128 0 [⟨S64x128, extractStridedSlice S64x128 ![0, 512] y slices_S64x1024_o0_512_S64x128⟩,
    ⟨S64x128, extractStridedSlice S64x128 ![0, 640] y slices_S64x1024_o0_640_S64x128⟩] concatenates_S64x128_S64x128_S128x128_d0) transposes_S128x128_p1_0_S128x128) bitsLt_bf16_f32) shapeCasts_S128x128_S128x128
def pair3 (x : FVec Ideal S128x1024 .f32) : FVec Ideal S128x128 .bf16 :=
  have y : FVec Ideal S64x1024 .f32 := extractStridedSlice S64x1024 ![64, 0] x slices_S128x1024_o64_0_S64x1024
  shapeCast S128x128 (truncf .bf16 (transpose S128x128 [1, 0] (concatenate S128x128 0 [⟨S64x128, extractStridedSlice S64x128 ![0, 768] y slices_S64x1024_o0_768_S64x128⟩,
    ⟨S64x128, extractStridedSlice S64x128 ![0, 896] y slices_S64x1024_o0_896_S64x128⟩] concatenates_S64x128_S64x128_S128x128_d0) transposes_S128x128_p1_0_S128x128) bitsLt_bf16_f32) shapeCasts_S128x128_S128x128

/-- A pair of heads at an index: query `p`, feature `q` of the pair, from the heads side by side. -/
theorem pair_apply (x : FVec Ideal S128x1024 .f32) (A : ℕ → ℕ → ℕ → EReal) (hx : ∀ (c : Fin 128) (j : Fin 1024), c.val / 64 = j.val / 512 → x (ix2 c j) = A (j.val / 128) (j.val % 128) (c.val % 64))
    (p q : Fin 128) :
    pair0 x (ix2 p q) = A (q.val / 64) p.val (q.val % 64) ∧ pair1 x (ix2 p q) = A (2 + q.val / 64) p.val (q.val % 64)
      ∧ pair2 x (ix2 p q) = A (4 + q.val / 64) p.val (q.val % 64) ∧ pair3 x (ix2 p q) = A (6 + q.val / 64) p.val (q.val % 64) := by
  have hp := p.isLt
  have hq := q.isLt
  refine ⟨?_, ?_, ?_, ?_⟩
  · pointwise [pair0]
    split_ifs <;> (rw [hx _ _ (by simp only []; omega)]; congr 1 <;> simp only [] <;> omega)
  · pointwise [pair1]
    split_ifs <;> (rw [hx _ _ (by simp only []; omega)]; congr 1 <;> simp only [] <;> omega)
  · pointwise [pair2]
    split_ifs <;> (rw [hx _ _ (by simp only []; omega)]; congr 1 <;> simp only [] <;> omega)
  · pointwise [pair3]
    split_ifs <;> (rw [hx _ _ (by simp only []; omega)]; congr 1 <;> simp only [] <;> omega)

/-- A 512 by 256 tile of the second projection. -/
def tile (h : FVec Ideal S512x1024 .bf16) (w : FVec Ideal S1024x256 .bf16) : FVec Ideal S512x256 .f32 :=
  shapeCast S512x256 (matmul dot_S512x1024_S1024x256_S512x256_1_0_0_1_n_n none h (shapeCast S1024x256 w shapeCasts_S1024x256_S1024x256) (constant S512x256 .f32 0x00000000#32)) shapeCasts_S512x256_S512x256

theorem tile_apply (h : FVec Ideal S512x1024 .bf16) (w : FVec Ideal S1024x256 .bf16) (p : Fin 512) (q : Fin 256) :
    tile h w (ix2 p q) = ∑ k, h (ix2 p k) * w (ix2 k q) := by
  pointwise [tile]

/-- A panel of the convolution's gated input, and of its result. -/
def zput (u v : FVec Ideal S512x128 .f32) : FVec Ideal S1x512x128 .f32 := shapeCast S1x512x128 (mulf u v) shapeCasts_S512x128_S1x512x128

theorem zput_apply (u v : FVec Ideal S512x128 .f32) (p : Fin 512) (q : Fin 128) : zput u v (ix3 0 p q) = u (ix2 p q) * v (ix2 p q) := by
  pointwise [zput]

def conv (y : FVec Ideal S512x128 .f32) (c0 c1 c2 : FVec Ideal S1x128 .f32) (z0 z1 z2 : FVec Ideal S1x512x128 .f32) : FVec Ideal S512x128 .bf16 :=
  shapeCast S512x128 (truncf .bf16 (mulf y (addf (addf (mulf (broadcastTo S512x128 c0 broadcasts_S1x128_S512x128) (shapeCast S512x128 z0 shapeCasts_S1x512x128_S512x128))
    (mulf (broadcastTo S512x128 c1 broadcasts_S1x128_S512x128) (shapeCast S512x128 z1 shapeCasts_S1x512x128_S512x128)))
    (mulf (broadcastTo S512x128 c2 broadcasts_S1x128_S512x128) (shapeCast S512x128 z2 shapeCasts_S1x512x128_S512x128)))) bitsLt_bf16_f32) shapeCasts_S512x128_S512x128

theorem conv_apply (y : FVec Ideal S512x128 .f32) (c0 c1 c2 : FVec Ideal S1x128 .f32) (z0 z1 z2 : FVec Ideal S1x512x128 .f32) (p : Fin 512) (q : Fin 128) :
    conv y c0 c1 c2 z0 z1 z2 (ix2 p q)
      = y (ix2 p q) * (c0 (ix2 0 q) * z0 (ix3 0 p q) + c1 (ix2 0 q) * z1 (ix3 0 p q) + c2 (ix2 0 q) * z2 (ix3 0 p q)) := by
  pointwise [conv]

/-- The rows' residual sum, and their normalization, for 512 rows and for 256. -/
def resid512 (x : FVec Ideal S512x1024 .f32) (a : FVec Ideal S512x1024 .bf16) (w : FVec Ideal S1024x1024 .bf16) (gate : FVec Ideal S1x1024 .f32) : FVec Ideal S512x1024 .f32 :=
  addf (mulf (broadcast S512x1024 (Scalar.ofBits .f32 0x3F9837F0#32)) x)
    (mulf (broadcastTo S512x1024 (addf (broadcast S1x1024 (Scalar.ofBits .f32 0x3F800000#32)) gate) broadcasts_S1x1024_S512x1024)
      (matmul dot_S512x1024_S1024x1024_S512x1024_1_0_0_1_n_n none a (shapeCast S1024x1024 w shapeCasts_S1024x1024_S1024x1024) (constant S512x1024 .f32 0x00000000#32)))
def resid256 (x : FVec Ideal S256x1024 .f32) (a : FVec Ideal S256x1024 .bf16) (w : FVec Ideal S1024x1024 .bf16) (gate : FVec Ideal S1x1024 .f32) : FVec Ideal S256x1024 .f32 :=
  addf (mulf (broadcast S256x1024 (Scalar.ofBits .f32 0x3F9837F0#32)) x)
    (mulf (broadcastTo S256x1024 (addf (broadcast S1x1024 (Scalar.ofBits .f32 0x3F800000#32)) gate) broadcasts_S1x1024_S256x1024)
      (matmul dot_S256x1024_S1024x1024_S256x1024_1_0_0_1_n_n none a (shapeCast S1024x1024 w shapeCasts_S1024x1024_S1024x1024) (constant S256x1024 .f32 0x00000000#32)))

theorem resid512_apply (x : FVec Ideal S512x1024 .f32) (a : FVec Ideal S512x1024 .bf16) (w : FVec Ideal S1024x1024 .bf16) (gate : FVec Ideal S1x1024 .f32) (p : Fin 512) (q : Fin 1024) :
    resid512 x a w gate (ix2 p q) = Ideal.ofBits .f32 0x3F9837F0#32 * x (ix2 p q) + (1 + gate (ix2 0 q)) * ∑ k, a (ix2 p k) * w (ix2 k q) := by
  pointwise [resid512]
theorem resid256_apply (x : FVec Ideal S256x1024 .f32) (a : FVec Ideal S256x1024 .bf16) (w : FVec Ideal S1024x1024 .bf16) (gate : FVec Ideal S1x1024 .f32) (p : Fin 256) (q : Fin 1024) :
    resid256 x a w gate (ix2 p q) = Ideal.ofBits .f32 0x3F9837F0#32 * x (ix2 p q) + (1 + gate (ix2 0 q)) * ∑ k, a (ix2 p k) * w (ix2 k q) := by
  pointwise [resid256]

def norm512 (y : FVec Ideal S512x1024 .f32) (g b : FVec Ideal S1x1024 .f32) : FVec Ideal S1x512x1024 .f32 :=
  have m : FVec Ideal S512x1 .f32 := divf (shapeCast S512x1 (multiReduction .add [1] S512 y 0x00000000#32 reduces_S512x1024_S512 (.inl rfl) rfl) shapeCasts_S512_S512x1) (broadcast S512x1 (Scalar.ofBits .f32 0x44800000#32))
  have c : FVec Ideal S512x1024 .f32 := subf y (broadcastTo S512x1024 m broadcasts_S512x1_S512x1024)
  have v : FVec Ideal S512x1 .f32 := divf (shapeCast S512x1 (multiReduction .add [1] S512 (mulf c c) 0x00000000#32 reduces_S512x1024_S512 (.inl rfl) rfl) shapeCasts_S512_S512x1) (broadcast S512x1 (Scalar.ofBits .f32 0x44800000#32))
  shapeCast S1x512x1024 (addf (mulf (mulf c (broadcastTo S512x1024 (rsqrt (addf v (broadcast S512x1 (Scalar.ofBits .f32 0x3727C5AC#32)))) broadcasts_S512x1_S512x1024))
    (broadcastTo S512x1024 (shapeCast S1x1024 g shapeCasts_S1x1024_S1x1024) broadcasts_S1x1024_S512x1024)) (broadcastTo S512x1024 (shapeCast S1x1024 b shapeCasts_S1x1024_S1x1024) broadcasts_S1x1024_S512x1024)) shapeCasts_S512x1024_S1x512x1024
def norm256 (y : FVec Ideal S256x1024 .f32) (g b : FVec Ideal S1x1024 .f32) : FVec Ideal S1x256x1024 .f32 :=
  have m : FVec Ideal S256x1 .f32 := divf (shapeCast S256x1 (multiReduction .add [1] S256 y 0x00000000#32 reduces_S256x1024_S256 (.inl rfl) rfl) shapeCasts_S256_S256x1) (broadcast S256x1 (Scalar.ofBits .f32 0x44800000#32))
  have c : FVec Ideal S256x1024 .f32 := subf y (broadcastTo S256x1024 m broadcasts_S256x1_S256x1024)
  have v : FVec Ideal S256x1 .f32 := divf (shapeCast S256x1 (multiReduction .add [1] S256 (mulf c c) 0x00000000#32 reduces_S256x1024_S256 (.inl rfl) rfl) shapeCasts_S256_S256x1) (broadcast S256x1 (Scalar.ofBits .f32 0x44800000#32))
  shapeCast S1x256x1024 (addf (mulf (mulf c (broadcastTo S256x1024 (rsqrt (addf v (broadcast S256x1 (Scalar.ofBits .f32 0x3727C5AC#32)))) broadcasts_S256x1_S256x1024))
    (broadcastTo S256x1024 (shapeCast S1x1024 g shapeCasts_S1x1024_S1x1024) broadcasts_S1x1024_S256x1024)) (broadcastTo S256x1024 (shapeCast S1x1024 b shapeCasts_S1x1024_S1x1024) broadcasts_S1x1024_S256x1024)) shapeCasts_S256x1024_S1x256x1024

theorem norm512_apply (y : FVec Ideal S512x1024 .f32) (g b : FVec Ideal S1x1024 .f32) (p : Fin 512) (q : Fin 1024) :
    norm512 y g b (ix3 0 p q) = lnRow (fun k => y (ix2 p k)) (fun k => g (ix2 0 k)) (fun k => b (ix2 0 k)) q := by
  pointwise [norm512]
  rfl
theorem norm256_apply (y : FVec Ideal S256x1024 .f32) (g b : FVec Ideal S1x1024 .f32) (p : Fin 256) (q : Fin 1024) :
    norm256 y g b (ix3 0 p q) = lnRow (fun k => y (ix2 p k)) (fun k => g (ix2 0 k)) (fun k => b (ix2 0 k)) q := by
  pointwise [norm256]
  rfl

/-- The mix of the two branches from one buffer that holds both. -/
theorem mix_sum (d : Data) (t k : ℕ) (a w : Fin 1024 → EReal)
    (ha : ∀ f, a f = if f.val < 512 then d.attn (t / 128) (f.val / 64) (t % 128) (f.val % 64) else d.conv t (f.val - 512)) (hw : ∀ f, w f = d.wo f.val k) :
    ∑ f, a f * w f = d.mix t k := by
  unfold Data.mix
  rw [Fin.sum_univ_add (a := 512) (b := 512)]
  simp only [ha, hw, Fin.val_castAdd, Fin.val_natAdd]
  congr 1

/-! ## What the stages give, in the specification's terms -/

/-- The keys of 512 tokens. -/
theorem keys_at (d : Data) (T : ℕ) (C S : FVec Ideal S8x512 .f32) (va vb : Vec Ideal S64x512 .f32)
    (hC : ∀ e r, C (ix2 e r) = Ideal.cos (d.ang (T + r.val) e.val)) (hS : ∀ e r, S (ix2 e r) = Ideal.sin (d.ang (T + r.val) e.val))
    (ha : ∀ e r, va (ix2 e r) = d.proj (T + r.val) (512 + e.val)) (hb : ∀ e r, vb (ix2 e r) = d.proj (T + r.val) (576 + e.val)) (r : Fin 512) (c : Fin 128) :
    keys C S va vb (ix2 r c) = d.key (128 + (T + r.val)) c.val := by
  rw [keys_apply]
  unfold Data.key
  rw [if_neg (by omega), show 128 + (T + r.val) - 128 = T + r.val by omega]
  split_ifs with h
  · rw [rope_at d T 512 C S va hC hS ha, show 512 + 64 * (c.val / 64) = 512 by omega, show c.val % 64 = c.val by omega]
  · rw [rope_at d T 576 C S vb hC hS hb, show 512 + 64 * (c.val / 64) = 576 by omega, show c.val % 64 = c.val - 64 by omega]

/-- One head's four blocks of queries, in the block-diagonal buffer. -/
theorem canon_head (d : Data) (T hd a b : ℕ) (ha : a = 64 * (hd / 4)) (hb : b = 128 * hd) (C S : FVec Ideal S8x512 .f32) (v : Vec Ideal S64x512 .f32)
    (hC : ∀ e r, C (ix2 e r) = Ideal.cos (d.ang (T + r.val) e.val)) (hS : ∀ e r, S (ix2 e r) = Ideal.sin (d.ang (T + r.val) e.val))
    (hv : ∀ e r, v (ix2 e r) = d.proj (T + r.val) (64 * hd + e.val)) (inb3 inb2 inb1 inb0)
    (L : List (View.Piece (Elt Ideal) S4x128x1024 .bf16)) (l : Fin 4) (i : Fin 128) (j : Fin 1024)
    (h : (¬(j.val / 128 = hd ∧ i.val / 64 = j.val / 512)) → View.canon L (ix3 l i j) = if i.val / 64 = j.val / 512 then d.rope (T + 128 * l.val + j.val % 128) (64 * (j.val / 128)) (i.val % 64) * qscale else 0) :
    View.canon ((⟨Rect.unit (s := S4x128x1024) ![3, a, b] S1x64x128.size inb3, qblk3 C S v⟩ : View.Piece (Elt Ideal) _ _)
        :: (⟨Rect.unit (s := S4x128x1024) ![2, a, b] S1x64x128.size inb2, qblk2 C S v⟩ : View.Piece (Elt Ideal) _ _)
        :: (⟨Rect.unit (s := S4x128x1024) ![1, a, b] S1x64x128.size inb1, qblk1 C S v⟩ : View.Piece (Elt Ideal) _ _)
        :: (⟨Rect.unit (s := S4x128x1024) ![0, a, b] S1x64x128.size inb0, qblk0 C S v⟩ : View.Piece (Elt Ideal) _ _) :: L) (ix3 l i j)
      = if i.val / 64 = j.val / 512 then d.rope (T + 128 * l.val + j.val % 128) (64 * (j.val / 128)) (i.val % 64) * qscale else 0 := by
  have hl := l.isLt
  have key : ∀ (p : Fin 64) (q : Fin 128) (n : ℕ) (r : Fin 512), l.val = n → r.val = 128 * n + q.val → i.val = a + p.val → j.val = b + q.val →
      k0_pay26 (F := Ideal) C S v (ix2 p r) = if i.val / 64 = j.val / 512 then d.rope (T + 128 * l.val + j.val % 128) (64 * (j.val / 128)) (i.val % 64) * qscale else 0 := by
    intro p q n r hn hr hi hj
    have hp := p.isLt
    have hq := q.isLt
    rw [qrope_at d T (64 * hd) C S v hC hS hv, if_pos (by omega)]
    congr 2 <;> omega
  refine canon_step3 3 a b inb3 _ _ l i j _ (fun o p q ho hp hq => ?_) (fun h3 => ?_)
  · obtain rfl : o = 0 := Subsingleton.elim _ _
    exact ((qblk_apply C S v p q).2.2.2).trans (key p q 3 _ (by simpa using ho) rfl hp hq)
  refine canon_step3 2 a b inb2 _ _ l i j _ (fun o p q ho hp hq => ?_) (fun h2 => ?_)
  · obtain rfl : o = 0 := Subsingleton.elim _ _
    exact ((qblk_apply C S v p q).2.2.1).trans (key p q 2 _ (by simpa using ho) rfl hp hq)
  refine canon_step3 1 a b inb1 _ _ l i j _ (fun o p q ho hp hq => ?_) (fun h1 => ?_)
  · obtain rfl : o = 0 := Subsingleton.elim _ _
    exact ((qblk_apply C S v p q).2.1).trans (key p q 1 _ (by simpa using ho) rfl hp hq)
  refine canon_step3 0 a b inb0 _ _ l i j _ (fun o p q ho hp hq => ?_) (fun h0 => h ?_)
  · obtain rfl : o = 0 := Subsingleton.elim _ _
    exact ((qblk_apply C S v p q).1).trans (key p q 0 _ (by simpa using ho) (by simp) hp hq)
  · rintro ⟨e1, e2⟩
    have := i.isLt
    omega

/-- One block of queries, from its scores. -/
theorem attend_at (d : Data) (hd : d.Finite) (n : ℕ) (s : FVec Ideal S256x1024 .f32) (r : FVec Ideal S1x1024 .f32) (V : FVec Ideal S128x256 .bf16)
    (hs : ∀ w j, s (ix2 w j) = d.logit n (j.val / 128) (j.val % 128) w.val * L2) (hr : ∀ j, r (ix2 0 j) = d.sink (j.val / 128) * L2)
    (hV : ∀ c w, V (ix2 c w) = d.val (128 * n + w.val) c.val) (c : Fin 128) (j : Fin 1024) (hc : c.val / 64 = j.val / 512) :
    attend s r V (ix2 c j) = d.attn n (j.val / 128) (j.val % 128) (c.val % 64) := by
  rw [attend_apply]
  refine (attend_scaled d hd n (j.val / 128) (j.val % 128) c.val (fun w => s (ix2 w j)) (fun w => V (ix2 c w)) (r (ix2 0 j)) (fun w => hs w j) (hr j) (fun w => hV c w)).trans ?_
  unfold Data.attn
  rw [show 64 * (j.val / 128 / 4) + c.val % 64 = c.val by omega]

/-- The scores of one block of queries. -/
theorem score_at (d : Data) (n : ℕ) (K : FVec Ideal S256x128 .bf16) (Q : FVec Ideal S1x128x1024 .bf16)
    (hK : ∀ w c, K (ix2 w c) = d.key (128 * n + w.val) c.val)
    (hQ : ∀ i j, Q (ix3 0 i j) = if i.val / 64 = j.val / 512 then d.rope (128 * n + j.val % 128) (64 * (j.val / 128)) (i.val % 64) * qscale else 0)
    (B : EReal) (w : Fin 256) (j : Fin 1024) (hB : B = if Data.open_ n (j.val % 128) w.val then 0 else ⊥) :
    (∑ c : Fin 128, K (ix2 w c) * Q (ix3 0 c j)) + B = d.logit n (j.val / 128) (j.val % 128) w.val * L2 :=
  score_scaled d n (j.val / 128) (j.val % 128) w.val (by omega) (fun c => K (ix2 w c)) (fun c => Q (ix3 0 c j)) B (fun c => hK w c)
    (fun c => by rw [hQ c j, show j.val / 128 / 4 = j.val / 512 by omega]) hB

/-- A panel of the convolution's gated input, in its buffer. -/
theorem zstep (d : Data) (T k s : ℕ) (w : FVec Ideal S1x512x128 .f32) (hw : ∀ p q, w (ix3 0 p q) = d.z (T + s + p.val) (128 * k + q.val)) (inb)
    (L : List (View.Piece (Elt Ideal) S4x1032x128 .f32)) (J : Fin 4) (P : Fin 1032) (Q : Fin 128)
    (h : ¬(J.val = k ∧ s ≤ P.val ∧ P.val < s + 512) → View.canon L (ix3 J P Q) = d.z (T + P.val) (128 * J.val + Q.val)) :
    View.canon ((⟨Rect.unit (s := S4x1032x128) ![k, s, 0] S1x512x128.size inb, w⟩ : View.Piece (Elt Ideal) _ _) :: L) (ix3 J P Q) = d.z (T + P.val) (128 * J.val + Q.val) := by
  refine canon_step3 k s 0 inb w L J P Q _ (fun o p q ho hp hq => ?_) (fun hn => h fun ⟨h1, h2, h3⟩ => hn ?_)
  · obtain rfl : o = 0 := Subsingleton.elim _ _
    rw [hw]
    congr 1 <;> simp at ho <;> omega
  · have := Q.isLt
    omega

/-- A panel of the convolution's result. -/
theorem conv_at (d : Data) (T k : ℕ) (y : FVec Ideal S512x128 .f32) (c0 c1 c2 : FVec Ideal S1x128 .f32) (z0 z1 z2 : FVec Ideal S1x512x128 .f32)
    (hy : ∀ p q, y (ix2 p q) = d.proj (T + p.val) (1280 + (128 * k + q.val)))
    (h0 : ∀ q, c0 (ix2 0 q) = d.cw 0 (128 * k + q.val)) (h1 : ∀ q, c1 (ix2 0 q) = d.cw 1 (128 * k + q.val)) (h2 : ∀ q, c2 (ix2 0 q) = d.cw 2 (128 * k + q.val))
    (g0 : ∀ p q, z0 (ix3 0 p q) = d.z (T + p.val + 6) (128 * k + q.val)) (g1 : ∀ p q, z1 (ix3 0 p q) = d.z (T + p.val + 7) (128 * k + q.val))
    (g2 : ∀ p q, z2 (ix3 0 p q) = d.z (T + p.val + 8) (128 * k + q.val)) (p : Fin 512) (q : Fin 128) :
    conv y c0 c1 c2 z0 z1 z2 (ix2 p q) = d.conv (T + p.val) (128 * k + q.val) := by
  rw [conv_apply, hy, h0, h1, h2, g0, g1, g2]
  rfl

/-- A panel of the gated input: the product of its two features. -/
theorem zput_at (d : Data) (T k : ℕ) (u v : FVec Ideal S512x128 .f32) (hu : ∀ p q, u (ix2 p q) = d.proj (T + p.val) (1792 + (128 * k + q.val)))
    (hv : ∀ p q, v (ix2 p q) = d.proj (T + p.val) (768 + (128 * k + q.val))) (p : Fin 512) (q : Fin 128) :
    zput u v (ix3 0 p q) = d.z (T + 8 + p.val) (128 * k + q.val) := by
  rw [zput_apply, hu, hv]
  unfold Data.z
  rw [if_neg (by omega), show T + 8 + p.val - 8 = T + p.val by omega]

end Cert.MixerIdeal.Stage

end
-- ==== Proof.MixerBuffers.lean ====
/- What the mixer kernel's stages and buffers hold, in the specification's terms, from what they were computed from. Every
   statement is about whatever was loaded, so that the two halves of the tokens and both kinds of grid point use the same ones. -/
module

public import proofs.«01_k».proof.Proof.MixerStage

@[expose] public section

noncomputable section

open Idealize.ShloMosaic Idealize.ShloMosaic.TcCoe Idealize.SL.Sem

namespace Cert.Layer.Data

/-- Both branches of one token side by side: 512 features of attention, then 512 of the convolution. -/
def act (d : Data) (t f : ℕ) : EReal := if f < 512 then d.attn (t / 128) (f / 64) (t % 128) (f % 64) else d.conv t (f - 512)

end Cert.Layer.Data

namespace Cert.MixerIdeal.Stage

open Cert.MixerIdeal Cert.MixerIdeal.Gen Cert.Layer

theorem h_at (d : Data) (T : ℕ) (v4 v7 : Vec Ideal S1x1x1024 .f32) (v24 : Vec Ideal S1x1024x1024 .f32)
    (h24 : ∀ t k, v24 (ix3 0 t k) = d.x (T + t.val) k.val) (h7 : ∀ k, v7 (ix3 0 0 k) = d.scale k.val) (h4 : ∀ k, v4 (ix3 0 0 k) = d.shift k.val) (t k : Fin 1024) :
    shapeCast S1024x1024 (k0_pay9 (F := Ideal) v4 v7 v24) shapeCasts_S1024x1024_S1024x1024 (ix2 t k) = d.h (T + t.val) k.val := by
  rw [h_apply, h24, h7, h4]
  rfl

theorem front_at (d : Data) (T : ℕ) (w : Vec Ideal S768x1024 .bf16) (h : FVec Ideal S1024x1024 .bf16)
    (hw : ∀ f k, w (ix2 f k) = d.w k.val f.val) (hh : ∀ t k, h (ix2 t k) = d.h (T + t.val) k.val) (f : Fin 768) (t : Fin 1024) :
    front w h (ix2 f t) = d.proj (T + t.val) f.val := by
  rw [front_apply]
  unfold Data.proj
  exact Finset.sum_congr rfl fun k _ => by rw [hw, hh, mul_comm]

theorem angles_at (d : Data) (T : ℕ) (P : ℕ → BitVec 32) (hP : ∀ t, (((P t).toInt : ℝ) : EReal) = d.pos t) (f : Vec Ideal S8x1 .f32) (p : Vec Ideal S1x1x512 .i32)
    (hf : ∀ e, f (ix2 e 0) = d.freq e.val) (hp : ∀ r, p (ix3 0 0 r) = P (T + r.val)) (e : Fin 8) (r : Fin 512) :
    angles f p (ix2 e r) = d.ang (T + r.val) e.val := by
  rw [angles_apply, hf, hp, hP]
  exact mul_comm _ _

theorem tile_at (d : Data) (T f0 : ℕ) (h : FVec Ideal S512x1024 .bf16) (w : FVec Ideal S1024x256 .bf16)
    (hh : ∀ t k, h (ix2 t k) = d.h (T + t.val) k.val) (hw : ∀ k f, w (ix2 k f) = d.w k.val (f0 + f.val)) (p : Fin 512) (q : Fin 256) :
    tile h w (ix2 p q) = d.proj (T + p.val) (f0 + q.val) := by
  rw [tile_apply]
  unfold Data.proj
  exact Finset.sum_congr rfl fun k _ => by rw [hw, hh]

/-- A tile in the buffer of the 1536 later features. -/
theorem canon_tile (d : Data) (T a : ℕ) (w : FVec Ideal S512x256 .f32) (hw : ∀ p q, w (ix2 p q) = d.proj (T + p.val) (768 + a + q.val)) (inb)
    (L : List (View.Piece (Elt Ideal) S512x1536 .f32)) (P : Fin 512) (Q : Fin 1536)
    (h : ¬(a ≤ Q.val ∧ Q.val < a + 256) → View.canon L (ix2 P Q) = d.proj (T + P.val) (768 + Q.val)) :
    View.canon ((⟨Rect.unit (s := S512x1536) ![0, a] S512x256.size inb, w⟩ : View.Piece (Elt Ideal) _ _) :: L) (ix2 P Q) = d.proj (T + P.val) (768 + Q.val) := by
  refine canon_step2 (Val := Elt Ideal) (e := .f32) 0 a inb w L P Q _ (fun p q hp hq => ?_) (fun hn => h fun ⟨h1, h2⟩ => hn ?_)
  · rw [hw]
    congr 1 <;> omega
  · have := P.isLt
    omega

/-- The rows of keys that one half of the tokens adds. -/
theorem canon_keys (d : Data) (T s : ℕ) (w : FVec Ideal S512x128 .bf16) (hw : ∀ p q, w (ix2 p q) = d.key (T + s + p.val) q.val) (inb)
    (L : List (View.Piece (Elt Ideal) S1152x128 .bf16)) (P : Fin 1152) (Q : Fin 128)
    (h : ¬(s ≤ P.val ∧ P.val < s + 512) → View.canon L (ix2 P Q) = d.key (T + P.val) Q.val) :
    View.canon ((⟨Rect.unit (s := S1152x128) ![s, 0] S512x128.size inb, w⟩ : View.Piece (Elt Ideal) _ _) :: L) (ix2 P Q) = d.key (T + P.val) Q.val := by
  refine canon_step2 (Val := Elt Ideal) (e := .bf16) s 0 inb w L P Q _ (fun p q hp hq => ?_) (fun hn => h fun ⟨h1, h2⟩ => hn ?_)
  · rw [hw]
    congr 1 <;> omega
  · have := Q.isLt
    omega

/-- The columns of values that one half of the tokens adds. -/
theorem canon_vals (d : Data) (T s : ℕ) (w : FVec Ideal S128x512 .bf16) (hw : ∀ p q, w (ix2 p q) = d.val (T + s + q.val) p.val) (inb)
    (L : List (View.Piece (Elt Ideal) S128x1152 .bf16)) (P : Fin 128) (Q : Fin 1152)
    (h : ¬(s ≤ Q.val ∧ Q.val < s + 512) → View.canon L (ix2 P Q) = d.val (T + Q.val) P.val) :
    View.canon ((⟨Rect.unit (s := S128x1152) ![0, s] S128x512.size inb, w⟩ : View.Piece (Elt Ideal) _ _) :: L) (ix2 P Q) = d.val (T + Q.val) P.val := by
  refine canon_step2 (Val := Elt Ideal) (e := .bf16) 0 s inb w L P Q _ (fun p q hp hq => ?_) (fun hn => h fun ⟨h1, h2⟩ => hn ?_)
  · rw [hw]
    congr 1 <;> omega
  · have := P.isLt
    omega

/-- The values as they are stored. -/
theorem vals_at (d : Data) (T : ℕ) (v : FVec Ideal S128x512 .f32) (hv : ∀ e r, v (ix2 e r) = d.proj (T + r.val) (640 + e.val)) (p : Fin 128) (q : Fin 512) :
    shapeCast S128x512 (truncf .bf16 v bitsLt_bf16_f32) shapeCasts_S128x512_S128x512 (ix2 p q) = d.val (128 + (T + q.val)) p.val := by
  have e : shapeCast S128x512 (truncf .bf16 v bitsLt_bf16_f32) shapeCasts_S128x512_S128x512 (ix2 p q) = v (ix2 p q) := by pointwise
  rw [e, hv]
  unfold Data.val
  rw [if_neg (by omega), show 128 + (T + q.val) - 128 = T + q.val by omega]

/-- One block of queries against its 256 keys. -/
theorem attn_at (d : Data) (hd : d.Finite) (n : ℕ) (K : FVec Ideal S256x128 .bf16) (Q : FVec Ideal S1x128x1024 .bf16) (B : FVec Ideal S256x1024 .f32)
    (r : FVec Ideal S1x1024 .f32) (V : FVec Ideal S128x256 .bf16)
    (hK : ∀ w c, K (ix2 w c) = d.key (128 * n + w.val) c.val)
    (hQ : ∀ i j, Q (ix3 0 i j) = if i.val / 64 = j.val / 512 then d.rope (128 * n + j.val % 128) (64 * (j.val / 128)) (i.val % 64) * qscale else 0)
    (hB : ∀ w j, B (ix2 w j) = if j.val % 128 < w.val ∧ w.val ≤ j.val % 128 + 128 then 0 else ⊥)
    (hr : ∀ j, r (ix2 0 j) = d.sink (j.val / 128) * L2) (hV : ∀ c w, V (ix2 c w) = d.val (128 * n + w.val) c.val) (hn : 0 < n)
    (c : Fin 128) (j : Fin 1024) (hc : c.val / 64 = j.val / 512) :
    attend (score K Q B) r V (ix2 c j) = d.attn n (j.val / 128) (j.val % 128) (c.val % 64) := by
  refine attend_at d hd n _ r V (fun w j => ?_) hr hV c j hc
  rw [score_apply]
  refine score_at d n K Q hK hQ _ w j ?_
  rw [hB]
  exact if_congr ⟨fun h => (⟨h.1, h.2, by omega⟩ : _ ∧ _ ∧ _), fun (h : _ ∧ _ ∧ _) => ⟨h.1, h.2.1⟩⟩ rfl rfl

/-- The same for a point's first block, which may start before the sequence does. -/
theorem attn_first (d : Data) (hd : d.Finite) (n : ℕ) (K : FVec Ideal S256x128 .bf16) (Q : FVec Ideal S1x128x1024 .bf16) (B C : FVec Ideal S256x1024 .f32)
    (r : FVec Ideal S1x1024 .f32) (V : FVec Ideal S128x256 .bf16)
    (hK : ∀ w c, K (ix2 w c) = d.key (128 * n + w.val) c.val)
    (hQ : ∀ i j, Q (ix3 0 i j) = if i.val / 64 = j.val / 512 then d.rope (128 * n + j.val % 128) (64 * (j.val / 128)) (i.val % 64) * qscale else 0)
    (hB : ∀ w j, B (ix2 w j) = if j.val % 128 < w.val ∧ w.val ≤ j.val % 128 + 128 then 0 else ⊥)
    (hC : ∀ w j, C (ix2 w j) = if n = 0 ∧ w.val < 128 then ⊥ else 0)
    (hr : ∀ j, r (ix2 0 j) = d.sink (j.val / 128) * L2) (hV : ∀ c w, V (ix2 c w) = d.val (128 * n + w.val) c.val)
    (c : Fin 128) (j : Fin 1024) (hc : c.val / 64 = j.val / 512) :
    attend (addf (score K Q B) C) r V (ix2 c j) = d.attn n (j.val / 128) (j.val % 128) (c.val % 64) := by
  refine attend_at d hd n _ r V (fun w j => ?_) hr hV c j hc
  have e : addf (score K Q B) C (ix2 w j) = score K Q B (ix2 w j) + C (ix2 w j) := rfl
  rw [e, score_apply, add_assoc]
  refine score_at d n K Q hK hQ _ w j ?_
  rw [hB, hC]
  have ho : Data.open_ n (j.val % 128) w.val ↔ j.val % 128 < w.val ∧ w.val ≤ j.val % 128 + 128 ∧ 128 ≤ 128 * n + w.val := Iff.rfl
  by_cases h1 : j.val % 128 < w.val ∧ w.val ≤ j.val % 128 + 128
  · by_cases h2 : n = 0 ∧ w.val < 128
    · rw [if_pos h1, if_pos h2, if_neg (fun h => by have := ho.mp h; omega)]; simp
    · rw [if_pos h1, if_neg h2, if_pos (ho.mpr ⟨h1.1, h1.2, by omega⟩)]; simp
  · rw [if_neg h1, if_neg (fun h => h1 ⟨(ho.mp h).1, (ho.mp h).2.1⟩)]; split_ifs <;> simp

/-- The first block's mask, spread over the heads. -/
theorem pen_at (i : grid0.Coords) (n : ℕ) (hn : n = 8 * (i 1).val) (w : Fin 256) (j : Fin 1024) :
    broadcastTo S256x1024 (k0_pay7 (F := Ideal) i) broadcasts_S256x1_S256x1024 (ix2 w j) = if n = 0 ∧ w.val < 128 then ⊥ else 0 := by
  have e : broadcastTo S256x1024 (k0_pay7 (F := Ideal) i) broadcasts_S256x1_S256x1024 (ix2 w j) = k0_pay7 (F := Ideal) i (ix2 w 0) := by
    generalize k0_pay7 (F := Ideal) i = v
    pointwise
  rw [e, pen_apply]
  congr 1
  apply propext
  constructor <;> rintro ⟨h1, h2⟩ <;> exact ⟨by omega, h2⟩

/-- A panel of the convolution's result, in the buffer of both branches. -/
theorem canon_panel (d : Data) (T k b : ℕ) (hb : b = 512 + 128 * k) (w : FVec Ideal S512x128 .bf16) (hw : ∀ p q, w (ix2 p q) = d.conv (T + p.val) (128 * k + q.val)) (inb)
    (L : List (View.Piece (Elt Ideal) S512x1024 .bf16)) (r : Fin 512) (f : Fin 1024)
    (h : ¬(b ≤ f.val ∧ f.val < b + 128) → View.canon L (ix2 r f) = d.act (T + r.val) f.val) :
    View.canon ((⟨Rect.unit (s := S512x1024) ![0, b] S512x128.size inb, w⟩ : View.Piece (Elt Ideal) _ _) :: L) (ix2 r f) = d.act (T + r.val) f.val := by
  refine canon_step2 (Val := Elt Ideal) (e := .bf16) 0 b inb w L r f _ (fun p q hp hq => ?_) (fun hn => h fun ⟨h1, h2⟩ => hn ?_)
  · rw [hw]
    unfold Data.act
    rw [if_neg (by omega)]
    congr 1 <;> omega
  · have := r.isLt
    omega

/-- One block's four pairs of heads, in the buffer of both branches. -/
theorem canon_block (d : Data) (T n a : ℕ) (ha : 128 * n = T + a) (x : FVec Ideal S128x1024 .f32)
    (hx : ∀ (c : Fin 128) (j : Fin 1024), c.val / 64 = j.val / 512 → x (ix2 c j) = d.attn n (j.val / 128) (j.val % 128) (c.val % 64)) (inb3 inb2 inb1 inb0)
    (L : List (View.Piece (Elt Ideal) S512x1024 .bf16)) (r : Fin 512) (f : Fin 1024)
    (h : ¬(a ≤ r.val ∧ r.val < a + 128 ∧ f.val < 512) → View.canon L (ix2 r f) = d.act (T + r.val) f.val) :
    View.canon ((⟨Rect.unit (s := S512x1024) ![a, 384] S128x128.size inb3, pair3 x⟩ : View.Piece (Elt Ideal) _ _)
        :: (⟨Rect.unit (s := S512x1024) ![a, 256] S128x128.size inb2, pair2 x⟩ : View.Piece (Elt Ideal) _ _)
        :: (⟨Rect.unit (s := S512x1024) ![a, 128] S128x128.size inb1, pair1 x⟩ : View.Piece (Elt Ideal) _ _)
        :: (⟨Rect.unit (s := S512x1024) ![a, 0] S128x128.size inb0, pair0 x⟩ : View.Piece (Elt Ideal) _ _) :: L) (ix2 r f) = d.act (T + r.val) f.val := by
  have key := pair_apply x (fun hd q e => d.attn n hd q e) hx
  have hV : ∀ hd q e : ℕ, f.val < 512 → a ≤ r.val → r.val < a + 128 → hd = f.val / 64 → q = r.val - a → e = f.val % 64 → d.attn n hd q e = d.act (T + r.val) f.val := by
    rintro _ _ _ hf h1 h2 rfl rfl rfl
    unfold Data.act
    rw [if_pos hf, show (T + r.val) / 128 = n by omega, show (T + r.val) % 128 = r.val - a by omega]
  refine canon_step2 (Val := Elt Ideal) (e := .bf16) a 384 inb3 _ _ r f _ (fun p q hp hq => (key p q).2.2.2.trans (hV _ _ _ (by omega) (by omega) (by omega) (by omega) (by omega) (by omega))) (fun h3 => ?_)
  refine canon_step2 (Val := Elt Ideal) (e := .bf16) a 256 inb2 _ _ r f _ (fun p q hp hq => (key p q).2.2.1.trans (hV _ _ _ (by omega) (by omega) (by omega) (by omega) (by omega) (by omega))) (fun h2 => ?_)
  refine canon_step2 (Val := Elt Ideal) (e := .bf16) a 128 inb1 _ _ r f _ (fun p q hp hq => (key p q).2.1.trans (hV _ _ _ (by omega) (by omega) (by omega) (by omega) (by omega) (by omega))) (fun h1 => ?_)
  refine canon_step2 (Val := Elt Ideal) (e := .bf16) a 0 inb0 _ _ r f _ (fun p q hp hq => (key p q).1.trans (hV _ _ _ (by omega) (by omega) (by omega) (by omega) (by omega) (by omega))) (fun h0 => h ?_)
  rintro ⟨e1, e2, e3⟩
  omega

/-- The whole buffer of both branches: four panels of the convolution over four blocks of four pairs of heads. -/
theorem canon_act (d : Data) (T n : ℕ) (hn : 128 * n = T) (c0 c1 c2 c3 : FVec Ideal S512x128 .bf16) (x0 x1 x2 x3 : FVec Ideal S128x1024 .f32)
    (h0 : ∀ p q, c0 (ix2 p q) = d.conv (T + p.val) (128 * 0 + q.val)) (h1 : ∀ p q, c1 (ix2 p q) = d.conv (T + p.val) (128 * 1 + q.val))
    (h2 : ∀ p q, c2 (ix2 p q) = d.conv (T + p.val) (128 * 2 + q.val)) (h3 : ∀ p q, c3 (ix2 p q) = d.conv (T + p.val) (128 * 3 + q.val))
    (g0 : ∀ (c : Fin 128) (j : Fin 1024), c.val / 64 = j.val / 512 → x0 (ix2 c j) = d.attn (n + 0) (j.val / 128) (j.val % 128) (c.val % 64))
    (g1 : ∀ (c : Fin 128) (j : Fin 1024), c.val / 64 = j.val / 512 → x1 (ix2 c j) = d.attn (n + 1) (j.val / 128) (j.val % 128) (c.val % 64))
    (g2 : ∀ (c : Fin 128) (j : Fin 1024), c.val / 64 = j.val / 512 → x2 (ix2 c j) = d.attn (n + 2) (j.val / 128) (j.val % 128) (c.val % 64))
    (g3 : ∀ (c : Fin 128) (j : Fin 1024), c.val / 64 = j.val / 512 → x3 (ix2 c j) = d.attn (n + 3) (j.val / 128) (j.val % 128) (c.val % 64))
    (i3 i2 i1 i0 j33 j32 j31 j30 j23 j22 j21 j20 j13 j12 j11 j10 j03 j02 j01 j00) (r : Fin 512) (f : Fin 1024) :
    View.canon (Val := Elt Ideal) (e := .bf16) [(⟨Rect.unit (s := S512x1024) ![0, 896] S512x128.size i3, c3⟩ : View.Piece (Elt Ideal) _ _),
        (⟨Rect.unit (s := S512x1024) ![0, 768] S512x128.size i2, c2⟩ : View.Piece (Elt Ideal) _ _),
        (⟨Rect.unit (s := S512x1024) ![0, 640] S512x128.size i1, c1⟩ : View.Piece (Elt Ideal) _ _),
        (⟨Rect.unit (s := S512x1024) ![0, 512] S512x128.size i0, c0⟩ : View.Piece (Elt Ideal) _ _),
        ⟨Rect.unit (s := S512x1024) ![384, 384] S128x128.size j33, pair3 x3⟩,
        ⟨Rect.unit (s := S512x1024) ![384, 256] S128x128.size j32, pair2 x3⟩,
        ⟨Rect.unit (s := S512x1024) ![384, 128] S128x128.size j31, pair1 x3⟩,
        ⟨Rect.unit (s := S512x1024) ![384, 0] S128x128.size j30, pair0 x3⟩,
        ⟨Rect.unit (s := S512x1024) ![256, 384] S128x128.size j23, pair3 x2⟩,
        ⟨Rect.unit (s := S512x1024) ![256, 256] S128x128.size j22, pair2 x2⟩,
        ⟨Rect.unit (s := S512x1024) ![256, 128] S128x128.size j21, pair1 x2⟩,
        ⟨Rect.unit (s := S512x1024) ![256, 0] S128x128.size j20, pair0 x2⟩,
        ⟨Rect.unit (s := S512x1024) ![128, 384] S128x128.size j13, pair3 x1⟩,
        ⟨Rect.unit (s := S512x1024) ![128, 256] S128x128.size j12, pair2 x1⟩,
        ⟨Rect.unit (s := S512x1024) ![128, 128] S128x128.size j11, pair1 x1⟩,
        ⟨Rect.unit (s := S512x1024) ![128, 0] S128x128.size j10, pair0 x1⟩,
        ⟨Rect.unit (s := S512x1024) ![0, 384] S128x128.size j03, pair3 x0⟩,
        ⟨Rect.unit (s := S512x1024) ![0, 256] S128x128.size j02, pair2 x0⟩,
        ⟨Rect.unit (s := S512x1024) ![0, 128] S128x128.size j01, pair1 x0⟩,
        ⟨Rect.unit (s := S512x1024) ![0, 0] S128x128.size j00, pair0 x0⟩] (ix2 r f)
      = d.act (T + r.val) f.val := by
  refine canon_panel d T 3 896 rfl _ h3 _ _ r f fun e3 => ?_
  refine canon_panel d T 2 768 rfl _ h2 _ _ r f fun e2 => ?_
  refine canon_panel d T 1 640 rfl _ h1 _ _ r f fun e1 => ?_
  refine canon_panel d T 0 512 rfl _ h0 _ _ r f fun e0 => ?_
  refine canon_block d T (n + 3) 384 (by omega) x3 g3 _ _ _ _ _ r f fun b3 => ?_
  refine canon_block d T (n + 2) 256 (by omega) x2 g2 _ _ _ _ _ r f fun b2 => ?_
  refine canon_block d T (n + 1) 128 (by omega) x1 g1 _ _ _ _ _ r f fun b1 => ?_
  exact canon_block d T (n + 0) 0 (by omega) x0 g0 _ _ _ _ _ r f fun b0 => absurd f.isLt (by omega)

/-- The output's three pieces: the first half's rows, then two pieces of the second half's. -/
theorem canon_out (d : Data) (T : ℕ) (w0 : FVec Ideal S1x512x1024 .f32) (w1 w2 : FVec Ideal S1x256x1024 .f32)
    (h0 : ∀ p q, w0 (ix3 0 p q) = d.out (T + 0 + p.val) q) (h1 : ∀ p q, w1 (ix3 0 p q) = d.out (T + 512 + p.val) q) (h2 : ∀ p q, w2 (ix3 0 p q) = d.out (T + 768 + p.val) q)
    (i2 i1 i0) (o : Fin 1) (r j : Fin 1024) :
    View.canon (Val := Elt Ideal) (e := .f32) [(⟨Rect.unit (s := S1x1024x1024) ![0, 768, 0] S1x256x1024.size i2, w2⟩ : View.Piece (Elt Ideal) _ _),
        ⟨Rect.unit (s := S1x1024x1024) ![0, 512, 0] S1x256x1024.size i1, w1⟩, ⟨Rect.unit (s := S1x1024x1024) ![0, 0, 0] S1x512x1024.size i0, w0⟩] (ix3 o r j)
      = d.out (T + r.val) j := by
  have key : ∀ (a : ℕ) (q : Fin 1024), a = T + r.val → j.val = 0 + q.val → d.out a q = d.out (T + r.val) j := by
    rintro _ q rfl h
    rw [show q = j from Fin.ext (by omega)]
  refine canon_step3 (Val := Elt Ideal) (e := .f32) 0 768 0 i2 _ _ o r j _ (fun o' p q _ hp hq => ?_) (fun b2 => ?_)
  · obtain rfl : o' = 0 := Subsingleton.elim _ _
    exact (h2 p q).trans (key _ _ (by omega) hq)
  refine canon_step3 (Val := Elt Ideal) (e := .f32) 0 512 0 i1 _ _ o r j _ (fun o' p q _ hp hq => ?_) (fun b1 => ?_)
  · obtain rfl : o' = 0 := Subsingleton.elim _ _
    exact (h1 p q).trans (key _ _ (by omega) hq)
  refine canon_step3 (Val := Elt Ideal) (e := .f32) 0 0 0 i0 _ _ o r j _ (fun o' p q _ hp hq => ?_) (fun b0 => absurd r.isLt (by omega))
  obtain rfl : o' = 0 := Subsingleton.elim _ _
  exact (h0 p q).trans (key _ _ (by omega) hq)

/-- Changes of shape that keep the values. -/
theorem cast_bias (v : FVec Ideal S256x1024 .f32) (w : Fin 256) (j : Fin 1024) : shapeCast S256x1024 v shapeCasts_S256x1024_S256x1024 (ix2 w j) = v (ix2 w j) := by pointwise
theorem cast_rows (v : FVec Ideal S1x512x1024 .f32) (t : Fin 512) (k : Fin 1024) : shapeCast S512x1024 v shapeCasts_S1x512x1024_S512x1024 (ix2 t k) = v (ix3 0 t k) := by pointwise
theorem rows_lo (v : FVec Ideal S512x1024 .f32) (t : Fin 256) (k : Fin 1024) : extractStridedSlice S256x1024 ![0, 0] v slices_S512x1024_o0_0_S256x1024 (ix2 t k) = v (ix2 ⟨t.val, by omega⟩ k) := by pointwise
theorem rows_hi (v : FVec Ideal S512x1024 .f32) (t : Fin 256) (k : Fin 1024) : extractStridedSlice S256x1024 ![256, 0] v slices_S512x1024_o256_0_S256x1024 (ix2 t k) = v (ix2 ⟨256 + t.val, by omega⟩ k) := by pointwise

/-- The mix of a token's two branches. -/
theorem mix_at (d : Data) (t k : ℕ) (a w : Fin 1024 → EReal) (ha : ∀ f, a f = d.act t f.val) (hw : ∀ f, w f = d.wo f.val k) : ∑ f, a f * w f = d.mix t k :=
  mix_sum d t k a w ha hw

/-- The normalized rows. -/
theorem out512_at (d : Data) (T : ℕ) (x : FVec Ideal S512x1024 .f32) (a : FVec Ideal S512x1024 .bf16) (w : FVec Ideal S1024x1024 .bf16) (gate g b : FVec Ideal S1x1024 .f32)
    (hx : ∀ t k, x (ix2 t k) = d.x (T + t.val) k.val) (ha : ∀ t f, a (ix2 t f) = d.act (T + t.val) f.val) (hw : ∀ f k, w (ix2 f k) = d.wo f.val k.val)
    (hgate : ∀ k, gate (ix2 0 k) = d.gate k.val) (hg : ∀ k, g (ix2 0 k) = d.g k.val) (hb : ∀ k, b (ix2 0 k) = d.b k.val) (p : Fin 512) (q : Fin 1024) :
    norm512 (resid512 x a w gate) g b (ix3 0 p q) = d.out (T + p.val) q := by
  rw [norm512_apply]
  unfold Data.out
  congr 1
  · funext k
    rw [resid512_apply, hx, hgate, mix_at d (T + p.val) k.val (fun f => a (ix2 p f)) (fun f => w (ix2 f k)) (fun f => ha p f) (fun f => hw f k)]
    rfl
  · exact funext hg
  · exact funext hb

theorem out256_at (d : Data) (T : ℕ) (x : FVec Ideal S256x1024 .f32) (a : FVec Ideal S256x1024 .bf16) (w : FVec Ideal S1024x1024 .bf16) (gate g b : FVec Ideal S1x1024 .f32)
    (hx : ∀ t k, x (ix2 t k) = d.x (T + t.val) k.val) (ha : ∀ t f, a (ix2 t f) = d.act (T + t.val) f.val) (hw : ∀ f k, w (ix2 f k) = d.wo f.val k.val)
    (hgate : ∀ k, gate (ix2 0 k) = d.gate k.val) (hg : ∀ k, g (ix2 0 k) = d.g k.val) (hb : ∀ k, b (ix2 0 k) = d.b k.val) (p : Fin 256) (q : Fin 1024) :
    norm256 (resid256 x a w gate) g b (ix3 0 p q) = d.out (T + p.val) q := by
  rw [norm256_apply]
  unfold Data.out
  congr 1
  · funext k
    rw [resid256_apply, hx, hgate, mix_at d (T + p.val) k.val (fun f => a (ix2 p f)) (fun f => w (ix2 f k)) (fun f => ha p f) (fun f => hw f k)]
    rfl
  · exact funext hg
  · exact funext hb

end Cert.MixerIdeal.Stage

end
-- ==== Proof.MixerShared.lean ====
/- What both kinds of grid point compute the same way: the modulated rows, the projections, the rotary angles, the queries,
   and each half's keys, values and later features. -/
module

public import proofs.«01_k».proof.Proof.MixerBuffers

@[expose] public section

set_option maxRecDepth 65536

noncomputable section

open Idealize.ShloMosaic Idealize.ShloMosaic.TcCoe Idealize.SL.Sem

namespace Cert.MixerIdeal.Point

open Cert.MixerIdeal Cert.MixerIdeal.Gen Cert.MixerIdeal.Stage Cert.Layer

/-- What a grid point reads, in the specification's terms: its thousand tokens start at row `1024 (i 1)`. -/
structure Reads (d : Data) (W : ℕ → BitVec 32) (i : grid0.Coords) (x0 : Vec Ideal S1x1024x1024 .f32) (x1 : Vec Ideal S9x16x1024 .f32) (x2 : Vec Ideal S1x1x1024 .i32)
    (x3 : Vec Ideal S8x1 .f32) (x4 : Vec Ideal S1x1024 .f32) (x5 : Vec Ideal S768x1024 .bf16) (x6 x7 : Vec Ideal S1024x768 .bf16) (x8 : Vec Ideal S3x512 .f32)
    (x9 : Vec Ideal S1024x1024 .bf16) (x10 x11 : Vec Ideal S1x1024 .f32) (x12 : Vec Ideal S256x1024 .f32) : Prop where
  fin : d.Finite
  pos : ∀ t, (((W t).toInt : ℝ) : EReal) = d.pos t
  x : ∀ (o : Fin 1) (r k : Fin 1024), x0 (ix3 o r k) = d.x (1024 * (i 1).val + r.val) k.val
  shift : ∀ (m : Fin 9) (b : Fin 16) (k : Fin 1024), m.val = 3 → b.val = (i 0).val → x1 (ix3 m b k) = d.shift k.val
  scale : ∀ (m : Fin 9) (b : Fin 16) (k : Fin 1024), m.val = 4 → b.val = (i 0).val → x1 (ix3 m b k) = d.scale k.val
  gate : ∀ (m : Fin 9) (b : Fin 16) (k : Fin 1024), m.val = 5 → b.val = (i 0).val → x1 (ix3 m b k) = d.gate k.val
  word : ∀ (o p : Fin 1) (r : Fin 1024), x2 (ix3 o p r) = W (1024 * (i 1).val + r.val)
  freq : ∀ (e : Fin 8) (o : Fin 1), x3 (ix2 e o) = d.freq e.val
  sink : ∀ (o : Fin 1) (j : Fin 1024), x4 (ix2 o j) = d.sink (j.val / 128)
  w0 : ∀ (f : Fin 768) (k : Fin 1024), x5 (ix2 f k) = d.w k.val f.val
  w1 : ∀ (k : Fin 1024) (f : Fin 768), x6 (ix2 k f) = d.w k.val (768 + f.val)
  w2 : ∀ (k : Fin 1024) (f : Fin 768), x7 (ix2 k f) = d.w k.val (1536 + f.val)
  cw : ∀ (p : Fin 3) (f : Fin 512), x8 (ix2 p f) = d.cw p.val f.val
  wo : ∀ f k : Fin 1024, x9 (ix2 f k) = d.wo f.val k.val
  g : ∀ (o : Fin 1) (k : Fin 1024), x10 (ix2 o k) = d.g k.val
  b : ∀ (o : Fin 1) (k : Fin 1024), x11 (ix2 o k) = d.b k.val
  bias : ∀ (w : Fin 256) (j : Fin 1024), x12 (ix2 w j) = if j.val % 128 < w.val ∧ w.val ≤ j.val % 128 + 128 then 0 else ⊥

/-- What the point before left: the keys, values and gated inputs just before row `t`. -/
structure Carry (d : Data) (t : ℕ) (k : Vec Ideal S1152x128 .bf16) (v : Vec Ideal S128x1152 .bf16) (z : Vec Ideal S4x1032x128 .f32) : Prop where
  key : ∀ (P : Fin 1152) (Q : Fin 128), P.val < 128 → k (ix2 P Q) = d.key (t + P.val) Q.val
  val : ∀ (P : Fin 128) (Q : Fin 1152), Q.val < 128 → v (ix2 P Q) = d.val (t + Q.val) P.val
  z : ∀ (J : Fin 4) (P : Fin 1032) (Q : Fin 128), P.val < 8 → z (ix3 J P Q) = d.z (t + P.val) (128 * J.val + Q.val)

theorem cast_k (v : FVec Ideal S128x128 .bf16) (p q : Fin 128) : shapeCast S128x128 v shapeCasts_S128x128_S128x128 (ix2 p q) = v (ix2 p q) := by pointwise
theorem cast_z (v : FVec Ideal S4x8x128 .f32) (o : Fin 4) (p : Fin 8) (q : Fin 128) : shapeCast S4x8x128 v shapeCasts_S4x8x128_S4x8x128 (ix3 o p q) = v (ix3 o p q) := by pointwise

/-- The program's word for a batch is the batch's number. -/
theorem word_val (n : ℕ) (h : n < 16) : BitVec.toNat (Scalar.indexCast (BitVec.ofNat 32 n)) = n := by
  simp [Scalar.indexCast]
  omega

variable {c : Dev nD} {i : grid0.Coords} {arg2 : Memref sig .tc .vmem S1x1024x1024 .f32} {harg2 : arg2.IsWhole} {arg3 : Memref sig .tc .vmem S9x16x1024 .f32} {harg3 : arg3.IsWhole} {arg4 : Memref sig .tc .vmem S1x1x1024 .i32} {harg4 : arg4.IsWhole} {arg5 : Memref sig .tc .vmem S8x1 .f32} {harg5 : arg5.IsWhole} {arg6 : Memref sig .tc .vmem S1x1024 .f32} {harg6 : arg6.IsWhole} {arg7 : Memref sig .tc .vmem S768x1024 .bf16} {harg7 : arg7.IsWhole} {arg8 : Memref sig .tc .vmem S1024x768 .bf16} {harg8 : arg8.IsWhole} {arg9 : Memref sig .tc .vmem S1024x768 .bf16} {harg9 : arg9.IsWhole} {arg10 : Memref sig .tc .vmem S3x512 .f32} {harg10 : arg10.IsWhole} {arg11 : Memref sig .tc .vmem S1024x1024 .bf16} {harg11 : arg11.IsWhole} {arg12 : Memref sig .tc .vmem S1x1024 .f32} {harg12 : arg12.IsWhole} {arg13 : Memref sig .tc .vmem S1x1024 .f32} {harg13 : arg13.IsWhole} {arg14 : Memref sig .tc .vmem S256x1024 .f32} {harg14 : arg14.IsWhole} {arg15 : Memref sig .tc .vmem S1x1024x1024 .f32} {harg15 : arg15.IsWhole} {arg16 : Memref sig .tc .vmem S1152x128 .bf16} {harg16 : arg16.IsWhole} {arg17 : Memref sig .tc .vmem S128x1152 .bf16} {harg17 : arg17.IsWhole} {arg18 : Memref sig .tc .vmem S4x1032x128 .f32} {harg18 : arg18.IsWhole} {arg19 : Memref sig .tc .vmem S1024x1024 .bf16} {harg19 : arg19.IsWhole} {arg20 : Memref sig .tc .vmem S768x1024 .f32} {harg20 : arg20.IsWhole} {arg21 : Memref sig .tc .vmem S4x128x1024 .bf16} {harg21 : arg21.IsWhole} {arg22 : Memref sig .tc .vmem S512x1024 .bf16} {harg22 : arg22.IsWhole} {arg23 : Memref sig .tc .vmem S512x1536 .f32} {harg23 : arg23.IsWhole} {arg24 : Memref sig .tc .vmem S4x128x1024 .bf16} {harg24 : arg24.IsWhole} {arg25 : Memref sig .tc .vmem S512x1024 .bf16} {harg25 : arg25.IsWhole} {arg26 : Memref sig .tc .vmem S512x1536 .f32} {harg26 : arg26.IsWhole}
    {x0 : Vec Ideal S1x1024x1024 .f32} {x1 : Vec Ideal S9x16x1024 .f32} {x2 : Vec Ideal S1x1x1024 .i32} {x3 : Vec Ideal S8x1 .f32} {x4 : Vec Ideal S1x1024 .f32} {x5 : Vec Ideal S768x1024 .bf16} {x6 : Vec Ideal S1024x768 .bf16} {x7 : Vec Ideal S1024x768 .bf16} {x8 : Vec Ideal S3x512 .f32} {x9 : Vec Ideal S1024x1024 .bf16} {x10 : Vec Ideal S1x1024 .f32} {x11 : Vec Ideal S1x1024 .f32} {x12 : Vec Ideal S256x1024 .f32}

/-- The modulated rows' buffer. -/
theorem hall {d : Data} {W : ℕ → BitVec 32} (hR : Reads d W i x0 x1 x2 x3 x4 x5 x6 x7 x8 x9 x10 x11 x12) (t k : Fin 1024) : View.canon (kernelRun0_A.sl.HS3_1 (F := Ideal) c i arg2 harg2 arg3 harg3 x0 x1) (ix2 t k) = d.h ((1024 * (i 1).val) + t.val) k.val := by
  have hb : (i 0).val < 16 := (i 0).isLt
  refine canon_step2 (Val := Elt Ideal) (e := .bf16) 0 0 _ _ _ t k _ (fun p q hp hq => ?_) (fun h => absurd (by omega) h)
  refine Eq.trans (h_at d (1024 * (i 1).val) _ _ _ (fun t k => ?_) (fun k => ?_) (fun k => ?_) p q) (by congr 1 <;> omega)
  · exact at3 0 0 0 _ harg2 x0 0 t k _ fun O P Q _ h1 h2 => (hR.x O P Q).trans (by congr 1 <;> omega)
  · exact at3 4 (BitVec.toNat (Scalar.indexCast (BitVec.ofNat 32 (i 0).val))) 0 _ harg3 x1 0 0 k _ fun O P Q h0 h1 h2 =>
      (hR.scale O P Q h0 (by rw [h1, word_val _ hb]; simp)).trans (by congr 1; omega)
  · exact at3 3 (BitVec.toNat (Scalar.indexCast (BitVec.ofNat 32 (i 0).val))) 0 _ harg3 x1 0 0 k _ fun O P Q h0 h1 h2 =>
      (hR.shift O P Q h0 (by rw [h1, word_val _ hb]; simp)).trans (by congr 1; omega)

/-- The first projection's buffer. -/
theorem ptall {d : Data} {W : ℕ → BitVec 32} (hR : Reads d W i x0 x1 x2 x3 x4 x5 x6 x7 x8 x9 x10 x11 x12) (f : Fin 768) (t : Fin 1024) : View.canon (kernelRun0_A.sl.HS4_1 (F := Ideal) c i arg2 harg2 arg3 harg3 arg7 harg7 arg19 x0 x1 x5) (ix2 f t) = d.proj ((1024 * (i 1).val) + t.val) f.val := by
  refine canon_step2 (Val := Elt Ideal) (e := .f32) 0 0 _ _ _ f t _ (fun p q hp hq => ?_) (fun h => absurd (by omega) h)
  refine Eq.trans (front_at d (1024 * (i 1).val) _ _ (fun f k => ?_) (fun t k => ?_) p q) (by congr 1 <;> omega)
  · exact at2 0 0 _ harg7 x5 f k _ fun P Q h1 h2 => (hR.w0 P Q).trans (by congr 1 <;> omega)
  · exact cov2 0 0 _ _ _ t k _ fun P Q h1 h2 => (hall hR P Q).trans (by congr 1 <;> omega)

/-- Loads of some features of one half of the tokens. -/
theorem feats {d : Data} {W : ℕ → BitVec 32} (hR : Reads d W i x0 x1 x2 x3 x4 x5 x6 x7 x8 x9 x10 x11 x12) {m : ℕ} (t0 f0 : ℕ) (inb : ∀ x, (![0, t0] : Fin 2 → ℕ) x + (⟨2, ![768, 512]⟩ : Shape).size x ≤ (⟨2, ![768, 1024]⟩ : Shape).size x)
    (inb' : ∀ x, (![f0, 0] : Fin 2 → ℕ) x + (⟨2, ![m, 512]⟩ : Shape).size x ≤ (⟨2, ![768, 512]⟩ : Shape).size x) (h₀) (e : Fin m) (r : Fin 512) :
    arg20.view.readCov (kernelRun0_A.sl.HS4_1 (F := Ideal) c i arg2 harg2 arg3 harg3 arg7 harg7 arg19 x0 x1 x5) ((Rect.unit (s := ⟨2, ![768, 1024]⟩) ![0, t0] (⟨2, ![768, 512]⟩ : Shape).size inb).withinL
      (Rect.unit (s := ⟨2, ![768, 512]⟩) ![f0, 0] (⟨2, ![m, 512]⟩ : Shape).size inb').toLoadRect h₀) (ix2 e r) = d.proj ((1024 * (i 1).val) + t0 + r.val) (f0 + e.val) :=
  covSlice2 0 t0 inb f0 0 inb' h₀ arg20.view _ e r _ fun P Q h1 h2 => (ptall hR P Q).trans (by congr 1 <;> omega)

/-- The rotary angles' cosines and sines for each half. -/
theorem ang0 {d : Data} {W : ℕ → BitVec 32} (hR : Reads d W i x0 x1 x2 x3 x4 x5 x6 x7 x8 x9 x10 x11 x12) (e : Fin 8) (r : Fin 512) : (kernelRun0_A.sl.v52 (F := Ideal) c arg4 harg4 arg5 harg5 x2 x3) (ix2 e r) = d.ang ((1024 * (i 1).val) + r.val) e.val := by
  refine angles_at d (1024 * (i 1).val) W hR.pos _ _ (fun e => ?_) (fun r => ?_) e r
  · exact at2 0 0 _ harg5 x3 e 0 _ fun P Q h1 h2 => (hR.freq P Q).trans (by congr 1; omega)
  · exact at3 0 0 0 _ harg4 x2 0 0 r _ fun O P Q h0 h1 h2 => (hR.word O P Q).trans (by congr 1; omega)
theorem ang1 {d : Data} {W : ℕ → BitVec 32} (hR : Reads d W i x0 x1 x2 x3 x4 x5 x6 x7 x8 x9 x10 x11 x12) (e : Fin 8) (r : Fin 512) : (kernelRun0_A.sl.v794 (F := Ideal) c arg4 harg4 arg5 harg5 x2 x3) (ix2 e r) = d.ang ((1024 * (i 1).val) + 512 + r.val) e.val := by
  refine angles_at d (1024 * (i 1).val + 512) W hR.pos _ _ (fun e => ?_) (fun r => ?_) e r
  · exact at2 0 0 _ harg5 x3 e 0 _ fun P Q h1 h2 => (hR.freq P Q).trans (by congr 1; omega)
  · exact at3 0 0 512 _ harg4 x2 0 0 r _ fun O P Q h0 h1 h2 => (hR.word O P Q).trans (by congr 1; omega)
theorem cos0 {d : Data} {W : ℕ → BitVec 32} (hR : Reads d W i x0 x1 x2 x3 x4 x5 x6 x7 x8 x9 x10 x11 x12) (e : Fin 8) (r : Fin 512) : (kernelRun0_A.sl.v53 (F := Ideal) c arg4 harg4 arg5 harg5 x2 x3) (ix2 e r) = Ideal.cos (d.ang ((1024 * (i 1).val) + 0 + r.val) e.val) := congrArg Ideal.cos (ang0 hR e r)
theorem sin0 {d : Data} {W : ℕ → BitVec 32} (hR : Reads d W i x0 x1 x2 x3 x4 x5 x6 x7 x8 x9 x10 x11 x12) (e : Fin 8) (r : Fin 512) : (kernelRun0_A.sl.v54 (F := Ideal) c arg4 harg4 arg5 harg5 x2 x3) (ix2 e r) = Ideal.sin (d.ang ((1024 * (i 1).val) + 0 + r.val) e.val) := congrArg Ideal.sin (ang0 hR e r)
theorem cos1 {d : Data} {W : ℕ → BitVec 32} (hR : Reads d W i x0 x1 x2 x3 x4 x5 x6 x7 x8 x9 x10 x11 x12) (e : Fin 8) (r : Fin 512) : (kernelRun0_A.sl.r_16 (F := Ideal) c arg4 harg4 arg5 harg5 x2 x3) (ix2 e r) = Ideal.cos (d.ang ((1024 * (i 1).val) + 512 + r.val) e.val) := congrArg Ideal.cos (ang1 hR e r)
theorem sin1 {d : Data} {W : ℕ → BitVec 32} (hR : Reads d W i x0 x1 x2 x3 x4 x5 x6 x7 x8 x9 x10 x11 x12) (e : Fin 8) (r : Fin 512) : (kernelRun0_A.sl.r_17 (F := Ideal) c arg4 harg4 arg5 harg5 x2 x3) (ix2 e r) = Ideal.sin (d.ang ((1024 * (i 1).val) + 512 + r.val) e.val) := congrArg Ideal.sin (ang1 hR e r)

theorem zero_q (o : Fin 4) (p : Fin 128) (q : Fin 1024) : shapeCast S4x128x1024 (broadcast S4x128x1024 (Scalar.ofBits .bf16 0x0000#16) : FVec Ideal S4x128x1024 .bf16) shapeCasts_S4x128x1024_S4x128x1024 (ix3 o p q) = 0 := by
  pointwise

/-- The scaled queries of each half, block diagonal. -/
theorem queries0 {d : Data} {W : ℕ → BitVec 32} (hR : Reads d W i x0 x1 x2 x3 x4 x5 x6 x7 x8 x9 x10 x11 x12) (l : Fin 4) (i' : Fin 128) (j : Fin 1024) : View.canon (kernelRun0_A.sl.HS5_33 (F := Ideal) c i arg2 harg2 arg3 harg3 arg4 harg4 arg5 harg5 arg7 harg7 arg19 arg20 x0 x1 x2 x3 x5) (ix3 l i' j)
    = if i'.val / 64 = j.val / 512 then d.rope ((1024 * (i 1).val) + 0 + 128 * l.val + j.val % 128) (64 * (j.val / 128)) (i'.val % 64) * qscale else 0 := by
  refine canon_head d ((1024 * (i 1).val) + 0) 7 64 896 rfl rfl _ _ _ (cos0 hR) (sin0 hR) (feats hR 0 448 _ _ _) _ _ _ _ _ l i' j fun h7 => ?_
  refine canon_head d ((1024 * (i 1).val) + 0) 6 64 768 rfl rfl _ _ _ (cos0 hR) (sin0 hR) (feats hR 0 384 _ _ _) _ _ _ _ _ l i' j fun h6 => ?_
  refine canon_head d ((1024 * (i 1).val) + 0) 5 64 640 rfl rfl _ _ _ (cos0 hR) (sin0 hR) (feats hR 0 320 _ _ _) _ _ _ _ _ l i' j fun h5 => ?_
  refine canon_head d ((1024 * (i 1).val) + 0) 4 64 512 rfl rfl _ _ _ (cos0 hR) (sin0 hR) (feats hR 0 256 _ _ _) _ _ _ _ _ l i' j fun h4 => ?_
  refine canon_head d ((1024 * (i 1).val) + 0) 3 0 384 rfl rfl _ _ _ (cos0 hR) (sin0 hR) (feats hR 0 192 _ _ _) _ _ _ _ _ l i' j fun h3 => ?_
  refine canon_head d ((1024 * (i 1).val) + 0) 2 0 256 rfl rfl _ _ _ (cos0 hR) (sin0 hR) (feats hR 0 128 _ _ _) _ _ _ _ _ l i' j fun h2 => ?_
  refine canon_head d ((1024 * (i 1).val) + 0) 1 0 128 rfl rfl _ _ _ (cos0 hR) (sin0 hR) (feats hR 0 64 _ _ _) _ _ _ _ _ l i' j fun h1 => ?_
  refine canon_head d ((1024 * (i 1).val) + 0) 0 0 0 rfl rfl _ _ _ (cos0 hR) (sin0 hR) (feats hR 0 0 _ _ _) _ _ _ _ _ l i' j fun h0 => ?_
  rw [if_neg (by omega)]
  exact canon_step3 (Val := Elt Ideal) (e := .bf16) 0 0 0 _ _ _ l i' j _ (fun o p q _ _ _ => zero_q o p q) (fun h => absurd (by omega) h)
theorem queries1 {d : Data} {W : ℕ → BitVec 32} (hR : Reads d W i x0 x1 x2 x3 x4 x5 x6 x7 x8 x9 x10 x11 x12) (l : Fin 4) (i' : Fin 128) (j : Fin 1024) : View.canon (kernelRun0_A.sl.HS8_33 (F := Ideal) c i arg2 harg2 arg3 harg3 arg4 harg4 arg5 harg5 arg7 harg7 arg19 arg20 x0 x1 x2 x3 x5) (ix3 l i' j)
    = if i'.val / 64 = j.val / 512 then d.rope ((1024 * (i 1).val) + 512 + 128 * l.val + j.val % 128) (64 * (j.val / 128)) (i'.val % 64) * qscale else 0 := by
  refine canon_head d ((1024 * (i 1).val) + 512) 7 64 896 rfl rfl _ _ _ (cos1 hR) (sin1 hR) (feats hR 512 448 _ _ _) _ _ _ _ _ l i' j fun h7 => ?_
  refine canon_head d ((1024 * (i 1).val) + 512) 6 64 768 rfl rfl _ _ _ (cos1 hR) (sin1 hR) (feats hR 512 384 _ _ _) _ _ _ _ _ l i' j fun h6 => ?_
  refine canon_head d ((1024 * (i 1).val) + 512) 5 64 640 rfl rfl _ _ _ (cos1 hR) (sin1 hR) (feats hR 512 320 _ _ _) _ _ _ _ _ l i' j fun h5 => ?_
  refine canon_head d ((1024 * (i 1).val) + 512) 4 64 512 rfl rfl _ _ _ (cos1 hR) (sin1 hR) (feats hR 512 256 _ _ _) _ _ _ _ _ l i' j fun h4 => ?_
  refine canon_head d ((1024 * (i 1).val) + 512) 3 0 384 rfl rfl _ _ _ (cos1 hR) (sin1 hR) (feats hR 512 192 _ _ _) _ _ _ _ _ l i' j fun h3 => ?_
  refine canon_head d ((1024 * (i 1).val) + 512) 2 0 256 rfl rfl _ _ _ (cos1 hR) (sin1 hR) (feats hR 512 128 _ _ _) _ _ _ _ _ l i' j fun h2 => ?_
  refine canon_head d ((1024 * (i 1).val) + 512) 1 0 128 rfl rfl _ _ _ (cos1 hR) (sin1 hR) (feats hR 512 64 _ _ _) _ _ _ _ _ l i' j fun h1 => ?_
  refine canon_head d ((1024 * (i 1).val) + 512) 0 0 0 rfl rfl _ _ _ (cos1 hR) (sin1 hR) (feats hR 512 0 _ _ _) _ _ _ _ _ l i' j fun h0 => ?_
  rw [if_neg (by omega)]
  exact canon_step3 (Val := Elt Ideal) (e := .bf16) 0 0 0 _ _ _ l i' j _ (fun o p q _ _ _ => zero_q o p q) (fun h => absurd (by omega) h)

/-- Each half's keys and values. -/
theorem keys0 {d : Data} {W : ℕ → BitVec 32} (hR : Reads d W i x0 x1 x2 x3 x4 x5 x6 x7 x8 x9 x10 x11 x12) (r : Fin 512) (f : Fin 128) : (kernelRun0_A.sl.v336 (F := Ideal) c i arg2 harg2 arg3 harg3 arg4 harg4 arg5 harg5 arg7 harg7 arg19 arg20 x0 x1 x2 x3 x5) (ix2 r f) = d.key ((1024 * (i 1).val) + 128 + r.val) f.val :=
  (keys_at d ((1024 * (i 1).val) + 0) _ _ _ _ (cos0 hR) (sin0 hR) (feats hR 0 512 _ _ _) (feats hR 0 576 _ _ _) r f).trans (by congr 1; omega)
theorem keys1 {d : Data} {W : ℕ → BitVec 32} (hR : Reads d W i x0 x1 x2 x3 x4 x5 x6 x7 x8 x9 x10 x11 x12) (r : Fin 512) (f : Fin 128) : (kernelRun0_A.sl.v1078 (F := Ideal) c i arg2 harg2 arg3 harg3 arg4 harg4 arg5 harg5 arg7 harg7 arg19 arg20 x0 x1 x2 x3 x5) (ix2 r f) = d.key ((1024 * (i 1).val) + 640 + r.val) f.val :=
  (keys_at d ((1024 * (i 1).val) + 512) _ _ _ _ (cos1 hR) (sin1 hR) (feats hR 512 512 _ _ _) (feats hR 512 576 _ _ _) r f).trans (by congr 1; omega)
theorem vals0 {d : Data} {W : ℕ → BitVec 32} (hR : Reads d W i x0 x1 x2 x3 x4 x5 x6 x7 x8 x9 x10 x11 x12) (f : Fin 128) (r : Fin 512) : (kernelRun0_A.sl.v342 (F := Ideal) c i arg2 harg2 arg3 harg3 arg7 harg7 arg19 arg20 x0 x1 x5) (ix2 f r) = d.val ((1024 * (i 1).val) + 128 + r.val) f.val :=
  (vals_at d ((1024 * (i 1).val) + 0) _ (feats hR 0 640 _ _ _) f r).trans (by congr 1; omega)
theorem vals1 {d : Data} {W : ℕ → BitVec 32} (hR : Reads d W i x0 x1 x2 x3 x4 x5 x6 x7 x8 x9 x10 x11 x12) (f : Fin 128) (r : Fin 512) : (kernelRun0_A.sl.v1084 (F := Ideal) c i arg2 harg2 arg3 harg3 arg7 harg7 arg19 arg20 x0 x1 x5) (ix2 f r) = d.val ((1024 * (i 1).val) + 640 + r.val) f.val :=
  (vals_at d ((1024 * (i 1).val) + 512) _ (feats hR 512 640 _ _ _) f r).trans (by congr 1; omega)

/-- The later features' loads and tiles. -/
theorem wtile {d : Data} {W : ℕ → BitVec 32} (hR : Reads d W i x0 x1 x2 x3 x4 x5 x6 x7 x8 x9 x10 x11 x12) (a : ℕ) (inb : ∀ x, (![0, a] : Fin 2 → ℕ) x + (⟨2, ![1024, 256]⟩ : Shape).size x ≤ (⟨2, ![1024, 768]⟩ : Shape).size x) (k : Fin 1024) (f : Fin 256) :
    View.readAt (Elt Ideal) arg8.view (Rect.unit (s := ⟨2, ![1024, 768]⟩) ![0, a] (⟨2, ![1024, 256]⟩ : Shape).size inb).toLoadRect (harg8.unread x6) (ix2 k f) = d.w k.val (768 + a + f.val) :=
  at2 0 a inb harg8 x6 k f _ fun P Q h1 h2 => (hR.w1 P Q).trans (by congr 1 <;> omega)
theorem wtile' {d : Data} {W : ℕ → BitVec 32} (hR : Reads d W i x0 x1 x2 x3 x4 x5 x6 x7 x8 x9 x10 x11 x12) (a : ℕ) (inb : ∀ x, (![0, a] : Fin 2 → ℕ) x + (⟨2, ![1024, 256]⟩ : Shape).size x ≤ (⟨2, ![1024, 768]⟩ : Shape).size x) (k : Fin 1024) (f : Fin 256) :
    View.readAt (Elt Ideal) arg9.view (Rect.unit (s := ⟨2, ![1024, 768]⟩) ![0, a] (⟨2, ![1024, 256]⟩ : Shape).size inb).toLoadRect (harg9.unread x7) (ix2 k f) = d.w k.val (768 + (768 + a) + f.val) :=
  at2 0 a inb harg9 x7 k f _ fun P Q h1 h2 => (hR.w2 P Q).trans (by congr 1 <;> omega)
theorem hload {d : Data} {W : ℕ → BitVec 32} (hR : Reads d W i x0 x1 x2 x3 x4 x5 x6 x7 x8 x9 x10 x11 x12) (t0 : ℕ) (inb : ∀ x, (![t0, 0] : Fin 2 → ℕ) x + (⟨2, ![512, 1024]⟩ : Shape).size x ≤ (⟨2, ![1024, 1024]⟩ : Shape).size x) (t : Fin 512) (k : Fin 1024) :
    arg19.view.readCov (kernelRun0_A.sl.HS3_1 (F := Ideal) c i arg2 harg2 arg3 harg3 x0 x1) (Rect.unit (s := ⟨2, ![1024, 1024]⟩) ![t0, 0] (⟨2, ![512, 1024]⟩ : Shape).size inb).toLoadRect (ix2 t k) = d.h ((1024 * (i 1).val) + t0 + t.val) k.val :=
  cov2 t0 0 inb _ _ t k _ fun P Q h1 h2 => (hall hR P Q).trans (by congr 1 <;> omega)

/-- Each half's later features. -/
theorem later0 {d : Data} {W : ℕ → BitVec 32} (hR : Reads d W i x0 x1 x2 x3 x4 x5 x6 x7 x8 x9 x10 x11 x12) (P : Fin 512) (Q : Fin 1536) : View.canon (kernelRun0_A.sl.HS7_6 (F := Ideal) c i arg2 harg2 arg3 harg3 arg8 harg8 arg9 harg9 arg19 x0 x1 x6 x7) (ix2 P Q) = d.proj ((1024 * (i 1).val) + 0 + P.val) (768 + Q.val) := by
  refine canon_tile d ((1024 * (i 1).val) + 0) 1280 _ (tile_at d _ (768 + 1280) _ _ (hload hR 0 _) (wtile' hR 512 _)) _ _ P Q fun h5 => ?_
  refine canon_tile d ((1024 * (i 1).val) + 0) 1024 _ (tile_at d _ (768 + 1024) _ _ (hload hR 0 _) (wtile' hR 256 _)) _ _ P Q fun h4 => ?_
  refine canon_tile d ((1024 * (i 1).val) + 0) 768 _ (tile_at d _ (768 + 768) _ _ (hload hR 0 _) (wtile' hR 0 _)) _ _ P Q fun h3 => ?_
  refine canon_tile d ((1024 * (i 1).val) + 0) 512 _ (tile_at d _ (768 + 512) _ _ (hload hR 0 _) (wtile hR 512 _)) _ _ P Q fun h2 => ?_
  refine canon_tile d ((1024 * (i 1).val) + 0) 256 _ (tile_at d _ (768 + 256) _ _ (hload hR 0 _) (wtile hR 256 _)) _ _ P Q fun h1 => ?_
  exact canon_tile d ((1024 * (i 1).val) + 0) 0 _ (tile_at d _ (768 + 0) _ _ (hload hR 0 _) (wtile hR 0 _)) _ _ P Q fun h0 => absurd Q.isLt (by omega)
theorem later1 {d : Data} {W : ℕ → BitVec 32} (hR : Reads d W i x0 x1 x2 x3 x4 x5 x6 x7 x8 x9 x10 x11 x12) (P : Fin 512) (Q : Fin 1536) : View.canon (kernelRun0_A.sl.HS10_6 (F := Ideal) c i arg2 harg2 arg3 harg3 arg8 harg8 arg9 harg9 arg19 x0 x1 x6 x7) (ix2 P Q) = d.proj ((1024 * (i 1).val) + 512 + P.val) (768 + Q.val) := by
  refine canon_tile d ((1024 * (i 1).val) + 512) 1280 _ (tile_at d _ (768 + 1280) _ _ (hload hR 512 _) (wtile' hR 512 _)) _ _ P Q fun h5 => ?_
  refine canon_tile d ((1024 * (i 1).val) + 512) 1024 _ (tile_at d _ (768 + 1024) _ _ (hload hR 512 _) (wtile' hR 256 _)) _ _ P Q fun h4 => ?_
  refine canon_tile d ((1024 * (i 1).val) + 512) 768 _ (tile_at d _ (768 + 768) _ _ (hload hR 512 _) (wtile' hR 0 _)) _ _ P Q fun h3 => ?_
  refine canon_tile d ((1024 * (i 1).val) + 512) 512 _ (tile_at d _ (768 + 512) _ _ (hload hR 512 _) (wtile hR 512 _)) _ _ P Q fun h2 => ?_
  refine canon_tile d ((1024 * (i 1).val) + 512) 256 _ (tile_at d _ (768 + 256) _ _ (hload hR 512 _) (wtile hR 256 _)) _ _ P Q fun h1 => ?_
  exact canon_tile d ((1024 * (i 1).val) + 512) 0 _ (tile_at d _ (768 + 0) _ _ (hload hR 512 _) (wtile hR 0 _)) _ _ P Q fun h0 => absurd Q.isLt (by omega)

/-- Panel `k` of one of the three parts of the later features. -/
theorem part0 {d : Data} {W : ℕ → BitVec 32} (hR : Reads d W i x0 x1 x2 x3 x4 x5 x6 x7 x8 x9 x10 x11 x12) (a b k : ℕ) (hb : 768 + a = b + 128 * k) (inb : ∀ x, (![0, a] : Fin 2 → ℕ) x + (⟨2, ![512, 128]⟩ : Shape).size x ≤ (⟨2, ![512, 1536]⟩ : Shape).size x) (p : Fin 512) (q : Fin 128) :
    arg23.view.readCov (kernelRun0_A.sl.HS7_6 (F := Ideal) c i arg2 harg2 arg3 harg3 arg8 harg8 arg9 harg9 arg19 x0 x1 x6 x7) (Rect.unit (s := ⟨2, ![512, 1536]⟩) ![0, a] (⟨2, ![512, 128]⟩ : Shape).size inb).toLoadRect (ix2 p q) = d.proj ((1024 * (i 1).val) + 0 + p.val) (b + (128 * k + q.val)) :=
  cov2 0 a inb _ _ p q _ fun P Q h1 h2 => (later0 hR P Q).trans (by congr 1 <;> omega)
theorem part1 {d : Data} {W : ℕ → BitVec 32} (hR : Reads d W i x0 x1 x2 x3 x4 x5 x6 x7 x8 x9 x10 x11 x12) (a b k : ℕ) (hb : 768 + a = b + 128 * k) (inb : ∀ x, (![0, a] : Fin 2 → ℕ) x + (⟨2, ![512, 128]⟩ : Shape).size x ≤ (⟨2, ![512, 1536]⟩ : Shape).size x) (p : Fin 512) (q : Fin 128) :
    arg26.view.readCov (kernelRun0_A.sl.HS10_6 (F := Ideal) c i arg2 harg2 arg3 harg3 arg8 harg8 arg9 harg9 arg19 x0 x1 x6 x7) (Rect.unit (s := ⟨2, ![512, 1536]⟩) ![0, a] (⟨2, ![512, 128]⟩ : Shape).size inb).toLoadRect (ix2 p q) = d.proj ((1024 * (i 1).val) + 512 + p.val) (b + (128 * k + q.val)) :=
  cov2 0 a inb _ _ p q _ fun P Q h1 h2 => (later1 hR P Q).trans (by congr 1 <;> omega)

/-- The smaller operands. -/
theorem sink_r {d : Data} {W : ℕ → BitVec 32} (hR : Reads d W i x0 x1 x2 x3 x4 x5 x6 x7 x8 x9 x10 x11 x12) (j : Fin 1024) : (kernelRun0_A.sl.r_1 (F := Ideal) c arg6 harg6 x4) (ix2 0 j) = d.sink (j.val / 128) * L2 :=
  (sink_apply _ j).trans (congrArg (· * L2) (at2 0 0 _ harg6 x4 0 j _ fun P Q h1 h2 => (hR.sink P Q).trans (by congr 1; omega)))
theorem gate_r {d : Data} {W : ℕ → BitVec 32} (hR : Reads d W i x0 x1 x2 x3 x4 x5 x6 x7 x8 x9 x10 x11 x12) (k : Fin 1024) : (kernelRun0_A.sl.r (F := Ideal) c i arg3 harg3 x1) (ix2 0 k) = d.gate k.val := by
  have hb : (i 0).val < 16 := (i 0).isLt
  refine (gate_apply _ k).trans ?_
  exact at3 5 (BitVec.toNat (Scalar.indexCast (BitVec.ofNat 32 (i 0).val))) 0 _ harg3 x1 0 0 k _ fun O P Q h0 h1 h2 =>
      (hR.gate O P Q h0 (by rw [h1, word_val _ hb]; simp)).trans (by congr 1; omega)
theorem bias_r {d : Data} {W : ℕ → BitVec 32} (hR : Reads d W i x0 x1 x2 x3 x4 x5 x6 x7 x8 x9 x10 x11 x12) (w : Fin 256) (j : Fin 1024) : (kernelRun0_A.sl.v355 (F := Ideal) c arg14 harg14 x12) (ix2 w j) = if j.val % 128 < w.val ∧ w.val ≤ j.val % 128 + 128 then 0 else ⊥ :=
  (cast_bias _ w j).trans (at2 0 0 _ harg14 x12 w j _ fun P Q h1 h2 => by
    obtain rfl : P = w := Fin.ext (by omega)
    obtain rfl : Q = j := Fin.ext (by omega)
    exact hR.bias P Q)
theorem cw_r {d : Data} {W : ℕ → BitVec 32} (hR : Reads d W i x0 x1 x2 x3 x4 x5 x6 x7 x8 x9 x10 x11 x12) (m a : ℕ) (inb : ∀ x, (![m, a] : Fin 2 → ℕ) x + (⟨2, ![1, 128]⟩ : Shape).size x ≤ (⟨2, ![3, 512]⟩ : Shape).size x) (q : Fin 128) :
    View.readAt (Elt Ideal) arg10.view (Rect.unit (s := ⟨2, ![3, 512]⟩) ![m, a] (⟨2, ![1, 128]⟩ : Shape).size inb).toLoadRect (harg10.unread x8) (ix2 0 q) = d.cw m (a + q.val) :=
  at2 m a inb harg10 x8 0 q _ fun P Q h1 h2 => (hR.cw P Q).trans (by rw [h1, h2]; rfl)

/-- The panels of the convolution's gated input. -/
theorem gated0 {d : Data} {W : ℕ → BitVec 32} (hR : Reads d W i x0 x1 x2 x3 x4 x5 x6 x7 x8 x9 x10 x11 x12) (k a b : ℕ) (ha : 1024 + 128 * k = a) (hb : 128 * k = b) (inb inb') (p : Fin 512) (q : Fin 128) :
    zput (arg23.view.readCov (kernelRun0_A.sl.HS7_6 (F := Ideal) c i arg2 harg2 arg3 harg3 arg8 harg8 arg9 harg9 arg19 x0 x1 x6 x7) (Rect.unit (s := ⟨2, ![512, 1536]⟩) ![0, a] (⟨2, ![512, 128]⟩ : Shape).size inb).toLoadRect)
      (arg23.view.readCov (kernelRun0_A.sl.HS7_6 (F := Ideal) c i arg2 harg2 arg3 harg3 arg8 harg8 arg9 harg9 arg19 x0 x1 x6 x7) (Rect.unit (s := ⟨2, ![512, 1536]⟩) ![0, b] (⟨2, ![512, 128]⟩ : Shape).size inb').toLoadRect) (ix3 0 p q) = d.z ((1024 * (i 1).val) + 8 + p.val) (128 * k + q.val) :=
  (zput_at d ((1024 * (i 1).val) + 0) k _ _ (part0 hR a 1792 k (by omega) inb) (part0 hR b 768 k (by omega) inb') p q).trans (by congr 1 <;> omega)
theorem gated1 {d : Data} {W : ℕ → BitVec 32} (hR : Reads d W i x0 x1 x2 x3 x4 x5 x6 x7 x8 x9 x10 x11 x12) (k a b : ℕ) (ha : 1024 + 128 * k = a) (hb : 128 * k = b) (inb inb') (p : Fin 512) (q : Fin 128) :
    zput (arg26.view.readCov (kernelRun0_A.sl.HS10_6 (F := Ideal) c i arg2 harg2 arg3 harg3 arg8 harg8 arg9 harg9 arg19 x0 x1 x6 x7) (Rect.unit (s := ⟨2, ![512, 1536]⟩) ![0, a] (⟨2, ![512, 128]⟩ : Shape).size inb).toLoadRect)
      (arg26.view.readCov (kernelRun0_A.sl.HS10_6 (F := Ideal) c i arg2 harg2 arg3 harg3 arg8 harg8 arg9 harg9 arg19 x0 x1 x6 x7) (Rect.unit (s := ⟨2, ![512, 1536]⟩) ![0, b] (⟨2, ![512, 128]⟩ : Shape).size inb').toLoadRect) (ix3 0 p q) = d.z ((1024 * (i 1).val) + 520 + p.val) (128 * k + q.val) :=
  (zput_at d ((1024 * (i 1).val) + 512) k _ _ (part1 hR a 1792 k (by omega) inb) (part1 hR b 768 k (by omega) inb') p q).trans (by congr 1 <;> omega)

/-! ## The buffers that carry rows from the point before

Over whatever `L` left in the first rows, the pieces each point stores. -/

theorem kbuf0 {d : Data} {W : ℕ → BitVec 32} (hR : Reads d W i x0 x1 x2 x3 x4 x5 x6 x7 x8 x9 x10 x11 x12) (L : List (View.Piece (Elt Ideal) S1152x128 .bf16)) (P : Fin 1152) (Q : Fin 128) (hL : P.val < 128 → View.canon L (ix2 P Q) = d.key ((1024 * (i 1).val) + P.val) Q.val)
    (hc : P.val < 640) : View.canon ((kernelRun0_B.sl.HS0_1 (F := Ideal) c i arg2 harg2 arg3 harg3 arg4 harg4 arg5 harg5 arg7 harg7 arg19 arg20 x0 x1 x2 x3 x5) ++ L) (ix2 P Q) = d.key ((1024 * (i 1).val) + P.val) Q.val :=
  canon_keys d (1024 * (i 1).val) 128 _ (keys0 hR) _ _ P Q fun h => hL (by omega)
theorem kbuf1 {d : Data} {W : ℕ → BitVec 32} (hR : Reads d W i x0 x1 x2 x3 x4 x5 x6 x7 x8 x9 x10 x11 x12) (L : List (View.Piece (Elt Ideal) S1152x128 .bf16)) (P : Fin 1152) (Q : Fin 128) (hL : P.val < 128 → View.canon L (ix2 P Q) = d.key ((1024 * (i 1).val) + P.val) Q.val) :
    View.canon ((kernelRun0_B.sl.HS0_2 (F := Ideal) c i arg2 harg2 arg3 harg3 arg4 harg4 arg5 harg5 arg7 harg7 arg19 arg20 x0 x1 x2 x3 x5) ++ L) (ix2 P Q) = d.key ((1024 * (i 1).val) + P.val) Q.val :=
  canon_keys d (1024 * (i 1).val) 640 _ (keys1 hR) _ _ P Q fun h => kbuf0 hR L P Q hL (by omega)
theorem vbuf0 {d : Data} {W : ℕ → BitVec 32} (hR : Reads d W i x0 x1 x2 x3 x4 x5 x6 x7 x8 x9 x10 x11 x12) (L : List (View.Piece (Elt Ideal) S128x1152 .bf16)) (P : Fin 128) (Q : Fin 1152) (hL : Q.val < 128 → View.canon L (ix2 P Q) = d.val ((1024 * (i 1).val) + Q.val) P.val)
    (hc : Q.val < 640) : View.canon ((kernelRun0_B.sl.HS1_1 (F := Ideal) c i arg2 harg2 arg3 harg3 arg7 harg7 arg19 arg20 x0 x1 x5) ++ L) (ix2 P Q) = d.val ((1024 * (i 1).val) + Q.val) P.val :=
  canon_vals d (1024 * (i 1).val) 128 _ (vals0 hR) _ _ P Q fun h => hL (by omega)
theorem vbuf1 {d : Data} {W : ℕ → BitVec 32} (hR : Reads d W i x0 x1 x2 x3 x4 x5 x6 x7 x8 x9 x10 x11 x12) (L : List (View.Piece (Elt Ideal) S128x1152 .bf16)) (P : Fin 128) (Q : Fin 1152) (hL : Q.val < 128 → View.canon L (ix2 P Q) = d.val ((1024 * (i 1).val) + Q.val) P.val) :
    View.canon ((kernelRun0_B.sl.HS1_2 (F := Ideal) c i arg2 harg2 arg3 harg3 arg7 harg7 arg19 arg20 x0 x1 x5) ++ L) (ix2 P Q) = d.val ((1024 * (i 1).val) + Q.val) P.val :=
  canon_vals d (1024 * (i 1).val) 640 _ (vals1 hR) _ _ P Q fun h => vbuf0 hR L P Q hL (by omega)

theorem zbuf1 {d : Data} {W : ℕ → BitVec 32} (hR : Reads d W i x0 x1 x2 x3 x4 x5 x6 x7 x8 x9 x10 x11 x12) (L : List (View.Piece (Elt Ideal) S4x1032x128 .f32)) (J : Fin 4) (P : Fin 1032) (Q : Fin 128) (hL : P.val < 8 → View.canon L (ix3 J P Q) = d.z ((1024 * (i 1).val) + P.val) (128 * J.val + Q.val))
    (hc : P.val < 8 ∨ J.val < 1 ∧ P.val < 520) : View.canon ((kernelRun0_B.sl.HS2_1 (F := Ideal) c i arg2 harg2 arg3 harg3 arg8 harg8 arg9 harg9 arg19 arg23 x0 x1 x6 x7) ++ L) (ix3 J P Q) = d.z ((1024 * (i 1).val) + P.val) (128 * J.val + Q.val) :=
  zstep d (1024 * (i 1).val) 0 8 _ (gated0 hR 0 _ _ rfl rfl _ _) _ _ J P Q fun h => hL (by omega)
theorem zbuf2 {d : Data} {W : ℕ → BitVec 32} (hR : Reads d W i x0 x1 x2 x3 x4 x5 x6 x7 x8 x9 x10 x11 x12) (L : List (View.Piece (Elt Ideal) S4x1032x128 .f32)) (J : Fin 4) (P : Fin 1032) (Q : Fin 128) (hL : P.val < 8 → View.canon L (ix3 J P Q) = d.z ((1024 * (i 1).val) + P.val) (128 * J.val + Q.val))
    (hc : P.val < 8 ∨ J.val < 2 ∧ P.val < 520) : View.canon ((kernelRun0_B.sl.HS2_2 (F := Ideal) c i arg2 harg2 arg3 harg3 arg8 harg8 arg9 harg9 arg19 arg23 x0 x1 x6 x7) ++ L) (ix3 J P Q) = d.z ((1024 * (i 1).val) + P.val) (128 * J.val + Q.val) :=
  zstep d (1024 * (i 1).val) 1 8 _ (gated0 hR 1 _ _ rfl rfl _ _) _ _ J P Q fun h => zbuf1 hR L J P Q hL (by omega)
theorem zbuf3 {d : Data} {W : ℕ → BitVec 32} (hR : Reads d W i x0 x1 x2 x3 x4 x5 x6 x7 x8 x9 x10 x11 x12) (L : List (View.Piece (Elt Ideal) S4x1032x128 .f32)) (J : Fin 4) (P : Fin 1032) (Q : Fin 128) (hL : P.val < 8 → View.canon L (ix3 J P Q) = d.z ((1024 * (i 1).val) + P.val) (128 * J.val + Q.val))
    (hc : P.val < 8 ∨ J.val < 3 ∧ P.val < 520) : View.canon ((kernelRun0_B.sl.HS2_3 (F := Ideal) c i arg2 harg2 arg3 harg3 arg8 harg8 arg9 harg9 arg19 arg23 x0 x1 x6 x7) ++ L) (ix3 J P Q) = d.z ((1024 * (i 1).val) + P.val) (128 * J.val + Q.val) :=
  zstep d (1024 * (i 1).val) 2 8 _ (gated0 hR 2 _ _ rfl rfl _ _) _ _ J P Q fun h => zbuf2 hR L J P Q hL (by omega)
theorem zbuf4 {d : Data} {W : ℕ → BitVec 32} (hR : Reads d W i x0 x1 x2 x3 x4 x5 x6 x7 x8 x9 x10 x11 x12) (L : List (View.Piece (Elt Ideal) S4x1032x128 .f32)) (J : Fin 4) (P : Fin 1032) (Q : Fin 128) (hL : P.val < 8 → View.canon L (ix3 J P Q) = d.z ((1024 * (i 1).val) + P.val) (128 * J.val + Q.val))
    (hc : P.val < 520) : View.canon ((kernelRun0_B.sl.HS2_4 (F := Ideal) c i arg2 harg2 arg3 harg3 arg8 harg8 arg9 harg9 arg19 arg23 x0 x1 x6 x7) ++ L) (ix3 J P Q) = d.z ((1024 * (i 1).val) + P.val) (128 * J.val + Q.val) :=
  zstep d (1024 * (i 1).val) 3 8 _ (gated0 hR 3 _ _ rfl rfl _ _) _ _ J P Q fun h => zbuf3 hR L J P Q hL (by omega)
theorem zbuf5 {d : Data} {W : ℕ → BitVec 32} (hR : Reads d W i x0 x1 x2 x3 x4 x5 x6 x7 x8 x9 x10 x11 x12) (L : List (View.Piece (Elt Ideal) S4x1032x128 .f32)) (J : Fin 4) (P : Fin 1032) (Q : Fin 128) (hL : P.val < 8 → View.canon L (ix3 J P Q) = d.z ((1024 * (i 1).val) + P.val) (128 * J.val + Q.val))
    (hc : P.val < 520 ∨ J.val < 1) : View.canon ((kernelRun0_B.sl.HS2_5 (F := Ideal) c i arg2 harg2 arg3 harg3 arg8 harg8 arg9 harg9 arg19 arg23 arg26 x0 x1 x6 x7) ++ L) (ix3 J P Q) = d.z ((1024 * (i 1).val) + P.val) (128 * J.val + Q.val) :=
  zstep d (1024 * (i 1).val) 0 520 _ (gated1 hR 0 _ _ rfl rfl _ _) _ _ J P Q fun h => zbuf4 hR L J P Q hL (by omega)
theorem zbuf6 {d : Data} {W : ℕ → BitVec 32} (hR : Reads d W i x0 x1 x2 x3 x4 x5 x6 x7 x8 x9 x10 x11 x12) (L : List (View.Piece (Elt Ideal) S4x1032x128 .f32)) (J : Fin 4) (P : Fin 1032) (Q : Fin 128) (hL : P.val < 8 → View.canon L (ix3 J P Q) = d.z ((1024 * (i 1).val) + P.val) (128 * J.val + Q.val))
    (hc : P.val < 520 ∨ J.val < 2) : View.canon ((kernelRun0_B.sl.HS2_6 (F := Ideal) c i arg2 harg2 arg3 harg3 arg8 harg8 arg9 harg9 arg19 arg23 arg26 x0 x1 x6 x7) ++ L) (ix3 J P Q) = d.z ((1024 * (i 1).val) + P.val) (128 * J.val + Q.val) :=
  zstep d (1024 * (i 1).val) 1 520 _ (gated1 hR 1 _ _ rfl rfl _ _) _ _ J P Q fun h => zbuf5 hR L J P Q hL (by omega)
theorem zbuf7 {d : Data} {W : ℕ → BitVec 32} (hR : Reads d W i x0 x1 x2 x3 x4 x5 x6 x7 x8 x9 x10 x11 x12) (L : List (View.Piece (Elt Ideal) S4x1032x128 .f32)) (J : Fin 4) (P : Fin 1032) (Q : Fin 128) (hL : P.val < 8 → View.canon L (ix3 J P Q) = d.z ((1024 * (i 1).val) + P.val) (128 * J.val + Q.val))
    (hc : P.val < 520 ∨ J.val < 3) : View.canon ((kernelRun0_B.sl.HS2_7 (F := Ideal) c i arg2 harg2 arg3 harg3 arg8 harg8 arg9 harg9 arg19 arg23 arg26 x0 x1 x6 x7) ++ L) (ix3 J P Q) = d.z ((1024 * (i 1).val) + P.val) (128 * J.val + Q.val) :=
  zstep d (1024 * (i 1).val) 2 520 _ (gated1 hR 2 _ _ rfl rfl _ _) _ _ J P Q fun h => zbuf6 hR L J P Q hL (by omega)
theorem zbuf8 {d : Data} {W : ℕ → BitVec 32} (hR : Reads d W i x0 x1 x2 x3 x4 x5 x6 x7 x8 x9 x10 x11 x12) (L : List (View.Piece (Elt Ideal) S4x1032x128 .f32)) (J : Fin 4) (P : Fin 1032) (Q : Fin 128) (hL : P.val < 8 → View.canon L (ix3 J P Q) = d.z ((1024 * (i 1).val) + P.val) (128 * J.val + Q.val))
    (hc : P.val < 1032) : View.canon ((kernelRun0_B.sl.HS2_8 (F := Ideal) c i arg2 harg2 arg3 harg3 arg8 harg8 arg9 harg9 arg19 arg23 arg26 x0 x1 x6 x7) ++ L) (ix3 J P Q) = d.z ((1024 * (i 1).val) + P.val) (128 * J.val + Q.val) :=
  zstep d (1024 * (i 1).val) 3 520 _ (gated1 hR 3 _ _ rfl rfl _ _) _ _ J P Q fun h => zbuf7 hR L J P Q hL (by omega)

/-! ## The blocks -/

/-- A block of queries of each half against 256 keys. -/
theorem att0 {d : Data} {W : ℕ → BitVec 32} (hR : Reads d W i x0 x1 x2 x3 x4 x5 x6 x7 x8 x9 x10 x11 x12) (l n : ℕ) (hn : 8 * (i 1).val + l = n) (hl : 0 < l) (inb : ∀ x, (![l, 0, 0] : Fin 3 → ℕ) x + (⟨3, ![1, 128, 1024]⟩ : Shape).size x ≤ (⟨3, ![4, 128, 1024]⟩ : Shape).size x) (K : FVec Ideal S256x128 .bf16) (V : FVec Ideal S128x256 .bf16)
    (hK : ∀ w f, K (ix2 w f) = d.key ((1024 * (i 1).val) + 128 * l + w.val) f.val) (hV : ∀ f w, V (ix2 f w) = d.val ((1024 * (i 1).val) + 128 * l + w.val) f.val) (f : Fin 128) (j : Fin 1024) (hf : f.val / 64 = j.val / 512) :
    attend (score K (arg21.view.readCov (kernelRun0_A.sl.HS5_33 (F := Ideal) c i arg2 harg2 arg3 harg3 arg4 harg4 arg5 harg5 arg7 harg7 arg19 arg20 x0 x1 x2 x3 x5) (Rect.unit (s := ⟨3, ![4, 128, 1024]⟩) ![l, 0, 0] (⟨3, ![1, 128, 1024]⟩ : Shape).size inb).toLoadRect) (kernelRun0_A.sl.v355 (F := Ideal) c arg14 harg14 x12)) (kernelRun0_A.sl.r_1 (F := Ideal) c arg6 harg6 x4) V (ix2 f j)
      = d.attn n (j.val / 128) (j.val % 128) (f.val % 64) :=
  attn_at d hR.fin n K _ _ _ V (fun w f => (hK w f).trans (by congr 1; omega))
    (fun i' j => cov3 l 0 0 inb _ _ 0 i' j _ fun O P Q h0 h1 h2 => by
      obtain rfl : P = i' := Fin.ext (by omega)
      obtain rfl : Q = j := Fin.ext (by omega)
      rw [queries0 hR, show (1024 * (i 1).val) + 0 + 128 * O.val = 128 * n by simp at h0; omega])
    (bias_r hR) (sink_r hR) (fun f w => (hV f w).trans (by congr 1; omega)) (by omega) f j hf
theorem att1 {d : Data} {W : ℕ → BitVec 32} (hR : Reads d W i x0 x1 x2 x3 x4 x5 x6 x7 x8 x9 x10 x11 x12) (l n : ℕ) (hn : 8 * (i 1).val + 4 + l = n) (inb : ∀ x, (![l, 0, 0] : Fin 3 → ℕ) x + (⟨3, ![1, 128, 1024]⟩ : Shape).size x ≤ (⟨3, ![4, 128, 1024]⟩ : Shape).size x) (K : FVec Ideal S256x128 .bf16) (V : FVec Ideal S128x256 .bf16)
    (hK : ∀ w f, K (ix2 w f) = d.key ((1024 * (i 1).val) + (512 + 128 * l) + w.val) f.val) (hV : ∀ f w, V (ix2 f w) = d.val ((1024 * (i 1).val) + (512 + 128 * l) + w.val) f.val) (f : Fin 128) (j : Fin 1024) (hf : f.val / 64 = j.val / 512) :
    attend (score K (arg24.view.readCov (kernelRun0_A.sl.HS8_33 (F := Ideal) c i arg2 harg2 arg3 harg3 arg4 harg4 arg5 harg5 arg7 harg7 arg19 arg20 x0 x1 x2 x3 x5) (Rect.unit (s := ⟨3, ![4, 128, 1024]⟩) ![l, 0, 0] (⟨3, ![1, 128, 1024]⟩ : Shape).size inb).toLoadRect) (kernelRun0_A.sl.v355 (F := Ideal) c arg14 harg14 x12)) (kernelRun0_A.sl.r_1 (F := Ideal) c arg6 harg6 x4) V (ix2 f j)
      = d.attn n (j.val / 128) (j.val % 128) (f.val % 64) :=
  attn_at d hR.fin n K _ _ _ V (fun w f => (hK w f).trans (by congr 1; omega))
    (fun i' j => cov3 l 0 0 inb _ _ 0 i' j _ fun O P Q h0 h1 h2 => by
      obtain rfl : P = i' := Fin.ext (by omega)
      obtain rfl : Q = j := Fin.ext (by omega)
      rw [queries1 hR, show (1024 * (i 1).val) + 512 + 128 * O.val = 128 * n by simp at h0; omega])
    (bias_r hR) (sink_r hR) (fun f w => (hV f w).trans (by congr 1; omega)) (by omega) f j hf
theorem att_first {d : Data} {W : ℕ → BitVec 32} (hR : Reads d W i x0 x1 x2 x3 x4 x5 x6 x7 x8 x9 x10 x11 x12) (n : ℕ) (hn : 8 * (i 1).val + 0 = n) (inb : ∀ x, (![0, 0, 0] : Fin 3 → ℕ) x + (⟨3, ![1, 128, 1024]⟩ : Shape).size x ≤ (⟨3, ![4, 128, 1024]⟩ : Shape).size x) (K : FVec Ideal S256x128 .bf16) (V : FVec Ideal S128x256 .bf16)
    (hK : ∀ w f, K (ix2 w f) = d.key ((1024 * (i 1).val) + 0 + w.val) f.val) (hV : ∀ f w, V (ix2 f w) = d.val ((1024 * (i 1).val) + 0 + w.val) f.val) (f : Fin 128) (j : Fin 1024) (hf : f.val / 64 = j.val / 512) :
    attend (addf (score K (arg21.view.readCov (kernelRun0_A.sl.HS5_33 (F := Ideal) c i arg2 harg2 arg3 harg3 arg4 harg4 arg5 harg5 arg7 harg7 arg19 arg20 x0 x1 x2 x3 x5) (Rect.unit (s := ⟨3, ![4, 128, 1024]⟩) ![0, 0, 0] (⟨3, ![1, 128, 1024]⟩ : Shape).size inb).toLoadRect) (kernelRun0_A.sl.v355 (F := Ideal) c arg14 harg14 x12))
        (broadcastTo S256x1024 (k0_pay7 (F := Ideal) i) broadcasts_S256x1_S256x1024)) (kernelRun0_A.sl.r_1 (F := Ideal) c arg6 harg6 x4) V (ix2 f j)
      = d.attn n (j.val / 128) (j.val % 128) (f.val % 64) :=
  attn_first d hR.fin n K _ _ _ _ V (fun w f => (hK w f).trans (by congr 1; omega))
    (fun i' j => cov3 0 0 0 inb _ _ 0 i' j _ fun O P Q h0 h1 h2 => by
      obtain rfl : P = i' := Fin.ext (by omega)
      obtain rfl : Q = j := Fin.ext (by omega)
      rw [queries0 hR, show (1024 * (i 1).val) + 0 + 128 * O.val = 128 * n by simp at h0; omega])
    (bias_r hR) (pen_at i n (by omega)) (sink_r hR) (fun f w => (hV f w).trans (by congr 1; omega)) f j hf

/-- A panel of the convolution of each half. -/
theorem conv0 {d : Data} {W : ℕ → BitVec 32} (hR : Reads d W i x0 x1 x2 x3 x4 x5 x6 x7 x8 x9 x10 x11 x12) (k a b : ℕ) (ha : 128 * k = a) (hb : 512 + 128 * k = b) (inb i0 i1 i2) (z0 z1 z2 : FVec Ideal S1x512x128 .f32)
    (g0 : ∀ p q, z0 (ix3 0 p q) = d.z ((1024 * (i 1).val) + 6 + p.val) (128 * k + q.val)) (g1 : ∀ p q, z1 (ix3 0 p q) = d.z ((1024 * (i 1).val) + 7 + p.val) (128 * k + q.val))
    (g2 : ∀ p q, z2 (ix3 0 p q) = d.z ((1024 * (i 1).val) + 8 + p.val) (128 * k + q.val)) (p : Fin 512) (q : Fin 128) :
    conv (arg23.view.readCov (kernelRun0_A.sl.HS7_6 (F := Ideal) c i arg2 harg2 arg3 harg3 arg8 harg8 arg9 harg9 arg19 x0 x1 x6 x7) (Rect.unit (s := ⟨2, ![512, 1536]⟩) ![0, b] (⟨2, ![512, 128]⟩ : Shape).size inb).toLoadRect)
      (View.readAt (Elt Ideal) arg10.view (Rect.unit (s := ⟨2, ![3, 512]⟩) ![0, a] (⟨2, ![1, 128]⟩ : Shape).size i0).toLoadRect (harg10.unread x8))
      (View.readAt (Elt Ideal) arg10.view (Rect.unit (s := ⟨2, ![3, 512]⟩) ![1, a] (⟨2, ![1, 128]⟩ : Shape).size i1).toLoadRect (harg10.unread x8))
      (View.readAt (Elt Ideal) arg10.view (Rect.unit (s := ⟨2, ![3, 512]⟩) ![2, a] (⟨2, ![1, 128]⟩ : Shape).size i2).toLoadRect (harg10.unread x8)) z0 z1 z2 (ix2 p q)
      = d.conv ((1024 * (i 1).val) + 0 + p.val) (128 * k + q.val) :=
  conv_at d ((1024 * (i 1).val) + 0) k _ _ _ _ z0 z1 z2 (part0 hR b 1280 k (by omega) inb) (fun q => (cw_r hR 0 a i0 q).trans (by rw [ha])) (fun q => (cw_r hR 1 a i1 q).trans (by rw [ha]))
    (fun q => (cw_r hR 2 a i2 q).trans (by rw [ha])) (fun p q => (g0 p q).trans (by congr 1; omega)) (fun p q => (g1 p q).trans (by congr 1; omega)) (fun p q => (g2 p q).trans (by congr 1; omega)) p q
theorem conv1 {d : Data} {W : ℕ → BitVec 32} (hR : Reads d W i x0 x1 x2 x3 x4 x5 x6 x7 x8 x9 x10 x11 x12) (k a b : ℕ) (ha : 128 * k = a) (hb : 512 + 128 * k = b) (inb i0 i1 i2) (z0 z1 z2 : FVec Ideal S1x512x128 .f32)
    (g0 : ∀ p q, z0 (ix3 0 p q) = d.z ((1024 * (i 1).val) + 518 + p.val) (128 * k + q.val)) (g1 : ∀ p q, z1 (ix3 0 p q) = d.z ((1024 * (i 1).val) + 519 + p.val) (128 * k + q.val))
    (g2 : ∀ p q, z2 (ix3 0 p q) = d.z ((1024 * (i 1).val) + 520 + p.val) (128 * k + q.val)) (p : Fin 512) (q : Fin 128) :
    conv (arg26.view.readCov (kernelRun0_A.sl.HS10_6 (F := Ideal) c i arg2 harg2 arg3 harg3 arg8 harg8 arg9 harg9 arg19 x0 x1 x6 x7) (Rect.unit (s := ⟨2, ![512, 1536]⟩) ![0, b] (⟨2, ![512, 128]⟩ : Shape).size inb).toLoadRect)
      (View.readAt (Elt Ideal) arg10.view (Rect.unit (s := ⟨2, ![3, 512]⟩) ![0, a] (⟨2, ![1, 128]⟩ : Shape).size i0).toLoadRect (harg10.unread x8))
      (View.readAt (Elt Ideal) arg10.view (Rect.unit (s := ⟨2, ![3, 512]⟩) ![1, a] (⟨2, ![1, 128]⟩ : Shape).size i1).toLoadRect (harg10.unread x8))
      (View.readAt (Elt Ideal) arg10.view (Rect.unit (s := ⟨2, ![3, 512]⟩) ![2, a] (⟨2, ![1, 128]⟩ : Shape).size i2).toLoadRect (harg10.unread x8)) z0 z1 z2 (ix2 p q)
      = d.conv ((1024 * (i 1).val) + 512 + p.val) (128 * k + q.val) :=
  conv_at d ((1024 * (i 1).val) + 512) k _ _ _ _ z0 z1 z2 (part1 hR b 1280 k (by omega) inb) (fun q => (cw_r hR 0 a i0 q).trans (by rw [ha])) (fun q => (cw_r hR 1 a i1 q).trans (by rw [ha]))
    (fun q => (cw_r hR 2 a i2 q).trans (by rw [ha])) (fun p q => (g0 p q).trans (by congr 1; omega)) (fun p q => (g1 p q).trans (by congr 1; omega)) (fun p q => (g2 p q).trans (by congr 1; omega)) p q

/-- The residual input's rows, and the rows of the result from the buffer of both branches. -/
theorem rows0 {d : Data} {W : ℕ → BitVec 32} (hR : Reads d W i x0 x1 x2 x3 x4 x5 x6 x7 x8 x9 x10 x11 x12) (t : Fin 512) (k : Fin 1024) : (kernelRun0_A.sl.v44 (F := Ideal) c arg2 harg2 x0) (ix2 t k) = d.x ((1024 * (i 1).val) + 0 + t.val) k.val :=
  (cast_rows _ t k).trans (at3 0 0 0 _ harg2 x0 0 t k _ fun O P Q h0 h1 h2 => (hR.x O P Q).trans (by congr 1 <;> omega))
theorem rows1 {d : Data} {W : ℕ → BitVec 32} (hR : Reads d W i x0 x1 x2 x3 x4 x5 x6 x7 x8 x9 x10 x11 x12) (t : Fin 512) (k : Fin 1024) : (kernelRun0_A.sl.v786 (F := Ideal) c arg2 harg2 x0) (ix2 t k) = d.x ((1024 * (i 1).val) + 512 + t.val) k.val :=
  (cast_rows _ t k).trans (at3 0 512 0 _ harg2 x0 0 t k _ fun O P Q h0 h1 h2 => (hR.x O P Q).trans (by congr 1 <;> omega))
theorem wo_r {d : Data} {W : ℕ → BitVec 32} (hR : Reads d W i x0 x1 x2 x3 x4 x5 x6 x7 x8 x9 x10 x11 x12) (inb : ∀ x, (![0, 0] : Fin 2 → ℕ) x + (⟨2, ![1024, 1024]⟩ : Shape).size x ≤ (⟨2, ![1024, 1024]⟩ : Shape).size x) (f k : Fin 1024) :
    View.readAt (Elt Ideal) arg11.view (Rect.unit (s := ⟨2, ![1024, 1024]⟩) ![0, 0] (⟨2, ![1024, 1024]⟩ : Shape).size inb).toLoadRect (harg11.unread x9) (ix2 f k) = d.wo f.val k.val :=
  at2 0 0 inb harg11 x9 f k _ fun P Q h1 h2 => (hR.wo P Q).trans (by congr 1 <;> omega)
theorem g_r {d : Data} {W : ℕ → BitVec 32} (hR : Reads d W i x0 x1 x2 x3 x4 x5 x6 x7 x8 x9 x10 x11 x12) (inb : ∀ x, (![0, 0] : Fin 2 → ℕ) x + (⟨2, ![1, 1024]⟩ : Shape).size x ≤ (⟨2, ![1, 1024]⟩ : Shape).size x) (k : Fin 1024) :
    View.readAt (Elt Ideal) arg12.view (Rect.unit (s := ⟨2, ![1, 1024]⟩) ![0, 0] (⟨2, ![1, 1024]⟩ : Shape).size inb).toLoadRect (harg12.unread x10) (ix2 0 k) = d.g k.val :=
  at2 0 0 inb harg12 x10 0 k _ fun P Q h1 h2 => (hR.g P Q).trans (by congr 1; omega)
theorem b_r {d : Data} {W : ℕ → BitVec 32} (hR : Reads d W i x0 x1 x2 x3 x4 x5 x6 x7 x8 x9 x10 x11 x12) (inb : ∀ x, (![0, 0] : Fin 2 → ℕ) x + (⟨2, ![1, 1024]⟩ : Shape).size x ≤ (⟨2, ![1, 1024]⟩ : Shape).size x) (k : Fin 1024) :
    View.readAt (Elt Ideal) arg13.view (Rect.unit (s := ⟨2, ![1, 1024]⟩) ![0, 0] (⟨2, ![1, 1024]⟩ : Shape).size inb).toLoadRect (harg13.unread x11) (ix2 0 k) = d.b k.val :=
  at2 0 0 inb harg13 x11 0 k _ fun P Q h1 h2 => (hR.b P Q).trans (by congr 1; omega)

theorem out0 {d : Data} {W : ℕ → BitVec 32} (hR : Reads d W i x0 x1 x2 x3 x4 x5 x6 x7 x8 x9 x10 x11 x12) (L : List (View.Piece (Elt Ideal) S512x1024 .bf16)) (hL : ∀ r f, View.canon L (ix2 r f) = d.act ((1024 * (i 1).val) + 0 + r.val) f.val) (i0 i1 i2 i3) (p : Fin 512) (q : Fin 1024) :
    norm512 (resid512 (kernelRun0_A.sl.v44 (F := Ideal) c arg2 harg2 x0) (arg22.view.readCov L (Rect.unit (s := ⟨2, ![512, 1024]⟩) ![0, 0] (⟨2, ![512, 1024]⟩ : Shape).size i0).toLoadRect)
        (View.readAt (Elt Ideal) arg11.view (Rect.unit (s := ⟨2, ![1024, 1024]⟩) ![0, 0] (⟨2, ![1024, 1024]⟩ : Shape).size i1).toLoadRect (harg11.unread x9)) (kernelRun0_A.sl.r (F := Ideal) c i arg3 harg3 x1))
      (View.readAt (Elt Ideal) arg12.view (Rect.unit (s := ⟨2, ![1, 1024]⟩) ![0, 0] (⟨2, ![1, 1024]⟩ : Shape).size i2).toLoadRect (harg12.unread x10))
      (View.readAt (Elt Ideal) arg13.view (Rect.unit (s := ⟨2, ![1, 1024]⟩) ![0, 0] (⟨2, ![1, 1024]⟩ : Shape).size i3).toLoadRect (harg13.unread x11)) (ix3 0 p q) = d.out ((1024 * (i 1).val) + 0 + p.val) q :=
  out512_at d ((1024 * (i 1).val) + 0) _ _ _ _ _ _ (rows0 hR) (fun t f => cov2 0 0 i0 _ _ t f _ fun P Q h1 h2 => (hL P Q).trans (by congr 1 <;> omega)) (wo_r hR i1) (gate_r hR) (g_r hR i2) (b_r hR i3) p q
theorem out1 {d : Data} {W : ℕ → BitVec 32} (hR : Reads d W i x0 x1 x2 x3 x4 x5 x6 x7 x8 x9 x10 x11 x12) (L : List (View.Piece (Elt Ideal) S512x1024 .bf16)) (hL : ∀ r f, View.canon L (ix2 r f) = d.act ((1024 * (i 1).val) + 512 + r.val) f.val) (i0 i1 i2 i3) (p : Fin 256) (q : Fin 1024) :
    norm256 (resid256 (extractStridedSlice S256x1024 ![0, 0] (kernelRun0_A.sl.v786 (F := Ideal) c arg2 harg2 x0) slices_S512x1024_o0_0_S256x1024) (arg25.view.readCov L (Rect.unit (s := ⟨2, ![512, 1024]⟩) ![0, 0] (⟨2, ![256, 1024]⟩ : Shape).size i0).toLoadRect)
        (View.readAt (Elt Ideal) arg11.view (Rect.unit (s := ⟨2, ![1024, 1024]⟩) ![0, 0] (⟨2, ![1024, 1024]⟩ : Shape).size i1).toLoadRect (harg11.unread x9)) (kernelRun0_A.sl.r (F := Ideal) c i arg3 harg3 x1))
      (View.readAt (Elt Ideal) arg12.view (Rect.unit (s := ⟨2, ![1, 1024]⟩) ![0, 0] (⟨2, ![1, 1024]⟩ : Shape).size i2).toLoadRect (harg12.unread x10))
      (View.readAt (Elt Ideal) arg13.view (Rect.unit (s := ⟨2, ![1, 1024]⟩) ![0, 0] (⟨2, ![1, 1024]⟩ : Shape).size i3).toLoadRect (harg13.unread x11)) (ix3 0 p q) = d.out ((1024 * (i 1).val) + 512 + p.val) q :=
  out256_at d ((1024 * (i 1).val) + 512) _ _ _ _ _ _ (fun t k => (rows_lo _ t k).trans (rows1 hR _ k)) (fun t f => cov2 0 0 i0 _ _ t f _ fun P Q h1 h2 => (hL P Q).trans (by congr 1 <;> omega)) (wo_r hR i1) (gate_r hR) (g_r hR i2) (b_r hR i3) p q
theorem out2 {d : Data} {W : ℕ → BitVec 32} (hR : Reads d W i x0 x1 x2 x3 x4 x5 x6 x7 x8 x9 x10 x11 x12) (L : List (View.Piece (Elt Ideal) S512x1024 .bf16)) (hL : ∀ r f, View.canon L (ix2 r f) = d.act ((1024 * (i 1).val) + 512 + r.val) f.val) (i0 i1 i2 i3) (p : Fin 256) (q : Fin 1024) :
    norm256 (resid256 (extractStridedSlice S256x1024 ![256, 0] (kernelRun0_A.sl.v786 (F := Ideal) c arg2 harg2 x0) slices_S512x1024_o256_0_S256x1024) (arg25.view.readCov L (Rect.unit (s := ⟨2, ![512, 1024]⟩) ![256, 0] (⟨2, ![256, 1024]⟩ : Shape).size i0).toLoadRect)
        (View.readAt (Elt Ideal) arg11.view (Rect.unit (s := ⟨2, ![1024, 1024]⟩) ![0, 0] (⟨2, ![1024, 1024]⟩ : Shape).size i1).toLoadRect (harg11.unread x9)) (kernelRun0_A.sl.r (F := Ideal) c i arg3 harg3 x1))
      (View.readAt (Elt Ideal) arg12.view (Rect.unit (s := ⟨2, ![1, 1024]⟩) ![0, 0] (⟨2, ![1, 1024]⟩ : Shape).size i2).toLoadRect (harg12.unread x10))
      (View.readAt (Elt Ideal) arg13.view (Rect.unit (s := ⟨2, ![1, 1024]⟩) ![0, 0] (⟨2, ![1, 1024]⟩ : Shape).size i3).toLoadRect (harg13.unread x11)) (ix3 0 p q) = d.out ((1024 * (i 1).val) + 768 + p.val) q :=
  out256_at d ((1024 * (i 1).val) + 768) _ _ _ _ _ _ (fun t k => (rows_hi _ t k).trans ((rows1 hR _ k).trans (by congr 1; simp only []; omega))) (fun t f => cov2 256 0 i0 _ _ t f _ fun P Q h1 h2 => (hL P Q).trans (by congr 1 <;> omega)) (wo_r hR i1) (gate_r hR) (g_r hR i2) (b_r hR i3) p q

end Cert.MixerIdeal.Point

end
-- ==== Proof.MixerPointA.lean ====
/- A point that starts a batch: there is nothing before its tokens. -/
module

public import proofs.«01_k».proof.Proof.MixerShared

@[expose] public section

set_option maxHeartbeats 1000000
set_option maxRecDepth 65536

noncomputable section

open Idealize.ShloMosaic Idealize.ShloMosaic.TcCoe Idealize.SL.Sem

namespace Cert.MixerIdeal.PointA

open Cert.MixerIdeal Cert.MixerIdeal.Gen Cert.MixerIdeal.Stage Cert.Layer Cert.MixerIdeal.Point

variable {c : Dev nD} {i : grid0.Coords} {arg2 : Memref sig .tc .vmem S1x1024x1024 .f32} {harg2 : arg2.IsWhole} {arg3 : Memref sig .tc .vmem S9x16x1024 .f32} {harg3 : arg3.IsWhole} {arg4 : Memref sig .tc .vmem S1x1x1024 .i32} {harg4 : arg4.IsWhole} {arg5 : Memref sig .tc .vmem S8x1 .f32} {harg5 : arg5.IsWhole} {arg6 : Memref sig .tc .vmem S1x1024 .f32} {harg6 : arg6.IsWhole} {arg7 : Memref sig .tc .vmem S768x1024 .bf16} {harg7 : arg7.IsWhole} {arg8 : Memref sig .tc .vmem S1024x768 .bf16} {harg8 : arg8.IsWhole} {arg9 : Memref sig .tc .vmem S1024x768 .bf16} {harg9 : arg9.IsWhole} {arg10 : Memref sig .tc .vmem S3x512 .f32} {harg10 : arg10.IsWhole} {arg11 : Memref sig .tc .vmem S1024x1024 .bf16} {harg11 : arg11.IsWhole} {arg12 : Memref sig .tc .vmem S1x1024 .f32} {harg12 : arg12.IsWhole} {arg13 : Memref sig .tc .vmem S1x1024 .f32} {harg13 : arg13.IsWhole} {arg14 : Memref sig .tc .vmem S256x1024 .f32} {harg14 : arg14.IsWhole} {arg15 : Memref sig .tc .vmem S1x1024x1024 .f32} {harg15 : arg15.IsWhole} {arg16 : Memref sig .tc .vmem S1152x128 .bf16} {harg16 : arg16.IsWhole} {arg17 : Memref sig .tc .vmem S128x1152 .bf16} {harg17 : arg17.IsWhole} {arg18 : Memref sig .tc .vmem S4x1032x128 .f32} {harg18 : arg18.IsWhole} {arg19 : Memref sig .tc .vmem S1024x1024 .bf16} {harg19 : arg19.IsWhole} {arg20 : Memref sig .tc .vmem S768x1024 .f32} {harg20 : arg20.IsWhole} {arg21 : Memref sig .tc .vmem S4x128x1024 .bf16} {harg21 : arg21.IsWhole} {arg22 : Memref sig .tc .vmem S512x1024 .bf16} {harg22 : arg22.IsWhole} {arg23 : Memref sig .tc .vmem S512x1536 .f32} {harg23 : arg23.IsWhole} {arg24 : Memref sig .tc .vmem S4x128x1024 .bf16} {harg24 : arg24.IsWhole} {arg25 : Memref sig .tc .vmem S512x1024 .bf16} {harg25 : arg25.IsWhole} {arg26 : Memref sig .tc .vmem S512x1536 .f32} {harg26 : arg26.IsWhole}
    {x0 : Vec Ideal S1x1024x1024 .f32} {x1 : Vec Ideal S9x16x1024 .f32} {x2 : Vec Ideal S1x1x1024 .i32} {x3 : Vec Ideal S8x1 .f32} {x4 : Vec Ideal S1x1024 .f32} {x5 : Vec Ideal S768x1024 .bf16} {x6 : Vec Ideal S1024x768 .bf16} {x7 : Vec Ideal S1024x768 .bf16} {x8 : Vec Ideal S3x512 .f32} {x9 : Vec Ideal S1024x1024 .bf16} {x10 : Vec Ideal S1x1024 .f32} {x11 : Vec Ideal S1x1024 .f32} {x12 : Vec Ideal S256x1024 .f32}

/-! ## Before the first token there are zeros -/

theorem zero_k (p q : Fin 128) : k0_pay3 (F := Ideal) (ix2 p q) = 0 := by pointwise [k0_pay3]
theorem zero_v (p q : Fin 128) : k0_pay4 (F := Ideal) (ix2 p q) = 0 := by pointwise [k0_pay4]
theorem zero_z (o : Fin 4) (p : Fin 8) (q : Fin 128) : k0_pay5 (F := Ideal) (ix3 o p q) = 0 := by pointwise [k0_pay5]

theorem kt {d : Data} (h0 : (i 1).val = 0) (inb) (P : Fin 1152) (Q : Fin 128) (hP : P.val < 128) : View.canon [(⟨Rect.unit (s := S1152x128) ![0, 0] S128x128.size inb, k0_pay3 (F := Ideal)⟩ : View.Piece (Elt Ideal) S1152x128 .bf16)] (ix2 P Q) = d.key ((1024 * (i 1).val) + P.val) Q.val := by
  refine canon_step2 (Val := Elt Ideal) (e := .bf16) 0 0 inb _ _ P Q _ (fun p q _ _ => (zero_k p q).trans ?_) (fun h => absurd Q.isLt (by omega))
  unfold Data.key
  rw [if_pos (by omega)]
theorem vt {d : Data} (h0 : (i 1).val = 0) (inb) (P : Fin 128) (Q : Fin 1152) (hQ : Q.val < 128) : View.canon [(⟨Rect.unit (s := S128x1152) ![0, 0] S128x128.size inb, k0_pay4 (F := Ideal)⟩ : View.Piece (Elt Ideal) S128x1152 .bf16)] (ix2 P Q) = d.val ((1024 * (i 1).val) + Q.val) P.val := by
  refine canon_step2 (Val := Elt Ideal) (e := .bf16) 0 0 inb _ _ P Q _ (fun p q _ _ => (zero_v p q).trans ?_) (fun h => absurd P.isLt (by omega))
  unfold Data.val
  rw [if_pos (by omega)]
theorem zt {d : Data} (h0 : (i 1).val = 0) (inb) (J : Fin 4) (P : Fin 1032) (Q : Fin 128) (hP : P.val < 8) : View.canon [(⟨Rect.unit (s := S4x1032x128) ![0, 0, 0] S4x8x128.size inb, k0_pay5 (F := Ideal)⟩ : View.Piece (Elt Ideal) S4x1032x128 .f32)] (ix3 J P Q) = d.z ((1024 * (i 1).val) + P.val) (128 * J.val + Q.val) := by
  refine canon_step3 (Val := Elt Ideal) (e := .f32) 0 0 0 inb _ _ J P Q _ (fun o p q _ _ _ => (zero_z o p q).trans ?_) (fun h => absurd (And.intro J.isLt Q.isLt) (by omega))
  unfold Data.z
  rw [if_pos (by omega)]

/-! ## Loads of the keys, the values and the convolution's input -/

theorem kld0 {d : Data} {W : ℕ → BitVec 32} (hR : Reads d W i x0 x1 x2 x3 x4 x5 x6 x7 x8 x9 x10 x11 x12) (h0 : (i 1).val = 0) (a : ℕ) (ha : a + 256 ≤ 640) (inb : ∀ x, (![a, 0] : Fin 2 → ℕ) x + (⟨2, ![256, 128]⟩ : Shape).size x ≤ (⟨2, ![1152, 128]⟩ : Shape).size x) (w : Fin 256) (f : Fin 128) :
    arg16.view.readCov (kernelRun0_A.sl.HS0_2 (F := Ideal) c i arg2 harg2 arg3 harg3 arg4 harg4 arg5 harg5 arg7 harg7 arg19 arg20 x0 x1 x2 x3 x5) (Rect.unit (s := ⟨2, ![1152, 128]⟩) ![a, 0] (⟨2, ![256, 128]⟩ : Shape).size inb).toLoadRect (ix2 w f) = d.key ((1024 * (i 1).val) + a + w.val) f.val :=
  cov2 a 0 inb _ _ w f _ fun P Q h1 h2 => (kbuf0 hR _ P Q (kt h0 _ P Q) (by omega)).trans (by congr 1 <;> omega)
theorem vld0 {d : Data} {W : ℕ → BitVec 32} (hR : Reads d W i x0 x1 x2 x3 x4 x5 x6 x7 x8 x9 x10 x11 x12) (h0 : (i 1).val = 0) (a : ℕ) (ha : a + 256 ≤ 640) (inb : ∀ x, (![0, a] : Fin 2 → ℕ) x + (⟨2, ![128, 256]⟩ : Shape).size x ≤ (⟨2, ![128, 1152]⟩ : Shape).size x) (f : Fin 128) (w : Fin 256) :
    arg17.view.readCov (kernelRun0_A.sl.HS1_2 (F := Ideal) c i arg2 harg2 arg3 harg3 arg7 harg7 arg19 arg20 x0 x1 x5) (Rect.unit (s := ⟨2, ![128, 1152]⟩) ![0, a] (⟨2, ![128, 256]⟩ : Shape).size inb).toLoadRect (ix2 f w) = d.val ((1024 * (i 1).val) + a + w.val) f.val :=
  cov2 0 a inb _ _ f w _ fun P Q h1 h2 => (vbuf0 hR _ P Q (vt h0 _ P Q) (by omega)).trans (by congr 1 <;> omega)
theorem kld1 {d : Data} {W : ℕ → BitVec 32} (hR : Reads d W i x0 x1 x2 x3 x4 x5 x6 x7 x8 x9 x10 x11 x12) (h0 : (i 1).val = 0) {m : ℕ} (a : ℕ) (hlo : 128 ≤ a) (inb : ∀ x, (![a, 0] : Fin 2 → ℕ) x + (⟨2, ![m, 128]⟩ : Shape).size x ≤ (⟨2, ![1152, 128]⟩ : Shape).size x) (w : Fin m) (f : Fin 128) :
    arg16.view.readCov (kernelRun0_A.sl.HS0_3 (F := Ideal) c i arg2 harg2 arg3 harg3 arg4 harg4 arg5 harg5 arg7 harg7 arg19 arg20 x0 x1 x2 x3 x5) (Rect.unit (s := ⟨2, ![1152, 128]⟩) ![a, 0] (⟨2, ![m, 128]⟩ : Shape).size inb).toLoadRect (ix2 w f) = d.key ((1024 * (i 1).val) + a + w.val) f.val :=
  cov2 a 0 inb _ _ w f _ fun P Q h1 h2 => (kbuf1 hR _ P Q (fun h => absurd h (by omega))).trans (by congr 1 <;> omega)
theorem vld1 {d : Data} {W : ℕ → BitVec 32} (hR : Reads d W i x0 x1 x2 x3 x4 x5 x6 x7 x8 x9 x10 x11 x12) (h0 : (i 1).val = 0) {m : ℕ} (a : ℕ) (hlo : 128 ≤ a) (inb : ∀ x, (![0, a] : Fin 2 → ℕ) x + (⟨2, ![128, m]⟩ : Shape).size x ≤ (⟨2, ![128, 1152]⟩ : Shape).size x) (f : Fin 128) (w : Fin m) :
    arg17.view.readCov (kernelRun0_A.sl.HS1_3 (F := Ideal) c i arg2 harg2 arg3 harg3 arg7 harg7 arg19 arg20 x0 x1 x5) (Rect.unit (s := ⟨2, ![128, 1152]⟩) ![0, a] (⟨2, ![128, m]⟩ : Shape).size inb).toLoadRect (ix2 f w) = d.val ((1024 * (i 1).val) + a + w.val) f.val :=
  cov2 0 a inb _ _ f w _ fun P Q h1 h2 => (vbuf1 hR _ P Q (fun h => absurd h (by omega))).trans (by congr 1 <;> omega)
theorem zld1 {d : Data} {W : ℕ → BitVec 32} (hR : Reads d W i x0 x1 x2 x3 x4 x5 x6 x7 x8 x9 x10 x11 x12) (h0 : (i 1).val = 0) (a : ℕ) (ha : a ≤ 8) (inb : ∀ x, (![0, a, 0] : Fin 3 → ℕ) x + (⟨3, ![1, 512, 128]⟩ : Shape).size x ≤ (⟨3, ![4, 1032, 128]⟩ : Shape).size x) (p : Fin 512) (q : Fin 128) :
    arg18.view.readCov (kernelRun0_A.sl.HS2_2 (F := Ideal) c i arg2 harg2 arg3 harg3 arg8 harg8 arg9 harg9 arg19 arg23 x0 x1 x6 x7) (Rect.unit (s := ⟨3, ![4, 1032, 128]⟩) ![0, a, 0] (⟨3, ![1, 512, 128]⟩ : Shape).size inb).toLoadRect (ix3 0 p q) = d.z ((1024 * (i 1).val) + a + p.val) (128 * 0 + q.val) :=
  cov3 0 a 0 inb _ _ 0 p q _ fun O P Q e0 h1 h2 => (zbuf1 hR _ O P Q (zt h0 _ O P Q) (by omega)).trans (by congr 1 <;> omega)
theorem zld2 {d : Data} {W : ℕ → BitVec 32} (hR : Reads d W i x0 x1 x2 x3 x4 x5 x6 x7 x8 x9 x10 x11 x12) (h0 : (i 1).val = 0) (a : ℕ) (ha : a ≤ 8) (inb : ∀ x, (![1, a, 0] : Fin 3 → ℕ) x + (⟨3, ![1, 512, 128]⟩ : Shape).size x ≤ (⟨3, ![4, 1032, 128]⟩ : Shape).size x) (p : Fin 512) (q : Fin 128) :
    arg18.view.readCov (kernelRun0_A.sl.HS2_3 (F := Ideal) c i arg2 harg2 arg3 harg3 arg8 harg8 arg9 harg9 arg19 arg23 x0 x1 x6 x7) (Rect.unit (s := ⟨3, ![4, 1032, 128]⟩) ![1, a, 0] (⟨3, ![1, 512, 128]⟩ : Shape).size inb).toLoadRect (ix3 0 p q) = d.z ((1024 * (i 1).val) + a + p.val) (128 * 1 + q.val) :=
  cov3 1 a 0 inb _ _ 0 p q _ fun O P Q e0 h1 h2 => (zbuf2 hR _ O P Q (zt h0 _ O P Q) (by omega)).trans (by congr 1 <;> omega)
theorem zld3 {d : Data} {W : ℕ → BitVec 32} (hR : Reads d W i x0 x1 x2 x3 x4 x5 x6 x7 x8 x9 x10 x11 x12) (h0 : (i 1).val = 0) (a : ℕ) (ha : a ≤ 8) (inb : ∀ x, (![2, a, 0] : Fin 3 → ℕ) x + (⟨3, ![1, 512, 128]⟩ : Shape).size x ≤ (⟨3, ![4, 1032, 128]⟩ : Shape).size x) (p : Fin 512) (q : Fin 128) :
    arg18.view.readCov (kernelRun0_A.sl.HS2_4 (F := Ideal) c i arg2 harg2 arg3 harg3 arg8 harg8 arg9 harg9 arg19 arg23 x0 x1 x6 x7) (Rect.unit (s := ⟨3, ![4, 1032, 128]⟩) ![2, a, 0] (⟨3, ![1, 512, 128]⟩ : Shape).size inb).toLoadRect (ix3 0 p q) = d.z ((1024 * (i 1).val) + a + p.val) (128 * 2 + q.val) :=
  cov3 2 a 0 inb _ _ 0 p q _ fun O P Q e0 h1 h2 => (zbuf3 hR _ O P Q (zt h0 _ O P Q) (by omega)).trans (by congr 1 <;> omega)
theorem zld4 {d : Data} {W : ℕ → BitVec 32} (hR : Reads d W i x0 x1 x2 x3 x4 x5 x6 x7 x8 x9 x10 x11 x12) (h0 : (i 1).val = 0) (a : ℕ) (ha : a ≤ 8) (inb : ∀ x, (![3, a, 0] : Fin 3 → ℕ) x + (⟨3, ![1, 512, 128]⟩ : Shape).size x ≤ (⟨3, ![4, 1032, 128]⟩ : Shape).size x) (p : Fin 512) (q : Fin 128) :
    arg18.view.readCov (kernelRun0_A.sl.HS2_5 (F := Ideal) c i arg2 harg2 arg3 harg3 arg8 harg8 arg9 harg9 arg19 arg23 x0 x1 x6 x7) (Rect.unit (s := ⟨3, ![4, 1032, 128]⟩) ![3, a, 0] (⟨3, ![1, 512, 128]⟩ : Shape).size inb).toLoadRect (ix3 0 p q) = d.z ((1024 * (i 1).val) + a + p.val) (128 * 3 + q.val) :=
  cov3 3 a 0 inb _ _ 0 p q _ fun O P Q e0 h1 h2 => (zbuf4 hR _ O P Q (zt h0 _ O P Q) (by omega)).trans (by congr 1 <;> omega)
theorem zld5 {d : Data} {W : ℕ → BitVec 32} (hR : Reads d W i x0 x1 x2 x3 x4 x5 x6 x7 x8 x9 x10 x11 x12) (h0 : (i 1).val = 0) (a : ℕ) (ha : a ≤ 520) (hlo : 8 ≤ a) (inb : ∀ x, (![0, a, 0] : Fin 3 → ℕ) x + (⟨3, ![1, 512, 128]⟩ : Shape).size x ≤ (⟨3, ![4, 1032, 128]⟩ : Shape).size x) (p : Fin 512) (q : Fin 128) :
    arg18.view.readCov (kernelRun0_A.sl.HS2_6 (F := Ideal) c i arg2 harg2 arg3 harg3 arg8 harg8 arg9 harg9 arg19 arg23 arg26 x0 x1 x6 x7) (Rect.unit (s := ⟨3, ![4, 1032, 128]⟩) ![0, a, 0] (⟨3, ![1, 512, 128]⟩ : Shape).size inb).toLoadRect (ix3 0 p q) = d.z ((1024 * (i 1).val) + a + p.val) (128 * 0 + q.val) :=
  cov3 0 a 0 inb _ _ 0 p q _ fun O P Q e0 h1 h2 => (zbuf5 hR _ O P Q (fun h => absurd h (by omega)) (by omega)).trans (by congr 1 <;> omega)
theorem zld6 {d : Data} {W : ℕ → BitVec 32} (hR : Reads d W i x0 x1 x2 x3 x4 x5 x6 x7 x8 x9 x10 x11 x12) (h0 : (i 1).val = 0) (a : ℕ) (ha : a ≤ 520) (hlo : 8 ≤ a) (inb : ∀ x, (![1, a, 0] : Fin 3 → ℕ) x + (⟨3, ![1, 512, 128]⟩ : Shape).size x ≤ (⟨3, ![4, 1032, 128]⟩ : Shape).size x) (p : Fin 512) (q : Fin 128) :
    arg18.view.readCov (kernelRun0_A.sl.HS2_7 (F := Ideal) c i arg2 harg2 arg3 harg3 arg8 harg8 arg9 harg9 arg19 arg23 arg26 x0 x1 x6 x7) (Rect.unit (s := ⟨3, ![4, 1032, 128]⟩) ![1, a, 0] (⟨3, ![1, 512, 128]⟩ : Shape).size inb).toLoadRect (ix3 0 p q) = d.z ((1024 * (i 1).val) + a + p.val) (128 * 1 + q.val) :=
  cov3 1 a 0 inb _ _ 0 p q _ fun O P Q e0 h1 h2 => (zbuf6 hR _ O P Q (fun h => absurd h (by omega)) (by omega)).trans (by congr 1 <;> omega)
theorem zld7 {d : Data} {W : ℕ → BitVec 32} (hR : Reads d W i x0 x1 x2 x3 x4 x5 x6 x7 x8 x9 x10 x11 x12) (h0 : (i 1).val = 0) (a : ℕ) (ha : a ≤ 520) (hlo : 8 ≤ a) (inb : ∀ x, (![2, a, 0] : Fin 3 → ℕ) x + (⟨3, ![1, 512, 128]⟩ : Shape).size x ≤ (⟨3, ![4, 1032, 128]⟩ : Shape).size x) (p : Fin 512) (q : Fin 128) :
    arg18.view.readCov (kernelRun0_A.sl.HS2_8 (F := Ideal) c i arg2 harg2 arg3 harg3 arg8 harg8 arg9 harg9 arg19 arg23 arg26 x0 x1 x6 x7) (Rect.unit (s := ⟨3, ![4, 1032, 128]⟩) ![2, a, 0] (⟨3, ![1, 512, 128]⟩ : Shape).size inb).toLoadRect (ix3 0 p q) = d.z ((1024 * (i 1).val) + a + p.val) (128 * 2 + q.val) :=
  cov3 2 a 0 inb _ _ 0 p q _ fun O P Q e0 h1 h2 => (zbuf7 hR _ O P Q (fun h => absurd h (by omega)) (by omega)).trans (by congr 1 <;> omega)
theorem zld8 {d : Data} {W : ℕ → BitVec 32} (hR : Reads d W i x0 x1 x2 x3 x4 x5 x6 x7 x8 x9 x10 x11 x12) (h0 : (i 1).val = 0) (a : ℕ) (ha : a ≤ 520) (hlo : 8 ≤ a) (inb : ∀ x, (![3, a, 0] : Fin 3 → ℕ) x + (⟨3, ![1, 512, 128]⟩ : Shape).size x ≤ (⟨3, ![4, 1032, 128]⟩ : Shape).size x) (p : Fin 512) (q : Fin 128) :
    arg18.view.readCov (kernelRun0_A.sl.HS2_9 (F := Ideal) c i arg2 harg2 arg3 harg3 arg8 harg8 arg9 harg9 arg19 arg23 arg26 x0 x1 x6 x7) (Rect.unit (s := ⟨3, ![4, 1032, 128]⟩) ![3, a, 0] (⟨3, ![1, 512, 128]⟩ : Shape).size inb).toLoadRect (ix3 0 p q) = d.z ((1024 * (i 1).val) + a + p.val) (128 * 3 + q.val) :=
  cov3 3 a 0 inb _ _ 0 p q _ fun O P Q e0 h1 h2 => (zbuf8 hR _ O P Q (fun h => absurd h (by omega)) (by omega)).trans (by congr 1 <;> omega)

/-! ## Both branches, the result and what is carried on -/

theorem act0 {d : Data} {W : ℕ → BitVec 32} (hR : Reads d W i x0 x1 x2 x3 x4 x5 x6 x7 x8 x9 x10 x11 x12) (h0 : (i 1).val = 0) (r : Fin 512) (f : Fin 1024) : View.canon (kernelRun0_A.sl.HS6_20 (F := Ideal) c i arg2 harg2 arg3 harg3 arg4 harg4 arg5 harg5 arg6 harg6 arg7 harg7 arg8 harg8 arg9 harg9 arg10 harg10 arg14 harg14 arg16 arg17 arg18 arg19 arg20 arg21 arg23 x0 x1 x2 x3 x4 x5 x6 x7 x8 x12) (ix2 r f) = d.act ((1024 * (i 1).val) + 0 + r.val) f.val :=
  canon_act d ((1024 * (i 1).val) + 0) (8 * (i 1).val) (by omega) _ _ _ _ _ _ _ _
    (conv0 hR 0 0 512 rfl rfl _ _ _ _ _ _ _ (zld1 hR h0 6 (by omega) _) (zld1 hR h0 7 (by omega) _) (zld1 hR h0 8 (by omega) _))
    (conv0 hR 1 128 640 rfl rfl _ _ _ _ _ _ _ (zld2 hR h0 6 (by omega) _) (zld2 hR h0 7 (by omega) _) (zld2 hR h0 8 (by omega) _))
    (conv0 hR 2 256 768 rfl rfl _ _ _ _ _ _ _ (zld3 hR h0 6 (by omega) _) (zld3 hR h0 7 (by omega) _) (zld3 hR h0 8 (by omega) _))
    (conv0 hR 3 384 896 rfl rfl _ _ _ _ _ _ _ (zld4 hR h0 6 (by omega) _) (zld4 hR h0 7 (by omega) _) (zld4 hR h0 8 (by omega) _))
    (att_first hR _ rfl _ _ _ (kld0 hR h0 0 (by omega) _) (vld0 hR h0 0 (by omega) _))
    (att0 hR 1 _ rfl (by omega) _ _ _ (kld0 hR h0 128 (by omega) _) (vld0 hR h0 128 (by omega) _))
    (att0 hR 2 _ rfl (by omega) _ _ _ (kld0 hR h0 256 (by omega) _) (vld0 hR h0 256 (by omega) _))
    (att0 hR 3 _ rfl (by omega) _ _ _ (kld0 hR h0 384 (by omega) _) (vld0 hR h0 384 (by omega) _))
    _ _ _ _ _ _ _ _ _ _ _ _ _ _ _ _ _ _ _ _ r f
theorem act1 {d : Data} {W : ℕ → BitVec 32} (hR : Reads d W i x0 x1 x2 x3 x4 x5 x6 x7 x8 x9 x10 x11 x12) (h0 : (i 1).val = 0) (r : Fin 512) (f : Fin 1024) : View.canon (kernelRun0_A.sl.HS9_20 (F := Ideal) c i arg2 harg2 arg3 harg3 arg4 harg4 arg5 harg5 arg6 harg6 arg7 harg7 arg8 harg8 arg9 harg9 arg10 harg10 arg14 harg14 arg16 arg17 arg18 arg19 arg20 arg23 arg24 arg26 x0 x1 x2 x3 x4 x5 x6 x7 x8 x12) (ix2 r f) = d.act ((1024 * (i 1).val) + 512 + r.val) f.val :=
  canon_act d ((1024 * (i 1).val) + 512) (8 * (i 1).val + 4) (by omega) _ _ _ _ _ _ _ _
    (conv1 hR 0 0 512 rfl rfl _ _ _ _ _ _ _ (zld5 hR h0 518 (by omega) (by omega) _) (zld5 hR h0 519 (by omega) (by omega) _) (zld5 hR h0 520 (by omega) (by omega) _))
    (conv1 hR 1 128 640 rfl rfl _ _ _ _ _ _ _ (zld6 hR h0 518 (by omega) (by omega) _) (zld6 hR h0 519 (by omega) (by omega) _) (zld6 hR h0 520 (by omega) (by omega) _))
    (conv1 hR 2 256 768 rfl rfl _ _ _ _ _ _ _ (zld7 hR h0 518 (by omega) (by omega) _) (zld7 hR h0 519 (by omega) (by omega) _) (zld7 hR h0 520 (by omega) (by omega) _))
    (conv1 hR 3 384 896 rfl rfl _ _ _ _ _ _ _ (zld8 hR h0 518 (by omega) (by omega) _) (zld8 hR h0 519 (by omega) (by omega) _) (zld8 hR h0 520 (by omega) (by omega) _))
    (att1 hR 0 _ rfl _ _ _ (kld1 hR h0 512 (by omega) _) (vld1 hR h0 512 (by omega) _))
    (att1 hR 1 _ rfl _ _ _ (kld1 hR h0 640 (by omega) _) (vld1 hR h0 640 (by omega) _))
    (att1 hR 2 _ rfl _ _ _ (kld1 hR h0 768 (by omega) _) (vld1 hR h0 768 (by omega) _))
    (att1 hR 3 _ rfl _ _ _ (kld1 hR h0 896 (by omega) _) (vld1 hR h0 896 (by omega) _))
    _ _ _ _ _ _ _ _ _ _ _ _ _ _ _ _ _ _ _ _ r f
theorem out_pieces {d : Data} {W : ℕ → BitVec 32} (hR : Reads d W i x0 x1 x2 x3 x4 x5 x6 x7 x8 x9 x10 x11 x12) (h0 : (i 1).val = 0) {hc0 : cond0_0 i} (o : Fin 1) (r j : Fin 1024) : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12).1 (ix3 o r j) = d.out ((1024 * (i 1).val) + r.val) j :=
  canon_out d (1024 * (i 1).val) _ _ _ (out0 hR _ (act0 hR h0) _ _ _ _) (out1 hR _ (act1 hR h0) _ _ _ _) (out2 hR _ (act1 hR h0) _ _ _ _) _ _ _ o r j
theorem key_pieces {d : Data} {W : ℕ → BitVec 32} (hR : Reads d W i x0 x1 x2 x3 x4 x5 x6 x7 x8 x9 x10 x11 x12) (h0 : (i 1).val = 0) {hc0 : cond0_0 i} (P : Fin 1152) (Q : Fin 128) (hP : P.val < 128) : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12).2.1 (ix2 P Q) = d.key ((1024 * (i 1).val) + 1024 + P.val) Q.val :=
  canon_step2 (Val := Elt Ideal) (e := .bf16) 0 0 _ _ _ P Q _ (fun p q h1 h2 => (cast_k _ p q).trans ((kld1 hR h0 1024 (by omega) _ p q).trans (by congr 1 <;> omega))) (fun h => absurd Q.isLt (by omega))
theorem val_pieces {d : Data} {W : ℕ → BitVec 32} (hR : Reads d W i x0 x1 x2 x3 x4 x5 x6 x7 x8 x9 x10 x11 x12) (h0 : (i 1).val = 0) {hc0 : cond0_0 i} (P : Fin 128) (Q : Fin 1152) (hQ : Q.val < 128) : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12).2.2.1 (ix2 P Q) = d.val ((1024 * (i 1).val) + 1024 + Q.val) P.val :=
  canon_step2 (Val := Elt Ideal) (e := .bf16) 0 0 _ _ _ P Q _ (fun p q h1 h2 => (cast_k _ p q).trans ((vld1 hR h0 1024 (by omega) _ p q).trans (by congr 1 <;> omega))) (fun h => absurd P.isLt (by omega))
theorem z_pieces {d : Data} {W : ℕ → BitVec 32} (hR : Reads d W i x0 x1 x2 x3 x4 x5 x6 x7 x8 x9 x10 x11 x12) (h0 : (i 1).val = 0) {hc0 : cond0_0 i} (J : Fin 4) (P : Fin 1032) (Q : Fin 128) (hP : P.val < 8) : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12).2.2.2.1 (ix3 J P Q) = d.z ((1024 * (i 1).val) + 1024 + P.val) (128 * J.val + Q.val) :=
  canon_step3 (Val := Elt Ideal) (e := .f32) 0 0 0 _ _ _ J P Q _ (fun o p q e0 h1 h2 => (cast_z _ o p q).trans (cov3 0 1024 0 _ _ _ o p q _ fun O P' Q' e1 h3 h4 =>
    (zbuf8 hR _ O P' Q' (fun h => absurd h (by omega)) (by omega)).trans (by congr 1 <;> omega))) (fun h => absurd (And.intro J.isLt Q.isLt) (by omega))

/-- The same, as the point leaves them. -/
theorem out_at {d : Data} {W : ℕ → BitVec 32} (hR : Reads d W i x0 x1 x2 x3 x4 x5 x6 x7 x8 x9 x10 x11 x12) (h0 : (i 1).val = 0) {hc0 : cond0_0 i} (o : Fin 1) (r j : Fin 1024) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 (ix3 o r j) = d.out ((1024 * (i 1).val) + r.val) j := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12)]
  exact out_pieces hR h0 o r j
theorem key_at {d : Data} {W : ℕ → BitVec 32} (hR : Reads d W i x0 x1 x2 x3 x4 x5 x6 x7 x8 x9 x10 x11 x12) (h0 : (i 1).val = 0) {hc0 : cond0_0 i} (P : Fin 1152) (Q : Fin 128) (hP : P.val < 128) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 (ix2 P Q) = d.key ((1024 * (i 1).val) + 1024 + P.val) Q.val := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12)]
  exact key_pieces hR h0 P Q hP
theorem val_at {d : Data} {W : ℕ → BitVec 32} (hR : Reads d W i x0 x1 x2 x3 x4 x5 x6 x7 x8 x9 x10 x11 x12) (h0 : (i 1).val = 0) {hc0 : cond0_0 i} (P : Fin 128) (Q : Fin 1152) (hQ : Q.val < 128) : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 (ix2 P Q) = d.val ((1024 * (i 1).val) + 1024 + Q.val) P.val := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12)]
  exact val_pieces hR h0 P Q hQ
theorem z_at {d : Data} {W : ℕ → BitVec 32} (hR : Reads d W i x0 x1 x2 x3 x4 x5 x6 x7 x8 x9 x10 x11 x12) (h0 : (i 1).val = 0) {hc0 : cond0_0 i} (J : Fin 4) (P : Fin 1032) (Q : Fin 128) (hP : P.val < 8) : sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 (ix3 J P Q) = d.z ((1024 * (i 1).val) + 1024 + P.val) (128 * J.val + Q.val) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12)]
  exact z_pieces hR h0 J P Q hP

end Cert.MixerIdeal.PointA

end
-- ==== Proof.MixerPointB.lean ====
/- A point that goes on with a batch: the point before left it the rows just before its tokens. -/
module

public import proofs.«01_k».proof.Proof.MixerShared

@[expose] public section

set_option maxHeartbeats 1000000
set_option maxRecDepth 65536

noncomputable section

open Idealize.ShloMosaic Idealize.ShloMosaic.TcCoe Idealize.SL.Sem

namespace Cert.MixerIdeal.PointB

open Cert.MixerIdeal Cert.MixerIdeal.Gen Cert.MixerIdeal.Stage Cert.Layer Cert.MixerIdeal.Point

variable {c : Dev nD} {i : grid0.Coords} {arg2 : Memref sig .tc .vmem S1x1024x1024 .f32} {harg2 : arg2.IsWhole} {arg3 : Memref sig .tc .vmem S9x16x1024 .f32} {harg3 : arg3.IsWhole} {arg4 : Memref sig .tc .vmem S1x1x1024 .i32} {harg4 : arg4.IsWhole} {arg5 : Memref sig .tc .vmem S8x1 .f32} {harg5 : arg5.IsWhole} {arg6 : Memref sig .tc .vmem S1x1024 .f32} {harg6 : arg6.IsWhole} {arg7 : Memref sig .tc .vmem S768x1024 .bf16} {harg7 : arg7.IsWhole} {arg8 : Memref sig .tc .vmem S1024x768 .bf16} {harg8 : arg8.IsWhole} {arg9 : Memref sig .tc .vmem S1024x768 .bf16} {harg9 : arg9.IsWhole} {arg10 : Memref sig .tc .vmem S3x512 .f32} {harg10 : arg10.IsWhole} {arg11 : Memref sig .tc .vmem S1024x1024 .bf16} {harg11 : arg11.IsWhole} {arg12 : Memref sig .tc .vmem S1x1024 .f32} {harg12 : arg12.IsWhole} {arg13 : Memref sig .tc .vmem S1x1024 .f32} {harg13 : arg13.IsWhole} {arg14 : Memref sig .tc .vmem S256x1024 .f32} {harg14 : arg14.IsWhole} {arg15 : Memref sig .tc .vmem S1x1024x1024 .f32} {harg15 : arg15.IsWhole} {arg16 : Memref sig .tc .vmem S1152x128 .bf16} {harg16 : arg16.IsWhole} {arg17 : Memref sig .tc .vmem S128x1152 .bf16} {harg17 : arg17.IsWhole} {arg18 : Memref sig .tc .vmem S4x1032x128 .f32} {harg18 : arg18.IsWhole} {arg19 : Memref sig .tc .vmem S1024x1024 .bf16} {harg19 : arg19.IsWhole} {arg20 : Memref sig .tc .vmem S768x1024 .f32} {harg20 : arg20.IsWhole} {arg21 : Memref sig .tc .vmem S4x128x1024 .bf16} {harg21 : arg21.IsWhole} {arg22 : Memref sig .tc .vmem S512x1024 .bf16} {harg22 : arg22.IsWhole} {arg23 : Memref sig .tc .vmem S512x1536 .f32} {harg23 : arg23.IsWhole} {arg24 : Memref sig .tc .vmem S4x128x1024 .bf16} {harg24 : arg24.IsWhole} {arg25 : Memref sig .tc .vmem S512x1024 .bf16} {harg25 : arg25.IsWhole} {arg26 : Memref sig .tc .vmem S512x1536 .f32} {harg26 : arg26.IsWhole}
    {x0 : Vec Ideal S1x1024x1024 .f32} {x1 : Vec Ideal S9x16x1024 .f32} {x2 : Vec Ideal S1x1x1024 .i32} {x3 : Vec Ideal S8x1 .f32} {x4 : Vec Ideal S1x1024 .f32} {x5 : Vec Ideal S768x1024 .bf16} {x6 : Vec Ideal S1024x768 .bf16} {x7 : Vec Ideal S1024x768 .bf16} {x8 : Vec Ideal S3x512 .f32} {x9 : Vec Ideal S1024x1024 .bf16} {x10 : Vec Ideal S1x1024 .f32} {x11 : Vec Ideal S1x1024 .f32} {x12 : Vec Ideal S256x1024 .f32}
    {xs0 : Vec Ideal S1152x128 .bf16} {xs1 : Vec Ideal S128x1152 .bf16} {xs2 : Vec Ideal S4x1032x128 .f32}

/-! ## Before the first token there is what the point before carried -/

theorem kt {d : Data} (hC : Carry d (1024 * (i 1).val) xs0 xs1 xs2) (inb) (P : Fin 1152) (Q : Fin 128) (hP : P.val < 128) : View.canon [(⟨Rect.unit (s := S1152x128) ![0, 0] S1152x128.size inb, xs0⟩ : View.Piece (Elt Ideal) S1152x128 .bf16)] (ix2 P Q) = d.key ((1024 * (i 1).val) + P.val) Q.val := by
  refine canon_step2 (Val := Elt Ideal) (e := .bf16) 0 0 inb _ _ P Q _ (fun p q h1 h2 => ?_) (fun h => absurd Q.isLt (by omega))
  rw [hC.key p q (by omega), show p = P from Fin.ext (by omega), show q = Q from Fin.ext (by omega)]
theorem vt {d : Data} (hC : Carry d (1024 * (i 1).val) xs0 xs1 xs2) (inb) (P : Fin 128) (Q : Fin 1152) (hQ : Q.val < 128) : View.canon [(⟨Rect.unit (s := S128x1152) ![0, 0] S128x1152.size inb, xs1⟩ : View.Piece (Elt Ideal) S128x1152 .bf16)] (ix2 P Q) = d.val ((1024 * (i 1).val) + Q.val) P.val := by
  refine canon_step2 (Val := Elt Ideal) (e := .bf16) 0 0 inb _ _ P Q _ (fun p q h1 h2 => ?_) (fun h => absurd P.isLt (by omega))
  rw [hC.val p q (by omega), show p = P from Fin.ext (by omega), show q = Q from Fin.ext (by omega)]
theorem zt {d : Data} (hC : Carry d (1024 * (i 1).val) xs0 xs1 xs2) (inb) (J : Fin 4) (P : Fin 1032) (Q : Fin 128) (hP : P.val < 8) : View.canon [(⟨Rect.unit (s := S4x1032x128) ![0, 0, 0] S4x1032x128.size inb, xs2⟩ : View.Piece (Elt Ideal) S4x1032x128 .f32)] (ix3 J P Q) = d.z ((1024 * (i 1).val) + P.val) (128 * J.val + Q.val) := by
  refine canon_step3 (Val := Elt Ideal) (e := .f32) 0 0 0 inb _ _ J P Q _ (fun o p q h3 h1 h2 => ?_) (fun h => absurd (And.intro J.isLt Q.isLt) (by omega))
  rw [hC.z o p q (by omega), show o = J from Fin.ext (by omega), show p = P from Fin.ext (by omega), show q = Q from Fin.ext (by omega)]

/-! ## Loads of the keys, the values and the convolution's input -/

theorem kld0 {d : Data} {W : ℕ → BitVec 32} (hR : Reads d W i x0 x1 x2 x3 x4 x5 x6 x7 x8 x9 x10 x11 x12) (hC : Carry d (1024 * (i 1).val) xs0 xs1 xs2) (a : ℕ) (ha : a + 256 ≤ 640) (hlo : 128 ≤ a) (inb : ∀ x, (![a, 0] : Fin 2 → ℕ) x + (⟨2, ![256, 128]⟩ : Shape).size x ≤ (⟨2, ![1152, 128]⟩ : Shape).size x) (w : Fin 256) (f : Fin 128) :
    arg16.view.readCov (kernelRun0_B.sl.HS0_1 (F := Ideal) c i arg2 harg2 arg3 harg3 arg4 harg4 arg5 harg5 arg7 harg7 arg19 arg20 x0 x1 x2 x3 x5) (Rect.unit (s := ⟨2, ![1152, 128]⟩) ![a, 0] (⟨2, ![256, 128]⟩ : Shape).size inb).toLoadRect (ix2 w f) = d.key ((1024 * (i 1).val) + a + w.val) f.val :=
  cov2 a 0 inb _ _ w f _ fun P Q h1 h2 => (kbuf0 hR [] P Q (fun h => absurd h (by omega)) (by omega)).trans (by congr 1 <;> omega)
theorem vld0 {d : Data} {W : ℕ → BitVec 32} (hR : Reads d W i x0 x1 x2 x3 x4 x5 x6 x7 x8 x9 x10 x11 x12) (hC : Carry d (1024 * (i 1).val) xs0 xs1 xs2) (a : ℕ) (ha : a + 256 ≤ 640) (hlo : 128 ≤ a) (inb : ∀ x, (![0, a] : Fin 2 → ℕ) x + (⟨2, ![128, 256]⟩ : Shape).size x ≤ (⟨2, ![128, 1152]⟩ : Shape).size x) (f : Fin 128) (w : Fin 256) :
    arg17.view.readCov (kernelRun0_B.sl.HS1_1 (F := Ideal) c i arg2 harg2 arg3 harg3 arg7 harg7 arg19 arg20 x0 x1 x5) (Rect.unit (s := ⟨2, ![128, 1152]⟩) ![0, a] (⟨2, ![128, 256]⟩ : Shape).size inb).toLoadRect (ix2 f w) = d.val ((1024 * (i 1).val) + a + w.val) f.val :=
  cov2 0 a inb _ _ f w _ fun P Q h1 h2 => (vbuf0 hR [] P Q (fun h => absurd h (by omega)) (by omega)).trans (by congr 1 <;> omega)
theorem kld1 {d : Data} {W : ℕ → BitVec 32} (hR : Reads d W i x0 x1 x2 x3 x4 x5 x6 x7 x8 x9 x10 x11 x12) (hC : Carry d (1024 * (i 1).val) xs0 xs1 xs2) {m : ℕ} (a : ℕ) (hlo : 128 ≤ a) (inb : ∀ x, (![a, 0] : Fin 2 → ℕ) x + (⟨2, ![m, 128]⟩ : Shape).size x ≤ (⟨2, ![1152, 128]⟩ : Shape).size x) (w : Fin m) (f : Fin 128) :
    arg16.view.readCov (kernelRun0_B.sl.HS0_2 (F := Ideal) c i arg2 harg2 arg3 harg3 arg4 harg4 arg5 harg5 arg7 harg7 arg19 arg20 x0 x1 x2 x3 x5) (Rect.unit (s := ⟨2, ![1152, 128]⟩) ![a, 0] (⟨2, ![m, 128]⟩ : Shape).size inb).toLoadRect (ix2 w f) = d.key ((1024 * (i 1).val) + a + w.val) f.val :=
  cov2 a 0 inb _ _ w f _ fun P Q h1 h2 => (kbuf1 hR [] P Q (fun h => absurd h (by omega))).trans (by congr 1 <;> omega)
theorem vld1 {d : Data} {W : ℕ → BitVec 32} (hR : Reads d W i x0 x1 x2 x3 x4 x5 x6 x7 x8 x9 x10 x11 x12) (hC : Carry d (1024 * (i 1).val) xs0 xs1 xs2) {m : ℕ} (a : ℕ) (hlo : 128 ≤ a) (inb : ∀ x, (![0, a] : Fin 2 → ℕ) x + (⟨2, ![128, m]⟩ : Shape).size x ≤ (⟨2, ![128, 1152]⟩ : Shape).size x) (f : Fin 128) (w : Fin m) :
    arg17.view.readCov (kernelRun0_B.sl.HS1_2 (F := Ideal) c i arg2 harg2 arg3 harg3 arg7 harg7 arg19 arg20 x0 x1 x5) (Rect.unit (s := ⟨2, ![128, 1152]⟩) ![0, a] (⟨2, ![128, m]⟩ : Shape).size inb).toLoadRect (ix2 f w) = d.val ((1024 * (i 1).val) + a + w.val) f.val :=
  cov2 0 a inb _ _ f w _ fun P Q h1 h2 => (vbuf1 hR [] P Q (fun h => absurd h (by omega))).trans (by congr 1 <;> omega)
theorem kfirst {d : Data} {W : ℕ → BitVec 32} (hR : Reads d W i x0 x1 x2 x3 x4 x5 x6 x7 x8 x9 x10 x11 x12) (hC : Carry d (1024 * (i 1).val) xs0 xs1 xs2) (inb : ∀ x, (![0, 0] : Fin 2 → ℕ) x + (⟨2, ![256, 128]⟩ : Shape).size x ≤ (⟨2, ![1152, 128]⟩ : Shape).size x) (w : Fin 256) (f : Fin 128) :
    View.readAt (Elt Ideal) arg16.view (Rect.unit (s := ⟨2, ![1152, 128]⟩) ![0, 0] (⟨2, ![256, 128]⟩ : Shape).size inb).toLoadRect
      (arg16.view.writes (Elt Ideal) (harg16.unread xs0) (kernelRun0_B.sl.HS0_1 (F := Ideal) c i arg2 harg2 arg3 harg3 arg4 harg4 arg5 harg5 arg7 harg7 arg19 arg20 x0 x1 x2 x3 x5)) (ix2 w f) = d.key ((1024 * (i 1).val) + 0 + w.val) f.val :=
  over2 0 0 inb harg16 xs0 _ w f _ (by decide) fun P Q h1 h2 => (kbuf0 hR _ P Q (kt hC _ P Q) (by omega)).trans (by congr 1 <;> omega)
theorem vfirst {d : Data} {W : ℕ → BitVec 32} (hR : Reads d W i x0 x1 x2 x3 x4 x5 x6 x7 x8 x9 x10 x11 x12) (hC : Carry d (1024 * (i 1).val) xs0 xs1 xs2) (inb : ∀ x, (![0, 0] : Fin 2 → ℕ) x + (⟨2, ![128, 256]⟩ : Shape).size x ≤ (⟨2, ![128, 1152]⟩ : Shape).size x) (f : Fin 128) (w : Fin 256) :
    View.readAt (Elt Ideal) arg17.view (Rect.unit (s := ⟨2, ![128, 1152]⟩) ![0, 0] (⟨2, ![128, 256]⟩ : Shape).size inb).toLoadRect
      (arg17.view.writes (Elt Ideal) (harg17.unread xs1) (kernelRun0_B.sl.HS1_1 (F := Ideal) c i arg2 harg2 arg3 harg3 arg7 harg7 arg19 arg20 x0 x1 x5)) (ix2 f w) = d.val ((1024 * (i 1).val) + 0 + w.val) f.val :=
  over2 0 0 inb harg17 xs1 _ f w _ (by decide) fun P Q h1 h2 => (vbuf0 hR _ P Q (vt hC _ P Q) (by omega)).trans (by congr 1 <;> omega)
theorem zld1 {d : Data} {W : ℕ → BitVec 32} (hR : Reads d W i x0 x1 x2 x3 x4 x5 x6 x7 x8 x9 x10 x11 x12) (hC : Carry d (1024 * (i 1).val) xs0 xs1 xs2) (a : ℕ) (ha : a ≤ 8) (hlo : 8 ≤ a) (inb : ∀ x, (![0, a, 0] : Fin 3 → ℕ) x + (⟨3, ![1, 512, 128]⟩ : Shape).size x ≤ (⟨3, ![4, 1032, 128]⟩ : Shape).size x) (p : Fin 512) (q : Fin 128) :
    arg18.view.readCov (kernelRun0_B.sl.HS2_1 (F := Ideal) c i arg2 harg2 arg3 harg3 arg8 harg8 arg9 harg9 arg19 arg23 x0 x1 x6 x7) (Rect.unit (s := ⟨3, ![4, 1032, 128]⟩) ![0, a, 0] (⟨3, ![1, 512, 128]⟩ : Shape).size inb).toLoadRect (ix3 0 p q) = d.z ((1024 * (i 1).val) + a + p.val) (128 * 0 + q.val) :=
  cov3 0 a 0 inb _ _ 0 p q _ fun O P Q e0 h1 h2 => (zbuf1 hR [] O P Q (fun h => absurd h (by omega)) (by omega)).trans (by congr 1 <;> omega)
theorem zov1 {d : Data} {W : ℕ → BitVec 32} (hR : Reads d W i x0 x1 x2 x3 x4 x5 x6 x7 x8 x9 x10 x11 x12) (hC : Carry d (1024 * (i 1).val) xs0 xs1 xs2) (a : ℕ) (ha : a ≤ 8) (inb : ∀ x, (![0, a, 0] : Fin 3 → ℕ) x + (⟨3, ![1, 512, 128]⟩ : Shape).size x ≤ (⟨3, ![4, 1032, 128]⟩ : Shape).size x) (p : Fin 512) (q : Fin 128) :
    View.readAt (Elt Ideal) arg18.view (Rect.unit (s := ⟨3, ![4, 1032, 128]⟩) ![0, a, 0] (⟨3, ![1, 512, 128]⟩ : Shape).size inb).toLoadRect
      (arg18.view.writes (Elt Ideal) (harg18.unread xs2) (kernelRun0_B.sl.HS2_1 (F := Ideal) c i arg2 harg2 arg3 harg3 arg8 harg8 arg9 harg9 arg19 arg23 x0 x1 x6 x7)) (ix3 0 p q) = d.z ((1024 * (i 1).val) + a + p.val) (128 * 0 + q.val) :=
  over3 0 a 0 inb harg18 xs2 _ 0 p q _ (by decide) fun O P Q e0 h1 h2 => (zbuf1 hR _ O P Q (zt hC _ O P Q) (by omega)).trans (by congr 1 <;> omega)
theorem zld2 {d : Data} {W : ℕ → BitVec 32} (hR : Reads d W i x0 x1 x2 x3 x4 x5 x6 x7 x8 x9 x10 x11 x12) (hC : Carry d (1024 * (i 1).val) xs0 xs1 xs2) (a : ℕ) (ha : a ≤ 8) (hlo : 8 ≤ a) (inb : ∀ x, (![1, a, 0] : Fin 3 → ℕ) x + (⟨3, ![1, 512, 128]⟩ : Shape).size x ≤ (⟨3, ![4, 1032, 128]⟩ : Shape).size x) (p : Fin 512) (q : Fin 128) :
    arg18.view.readCov (kernelRun0_B.sl.HS2_2 (F := Ideal) c i arg2 harg2 arg3 harg3 arg8 harg8 arg9 harg9 arg19 arg23 x0 x1 x6 x7) (Rect.unit (s := ⟨3, ![4, 1032, 128]⟩) ![1, a, 0] (⟨3, ![1, 512, 128]⟩ : Shape).size inb).toLoadRect (ix3 0 p q) = d.z ((1024 * (i 1).val) + a + p.val) (128 * 1 + q.val) :=
  cov3 1 a 0 inb _ _ 0 p q _ fun O P Q e0 h1 h2 => (zbuf2 hR [] O P Q (fun h => absurd h (by omega)) (by omega)).trans (by congr 1 <;> omega)
theorem zov2 {d : Data} {W : ℕ → BitVec 32} (hR : Reads d W i x0 x1 x2 x3 x4 x5 x6 x7 x8 x9 x10 x11 x12) (hC : Carry d (1024 * (i 1).val) xs0 xs1 xs2) (a : ℕ) (ha : a ≤ 8) (inb : ∀ x, (![1, a, 0] : Fin 3 → ℕ) x + (⟨3, ![1, 512, 128]⟩ : Shape).size x ≤ (⟨3, ![4, 1032, 128]⟩ : Shape).size x) (p : Fin 512) (q : Fin 128) :
    View.readAt (Elt Ideal) arg18.view (Rect.unit (s := ⟨3, ![4, 1032, 128]⟩) ![1, a, 0] (⟨3, ![1, 512, 128]⟩ : Shape).size inb).toLoadRect
      (arg18.view.writes (Elt Ideal) (harg18.unread xs2) (kernelRun0_B.sl.HS2_2 (F := Ideal) c i arg2 harg2 arg3 harg3 arg8 harg8 arg9 harg9 arg19 arg23 x0 x1 x6 x7)) (ix3 0 p q) = d.z ((1024 * (i 1).val) + a + p.val) (128 * 1 + q.val) :=
  over3 1 a 0 inb harg18 xs2 _ 0 p q _ (by decide) fun O P Q e0 h1 h2 => (zbuf2 hR _ O P Q (zt hC _ O P Q) (by omega)).trans (by congr 1 <;> omega)
theorem zld3 {d : Data} {W : ℕ → BitVec 32} (hR : Reads d W i x0 x1 x2 x3 x4 x5 x6 x7 x8 x9 x10 x11 x12) (hC : Carry d (1024 * (i 1).val) xs0 xs1 xs2) (a : ℕ) (ha : a ≤ 8) (hlo : 8 ≤ a) (inb : ∀ x, (![2, a, 0] : Fin 3 → ℕ) x + (⟨3, ![1, 512, 128]⟩ : Shape).size x ≤ (⟨3, ![4, 1032, 128]⟩ : Shape).size x) (p : Fin 512) (q : Fin 128) :
    arg18.view.readCov (kernelRun0_B.sl.HS2_3 (F := Ideal) c i arg2 harg2 arg3 harg3 arg8 harg8 arg9 harg9 arg19 arg23 x0 x1 x6 x7) (Rect.unit (s := ⟨3, ![4, 1032, 128]⟩) ![2, a, 0] (⟨3, ![1, 512, 128]⟩ : Shape).size inb).toLoadRect (ix3 0 p q) = d.z ((1024 * (i 1).val) + a + p.val) (128 * 2 + q.val) :=
  cov3 2 a 0 inb _ _ 0 p q _ fun O P Q e0 h1 h2 => (zbuf3 hR [] O P Q (fun h => absurd h (by omega)) (by omega)).trans (by congr 1 <;> omega)
theorem zov3 {d : Data} {W : ℕ → BitVec 32} (hR : Reads d W i x0 x1 x2 x3 x4 x5 x6 x7 x8 x9 x10 x11 x12) (hC : Carry d (1024 * (i 1).val) xs0 xs1 xs2) (a : ℕ) (ha : a ≤ 8) (inb : ∀ x, (![2, a, 0] : Fin 3 → ℕ) x + (⟨3, ![1, 512, 128]⟩ : Shape).size x ≤ (⟨3, ![4, 1032, 128]⟩ : Shape).size x) (p : Fin 512) (q : Fin 128) :
    View.readAt (Elt Ideal) arg18.view (Rect.unit (s := ⟨3, ![4, 1032, 128]⟩) ![2, a, 0] (⟨3, ![1, 512, 128]⟩ : Shape).size inb).toLoadRect
      (arg18.view.writes (Elt Ideal) (harg18.unread xs2) (kernelRun0_B.sl.HS2_3 (F := Ideal) c i arg2 harg2 arg3 harg3 arg8 harg8 arg9 harg9 arg19 arg23 x0 x1 x6 x7)) (ix3 0 p q) = d.z ((1024 * (i 1).val) + a + p.val) (128 * 2 + q.val) :=
  over3 2 a 0 inb harg18 xs2 _ 0 p q _ (by decide) fun O P Q e0 h1 h2 => (zbuf3 hR _ O P Q (zt hC _ O P Q) (by omega)).trans (by congr 1 <;> omega)
theorem zld4 {d : Data} {W : ℕ → BitVec 32} (hR : Reads d W i x0 x1 x2 x3 x4 x5 x6 x7 x8 x9 x10 x11 x12) (hC : Carry d (1024 * (i 1).val) xs0 xs1 xs2) (a : ℕ) (ha : a ≤ 8) (hlo : 8 ≤ a) (inb : ∀ x, (![3, a, 0] : Fin 3 → ℕ) x + (⟨3, ![1, 512, 128]⟩ : Shape).size x ≤ (⟨3, ![4, 1032, 128]⟩ : Shape).size x) (p : Fin 512) (q : Fin 128) :
    arg18.view.readCov (kernelRun0_B.sl.HS2_4 (F := Ideal) c i arg2 harg2 arg3 harg3 arg8 harg8 arg9 harg9 arg19 arg23 x0 x1 x6 x7) (Rect.unit (s := ⟨3, ![4, 1032, 128]⟩) ![3, a, 0] (⟨3, ![1, 512, 128]⟩ : Shape).size inb).toLoadRect (ix3 0 p q) = d.z ((1024 * (i 1).val) + a + p.val) (128 * 3 + q.val) :=
  cov3 3 a 0 inb _ _ 0 p q _ fun O P Q e0 h1 h2 => (zbuf4 hR [] O P Q (fun h => absurd h (by omega)) (by omega)).trans (by congr 1 <;> omega)
theorem zov4 {d : Data} {W : ℕ → BitVec 32} (hR : Reads d W i x0 x1 x2 x3 x4 x5 x6 x7 x8 x9 x10 x11 x12) (hC : Carry d (1024 * (i 1).val) xs0 xs1 xs2) (a : ℕ) (ha : a ≤ 8) (inb : ∀ x, (![3, a, 0] : Fin 3 → ℕ) x + (⟨3, ![1, 512, 128]⟩ : Shape).size x ≤ (⟨3, ![4, 1032, 128]⟩ : Shape).size x) (p : Fin 512) (q : Fin 128) :
    View.readAt (Elt Ideal) arg18.view (Rect.unit (s := ⟨3, ![4, 1032, 128]⟩) ![3, a, 0] (⟨3, ![1, 512, 128]⟩ : Shape).size inb).toLoadRect
      (arg18.view.writes (Elt Ideal) (harg18.unread xs2) (kernelRun0_B.sl.HS2_4 (F := Ideal) c i arg2 harg2 arg3 harg3 arg8 harg8 arg9 harg9 arg19 arg23 x0 x1 x6 x7)) (ix3 0 p q) = d.z ((1024 * (i 1).val) + a + p.val) (128 * 3 + q.val) :=
  over3 3 a 0 inb harg18 xs2 _ 0 p q _ (by decide) fun O P Q e0 h1 h2 => (zbuf4 hR _ O P Q (zt hC _ O P Q) (by omega)).trans (by congr 1 <;> omega)
theorem zld5 {d : Data} {W : ℕ → BitVec 32} (hR : Reads d W i x0 x1 x2 x3 x4 x5 x6 x7 x8 x9 x10 x11 x12) (hC : Carry d (1024 * (i 1).val) xs0 xs1 xs2) (a : ℕ) (ha : a ≤ 520) (hlo : 8 ≤ a) (inb : ∀ x, (![0, a, 0] : Fin 3 → ℕ) x + (⟨3, ![1, 512, 128]⟩ : Shape).size x ≤ (⟨3, ![4, 1032, 128]⟩ : Shape).size x) (p : Fin 512) (q : Fin 128) :
    arg18.view.readCov (kernelRun0_B.sl.HS2_5 (F := Ideal) c i arg2 harg2 arg3 harg3 arg8 harg8 arg9 harg9 arg19 arg23 arg26 x0 x1 x6 x7) (Rect.unit (s := ⟨3, ![4, 1032, 128]⟩) ![0, a, 0] (⟨3, ![1, 512, 128]⟩ : Shape).size inb).toLoadRect (ix3 0 p q) = d.z ((1024 * (i 1).val) + a + p.val) (128 * 0 + q.val) :=
  cov3 0 a 0 inb _ _ 0 p q _ fun O P Q e0 h1 h2 => (zbuf5 hR [] O P Q (fun h => absurd h (by omega)) (by omega)).trans (by congr 1 <;> omega)
theorem zld6 {d : Data} {W : ℕ → BitVec 32} (hR : Reads d W i x0 x1 x2 x3 x4 x5 x6 x7 x8 x9 x10 x11 x12) (hC : Carry d (1024 * (i 1).val) xs0 xs1 xs2) (a : ℕ) (ha : a ≤ 520) (hlo : 8 ≤ a) (inb : ∀ x, (![1, a, 0] : Fin 3 → ℕ) x + (⟨3, ![1, 512, 128]⟩ : Shape).size x ≤ (⟨3, ![4, 1032, 128]⟩ : Shape).size x) (p : Fin 512) (q : Fin 128) :
    arg18.view.readCov (kernelRun0_B.sl.HS2_6 (F := Ideal) c i arg2 harg2 arg3 harg3 arg8 harg8 arg9 harg9 arg19 arg23 arg26 x0 x1 x6 x7) (Rect.unit (s := ⟨3, ![4, 1032, 128]⟩) ![1, a, 0] (⟨3, ![1, 512, 128]⟩ : Shape).size inb).toLoadRect (ix3 0 p q) = d.z ((1024 * (i 1).val) + a + p.val) (128 * 1 + q.val) :=
  cov3 1 a 0 inb _ _ 0 p q _ fun O P Q e0 h1 h2 => (zbuf6 hR [] O P Q (fun h => absurd h (by omega)) (by omega)).trans (by congr 1 <;> omega)
theorem zld7 {d : Data} {W : ℕ → BitVec 32} (hR : Reads d W i x0 x1 x2 x3 x4 x5 x6 x7 x8 x9 x10 x11 x12) (hC : Carry d (1024 * (i 1).val) xs0 xs1 xs2) (a : ℕ) (ha : a ≤ 520) (hlo : 8 ≤ a) (inb : ∀ x, (![2, a, 0] : Fin 3 → ℕ) x + (⟨3, ![1, 512, 128]⟩ : Shape).size x ≤ (⟨3, ![4, 1032, 128]⟩ : Shape).size x) (p : Fin 512) (q : Fin 128) :
    arg18.view.readCov (kernelRun0_B.sl.HS2_7 (F := Ideal) c i arg2 harg2 arg3 harg3 arg8 harg8 arg9 harg9 arg19 arg23 arg26 x0 x1 x6 x7) (Rect.unit (s := ⟨3, ![4, 1032, 128]⟩) ![2, a, 0] (⟨3, ![1, 512, 128]⟩ : Shape).size inb).toLoadRect (ix3 0 p q) = d.z ((1024 * (i 1).val) + a + p.val) (128 * 2 + q.val) :=
  cov3 2 a 0 inb _ _ 0 p q _ fun O P Q e0 h1 h2 => (zbuf7 hR [] O P Q (fun h => absurd h (by omega)) (by omega)).trans (by congr 1 <;> omega)
theorem zld8 {d : Data} {W : ℕ → BitVec 32} (hR : Reads d W i x0 x1 x2 x3 x4 x5 x6 x7 x8 x9 x10 x11 x12) (hC : Carry d (1024 * (i 1).val) xs0 xs1 xs2) (a : ℕ) (ha : a ≤ 520) (hlo : 8 ≤ a) (inb : ∀ x, (![3, a, 0] : Fin 3 → ℕ) x + (⟨3, ![1, 512, 128]⟩ : Shape).size x ≤ (⟨3, ![4, 1032, 128]⟩ : Shape).size x) (p : Fin 512) (q : Fin 128) :
    arg18.view.readCov (kernelRun0_B.sl.HS2_8 (F := Ideal) c i arg2 harg2 arg3 harg3 arg8 harg8 arg9 harg9 arg19 arg23 arg26 x0 x1 x6 x7) (Rect.unit (s := ⟨3, ![4, 1032, 128]⟩) ![3, a, 0] (⟨3, ![1, 512, 128]⟩ : Shape).size inb).toLoadRect (ix3 0 p q) = d.z ((1024 * (i 1).val) + a + p.val) (128 * 3 + q.val) :=
  cov3 3 a 0 inb _ _ 0 p q _ fun O P Q e0 h1 h2 => (zbuf8 hR [] O P Q (fun h => absurd h (by omega)) (by omega)).trans (by congr 1 <;> omega)

/-! ## Both branches, the result and what is carried on -/

theorem act0 {d : Data} {W : ℕ → BitVec 32} (hR : Reads d W i x0 x1 x2 x3 x4 x5 x6 x7 x8 x9 x10 x11 x12) (hC : Carry d (1024 * (i 1).val) xs0 xs1 xs2) (r : Fin 512) (f : Fin 1024) : View.canon (kernelRun0_B.sl.HS6_20 (F := Ideal) c i arg2 harg2 arg3 harg3 arg4 harg4 arg5 harg5 arg6 harg6 arg7 harg7 arg8 harg8 arg9 harg9 arg10 harg10 arg14 harg14 arg16 harg16 arg17 harg17 arg18 harg18 arg19 arg20 arg21 arg23 x0 x1 x2 x3 x4 x5 x6 x7 x8 x12 xs0 xs1 xs2) (ix2 r f) = d.act ((1024 * (i 1).val) + 0 + r.val) f.val :=
  canon_act d ((1024 * (i 1).val) + 0) (8 * (i 1).val) (by omega) _ _ _ _ _ _ _ _
    (conv0 hR 0 0 512 rfl rfl _ _ _ _ _ _ _ (zov1 hR hC 6 (by omega) _) (zov1 hR hC 7 (by omega) _) (zld1 hR hC 8 (by omega) (by omega) _))
    (conv0 hR 1 128 640 rfl rfl _ _ _ _ _ _ _ (zov2 hR hC 6 (by omega) _) (zov2 hR hC 7 (by omega) _) (zld2 hR hC 8 (by omega) (by omega) _))
    (conv0 hR 2 256 768 rfl rfl _ _ _ _ _ _ _ (zov3 hR hC 6 (by omega) _) (zov3 hR hC 7 (by omega) _) (zld3 hR hC 8 (by omega) (by omega) _))
    (conv0 hR 3 384 896 rfl rfl _ _ _ _ _ _ _ (zov4 hR hC 6 (by omega) _) (zov4 hR hC 7 (by omega) _) (zld4 hR hC 8 (by omega) (by omega) _))
    (att_first hR _ rfl _ _ _ (kfirst hR hC _) (vfirst hR hC _))
    (att0 hR 1 _ rfl (by omega) _ _ _ (kld0 hR hC 128 (by omega) (by omega) _) (vld0 hR hC 128 (by omega) (by omega) _))
    (att0 hR 2 _ rfl (by omega) _ _ _ (kld0 hR hC 256 (by omega) (by omega) _) (vld0 hR hC 256 (by omega) (by omega) _))
    (att0 hR 3 _ rfl (by omega) _ _ _ (kld0 hR hC 384 (by omega) (by omega) _) (vld0 hR hC 384 (by omega) (by omega) _))
    _ _ _ _ _ _ _ _ _ _ _ _ _ _ _ _ _ _ _ _ r f
theorem act1 {d : Data} {W : ℕ → BitVec 32} (hR : Reads d W i x0 x1 x2 x3 x4 x5 x6 x7 x8 x9 x10 x11 x12) (hC : Carry d (1024 * (i 1).val) xs0 xs1 xs2) (r : Fin 512) (f : Fin 1024) : View.canon (kernelRun0_B.sl.HS9_20 (F := Ideal) c i arg2 harg2 arg3 harg3 arg4 harg4 arg5 harg5 arg6 harg6 arg7 harg7 arg8 harg8 arg9 harg9 arg10 harg10 arg14 harg14 arg16 arg17 arg18 arg19 arg20 arg23 arg24 arg26 x0 x1 x2 x3 x4 x5 x6 x7 x8 x12) (ix2 r f) = d.act ((1024 * (i 1).val) + 512 + r.val) f.val :=
  canon_act d ((1024 * (i 1).val) + 512) (8 * (i 1).val + 4) (by omega) _ _ _ _ _ _ _ _
    (conv1 hR 0 0 512 rfl rfl _ _ _ _ _ _ _ (zld5 hR hC 518 (by omega) (by omega) _) (zld5 hR hC 519 (by omega) (by omega) _) (zld5 hR hC 520 (by omega) (by omega) _))
    (conv1 hR 1 128 640 rfl rfl _ _ _ _ _ _ _ (zld6 hR hC 518 (by omega) (by omega) _) (zld6 hR hC 519 (by omega) (by omega) _) (zld6 hR hC 520 (by omega) (by omega) _))
    (conv1 hR 2 256 768 rfl rfl _ _ _ _ _ _ _ (zld7 hR hC 518 (by omega) (by omega) _) (zld7 hR hC 519 (by omega) (by omega) _) (zld7 hR hC 520 (by omega) (by omega) _))
    (conv1 hR 3 384 896 rfl rfl _ _ _ _ _ _ _ (zld8 hR hC 518 (by omega) (by omega) _) (zld8 hR hC 519 (by omega) (by omega) _) (zld8 hR hC 520 (by omega) (by omega) _))
    (att1 hR 0 _ rfl _ _ _ (kld1 hR hC 512 (by omega) _) (vld1 hR hC 512 (by omega) _))
    (att1 hR 1 _ rfl _ _ _ (kld1 hR hC 640 (by omega) _) (vld1 hR hC 640 (by omega) _))
    (att1 hR 2 _ rfl _ _ _ (kld1 hR hC 768 (by omega) _) (vld1 hR hC 768 (by omega) _))
    (att1 hR 3 _ rfl _ _ _ (kld1 hR hC 896 (by omega) _) (vld1 hR hC 896 (by omega) _))
    _ _ _ _ _ _ _ _ _ _ _ _ _ _ _ _ _ _ _ _ r f
theorem out_pieces {d : Data} {W : ℕ → BitVec 32} (hR : Reads d W i x0 x1 x2 x3 x4 x5 x6 x7 x8 x9 x10 x11 x12) (hC : Carry d (1024 * (i 1).val) xs0 xs1 xs2) {hc0 : ¬cond0_0 i} (o : Fin 1) (r j : Fin 1024) : View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 xs0 xs1 xs2).1 (ix3 o r j) = d.out ((1024 * (i 1).val) + r.val) j :=
  canon_out d (1024 * (i 1).val) _ _ _ (out0 hR _ (act0 hR hC) _ _ _ _) (out1 hR _ (act1 hR hC) _ _ _ _) (out2 hR _ (act1 hR hC) _ _ _ _) _ _ _ o r j

/-- The same, as the point leaves them. -/
theorem out_at {d : Data} {W : ℕ → BitVec 32} (hR : Reads d W i x0 x1 x2 x3 x4 x5 x6 x7 x8 x9 x10 x11 x12) (hC : Carry d (1024 * (i 1).val) xs0 xs1 xs2) {hc0 : ¬cond0_0 i} (o : Fin 1) (r j : Fin 1024) : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 xs0 xs1 xs2 (ix3 o r j) = d.out ((1024 * (i 1).val) + r.val) j := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 xs0 xs1 xs2)]
  exact out_pieces hR hC o r j

end Cert.MixerIdeal.PointB

end
-- ==== Proof.MixerRef.lean ====
/- The mixer's reference read at an index, stage by stage: each stage is the specification's. -/
module

public import proofs.«01_k».proof.Proof.MixerSpec
public import proofs.«01_k».proof.Proof.Gen.MixerRefIdeal.Read
public import Idealize.ShloMosaic.Lib.Tactic

@[expose] public section

noncomputable section

open Idealize.ShloMosaic Idealize.ShloMosaic.TcCoe Idealize.SL.Sem

namespace Cert.MixerRefIdeal.At

open Cert.MixerRefIdeal Cert.MixerRefIdeal.Read Cert.Layer

/-! ## Reductions along the last of six axes -/

section last
variable {n0 n1 n2 n3 n4 n5 : ℕ} (hr : (⟨6, ![n0, n1, n2, n3, n4, n5]⟩ : Shape).ReducesTo [5] ⟨5, ![n0, n1, n2, n3, n4]⟩)
  (a : Fin n0) (b : Fin n1) (c : Fin n2) (p : Fin n3) (q : Fin n4)

/-- What drops to an index is the line of indices over it. -/
theorem drop_last (i : (⟨6, ![n0, n1, n2, n3, n4, n5]⟩ : Shape).Idx) : hr.drop i = ix5 a b c p q ↔ ∃ k : Fin n5, ix6 a b c p q k = i := by
  refine ⟨fun e => ⟨i 5, funext fun x => Fin.ext ?_⟩, ?_⟩
  · fin_cases x
    exacts [(congrArg Fin.val (congrFun e 0)).symm, (congrArg Fin.val (congrFun e 1)).symm, (congrArg Fin.val (congrFun e 2)).symm,
      (congrArg Fin.val (congrFun e 3)).symm, (congrArg Fin.val (congrFun e 4)).symm, rfl]
  · rintro ⟨k, rfl⟩
    funext x
    fin_cases x <;> rfl

theorem sum_last (v : (⟨6, ![n0, n1, n2, n3, n4, n5]⟩ : Shape).Idx → EReal) (init : EReal) :
    Ideal.hostReduceAdd hr v init (ix5 a b c p q) = init + ∑ k : Fin n5, v (ix6 a b c p q k) :=
  congrArg (init + ·) (Finset.sum_filter_eq_sum_of_fiber (κ := Fin n5) _ (fun k => ix6 a b c p q k) (fun _ _ e => (congrFun e 5 :)) (drop_last hr a b c p q) v)

theorem max_last {u : Shape} (v : FVec Ideal ⟨6, ![n0, n1, n2, n3, n4, n5]⟩ .f32) (init : FVec Ideal u .f32) (hu : 0 < u.numel) :
    Host.reduce (FloatOps.maximumf (F := Ideal) (φ := .f32)) v init hr hu (ix5 a b c p q)
      = max (init (Shape.Idx.first hu)) (Finset.univ.sup fun k : Fin n5 => v (ix6 a b c p q k)) := by
  have e : (FloatOps.maximumf (F := Ideal) (φ := .f32)) = (max : EReal → EReal → EReal) := by
    exact Ideal.maximumf_eq_max
  rw [e, Host.reduce_eq_fold,
    Finset.fold_filter_eq_fold_of_fiber (κ := Fin n5) max _ (fun k => ix6 a b c p q k) (fun _ _ e => (congrFun e 5 :)) (drop_last hr a b c p q)]
  induction (Finset.univ : Finset (Fin n5)) using Finset.cons_induction with
  | empty => simp
  | cons x S hx ih => rw [Finset.fold_cons, ih, Finset.sup_cons, max_left_comm]
end last

variable (x0 : FVec Ideal S16x2048x1024 .f32) (x1 : FVec Ideal S16x9216 .f32) (x2 : IVec S16x2048 32) (x3 : FVec Ideal S1024x2304 .f32)
    (x4 : FVec Ideal S3x512 .f32) (x5 : FVec Ideal S8 .f32) (x6 : FVec Ideal S1024x1024 .f32) (x7 x8 : FVec Ideal S1024 .f32)

/-- Batch `b`'s operands among the arguments. -/
def data (b : Fin 16) : Data where
  x t k := rd3 x0 b.val t k
  w k f := rd2 x3 k f
  cw p f := rd2 x4 p f
  wo f k := rd2 x6 f k
  shift k := rd2 x1 b.val (3072 + k)
  scale k := rd2 x1 b.val (4096 + k)
  gate k := rd2 x1 b.val (5120 + k)
  pos t := if h : t < 2048 then FloatOps.sitofp (F := Ideal) .f32 (x2 (ix2 b ⟨t, h⟩)) else 0
  freq e := rd1 (val_main_v33 (F := Ideal)) e
  sink hd := rd1 x5 hd
  g k := rd1 x7 k
  b k := rd1 x8 k

theorem h_at (b : Fin 16) (t : Fin 2048) (k : Fin 1024) : val_main_v15 (F := Ideal) x0 x1 (ix3 b t k) = (data x0 x1 x2 x3 x4 x5 x6 x7 x8 b).h t.val k.val := by
  pointwise [val_main_v0, val_main_v1, val_main_v2, val_main_v3, val_main_v4, val_main_v5, val_main_v6, val_main_v7, val_main_v8, val_main_v9, val_main_cst, val_main_v10, val_main_v11, val_main_v12, val_main_v13, val_main_v14, val_main_v15]
  simp only [rd3_val, rd2_val]
  rfl

theorem proj_at (b : Fin 16) (t : Fin 2048) (f : Fin 2304) : val_main_v16 (F := Ideal) x0 x1 x3 (ix3 b t f) = (data x0 x1 x2 x3 x4 x5 x6 x7 x8 b).proj t.val f.val := by
  pointwise [val_main_v16]
  simp only [h_at x0 x1 x2 x3 x4 x5 x6 x7 x8, rd2_val]
  rfl

theorem freq_at (e : Fin 8) : val_main_v68 (F := Ideal) (ix1 e) = val_main_v33 (F := Ideal) (ix1 e) := rfl

theorem ang_at (b : Fin 16) (t : Fin 2048) (e : Fin 8) : val_main_v39 (F := Ideal) x2 (ix3 b t e) = (data x0 x1 x2 x3 x4 x5 x6 x7 x8 b).ang t.val e.val := by
  pointwise [val_main_v34, val_main_v35, val_main_v36, val_main_v37, val_main_v38, val_main_v39]
  simp only [rd1_val]
  unfold Data.ang data
  simp only [dif_pos t.isLt]

theorem ang_at' (b : Fin 16) (t : Fin 2048) (e : Fin 8) : val_main_v74 (F := Ideal) x2 (ix3 b t e) = (data x0 x1 x2 x3 x4 x5 x6 x7 x8 b).ang t.val e.val := by
  rw [← ang_at]; rfl

theorem q_at (b : Fin 16) (t : Fin 2048) (hd : Fin 8) (e : Fin 64) :
    val_main_v57 (F := Ideal) x0 x1 x2 x3 (ix4 b t hd e) = (data x0 x1 x2 x3 x4 x5 x6 x7 x8 b).rope t.val (64 * hd.val) e.val := by
  pointwise [val_main_v17, val_main_v23, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57]
  simp only [proj_at x0 x1 x2 x3 x4 x5 x6 x7 x8, ang_at x0 x1 x2 x3 x4 x5 x6 x7 x8]
  unfold Data.rope
  by_cases h8 : e.val < 8
  · rw [dif_pos h8, if_pos h8]
    congr 3 <;> omega
  · by_cases h16 : e.val < 16
    · rw [dif_neg h8, dif_pos (by omega), if_neg h8, if_pos h16]
      congr 3 <;> omega
    · rw [dif_neg h8, dif_neg (by omega), if_neg h8, if_neg h16]
      congr 1; omega

theorem k_at (b : Fin 16) (t : Fin 2048) (kv : Fin 2) (e : Fin 64) :
    val_main_v92 (F := Ideal) x0 x1 x2 x3 (ix4 b t kv e) = (data x0 x1 x2 x3 x4 x5 x6 x7 x8 b).rope t.val (512 + 64 * kv.val) e.val := by
  pointwise [val_main_v18, val_main_v58, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92]
  simp only [proj_at x0 x1 x2 x3 x4 x5 x6 x7 x8, ang_at' x0 x1 x2 x3 x4 x5 x6 x7 x8]
  unfold Data.rope
  by_cases h8 : e.val < 8
  · rw [dif_pos h8, if_pos h8]
    congr 3 <;> omega
  · by_cases h16 : e.val < 16
    · rw [dif_neg h8, dif_pos (by omega), if_neg h8, if_pos h16]
      congr 3 <;> omega
    · rw [dif_neg h8, dif_neg (by omega), if_neg h8, if_neg h16]
      congr 1; omega

theorem zero_pad : FloatOps.sitofp (F := Ideal) .f32 0#32 = 0 := by
  show (((0#32 : BitVec 32).toInt : ℝ) : EReal) = 0
  simp

theorem key_at (b : Fin 16) (n : Fin 16) (w : Fin 256) (kv : Fin 2) (e : Fin 64) :
    val_main_v101 (F := Ideal) x0 x1 x2 x3 (ix5 b n w kv e) = (data x0 x1 x2 x3 x4 x5 x6 x7 x8 b).key (128 * n.val + w.val) (64 * kv.val + e.val) := by
  pointwise [val_main_c, val_main_call0_v0, val_main_v95, val_main_v96, val_main_v99, val_main_v100, val_main_v101]
  simp only [k_at x0 x1 x2 x3 x4 x5 x6 x7 x8, zero_pad]
  unfold Data.key
  by_cases h : w.val < 128
  · by_cases h' : 128 ≤ n.val * 128 + w.val
    · rw [dif_pos h, dif_pos (by omega), if_neg (by omega)]
      congr 1 <;> omega
    · rw [dif_pos h, dif_neg (by omega), if_pos (by omega)]
  · rw [dif_neg h, dif_pos (by omega), if_neg (by omega)]
    congr 1 <;> omega

theorem val_at (b : Fin 16) (n : Fin 16) (w : Fin 256) (kv : Fin 2) (e : Fin 64) :
    val_main_v104 (F := Ideal) x0 x1 x3 (ix5 b n w kv e) = (data x0 x1 x2 x3 x4 x5 x6 x7 x8 b).val (128 * n.val + w.val) (64 * kv.val + e.val) := by
  pointwise [val_main_v19, val_main_v93, val_main_c_8, val_main_call1_v0, val_main_v97, val_main_v98, val_main_v102, val_main_v103, val_main_v104]
  simp only [proj_at x0 x1 x2 x3 x4 x5 x6 x7 x8, zero_pad]
  unfold Data.val
  by_cases h : w.val < 128
  · by_cases h' : 128 ≤ n.val * 128 + w.val
    · rw [dif_pos h, dif_pos (by omega), if_neg (by omega)]
      congr 1 <;> omega
    · rw [dif_pos h, dif_neg (by omega), if_pos (by omega)]
  · rw [dif_neg h, dif_pos (by omega), if_neg (by omega)]
    congr 1 <;> omega

/-- The window mask, read off the integer comparisons. -/
theorem band (q : Fin 128) (w : Fin 256) :
    IntOp.andi (IntOp.cmpi CmpIPredicate.sge (IntOp.subi (IntOp.addi (BitVec.ofNat 32 q.val) 128#32) (BitVec.ofNat 32 w.val)) 0#32)
      (IntOp.cmpi CmpIPredicate.slt (IntOp.subi (IntOp.addi (BitVec.ofNat 32 q.val) 128#32) (BitVec.ofNat 32 w.val)) 128#32)
    = if q.val < w.val ∧ w.val ≤ q.val + 128 then 1#1 else 0#1 := by
  revert q w; decide +kernel
theorem pastStart (n : Fin 16) (w : Fin 256) :
    IntOp.cmpi CmpIPredicate.sge (IntOp.addi (IntOp.muli (IntOp.subi (BitVec.ofNat 32 n.val) 1#32) 128#32) (BitVec.ofNat 32 w.val)) 0#32
    = if 128 ≤ 128 * n.val + w.val then 1#1 else 0#1 := by
  revert n w; decide +kernel

theorem logit_at (b : Fin 16) (n : Fin 16) (kv : Fin 2) (gq : Fin 4) (q : Fin 128) (w : Fin 256) :
    val_main_v138 (F := Ideal) x0 x1 x2 x3 (ix6 b n kv gq q w) = (data x0 x1 x2 x3 x4 x5 x6 x7 x8 b).logit n.val (4 * kv.val + gq.val) q.val w.val := by
  pointwise [val_main_v94, val_main_v105, val_main_v106, val_main_cst_9, val_main_v107, val_main_v108, val_main_v109, val_main_v110, val_main_v111, val_main_v112, val_main_v113, val_main_v114, val_main_c_10, val_main_v115, val_main_v116, val_main_v117, val_main_v118, val_main_v119, val_main_c_11, val_main_v120, val_main_v121, val_main_c_12, val_main_v122, val_main_v123, val_main_v124, val_main_v125, val_main_v126, val_main_c_13, val_main_v127, val_main_v128, val_main_c_14, val_main_v129, val_main_v130, val_main_v131, val_main_c_15, val_main_v132, val_main_v133, val_main_v134, val_main_v135, val_main_v136, val_main_v137, val_main_cst_16, val_main_call2_v0, val_main_call2_v1, val_main_call2_v2, val_main_v138]
  simp only [band, pastStart, key_at x0 x1 x2 x3 x4 x5 x6 x7 x8, q_at x0 x1 x2 x3 x4 x5 x6 x7 x8]
  unfold Data.logit Data.dot Data.open_
  have e4 : (4 * kv.val + gq.val) / 4 = kv.val := by omega
  have e1 : kv.val * 4 + gq.val = 4 * kv.val + gq.val := by omega
  have e2 : n.val * 128 + q.val = 128 * n.val + q.val := by omega
  have e3 : (id (constant (F := Ideal) S_ FTy.f32 4286578688#32) ix0 : EReal) = ⊥ := ofBits_neg_inf
  simp only [e4, e1, e2, e3]
  by_cases h1 : q.val < w.val ∧ w.val ≤ q.val + 128 <;> by_cases h2 : 128 ≤ 128 * n.val + w.val
  · rw [if_pos h1, if_pos h2, if_pos ⟨h1.1, h1.2, h2⟩]; rfl
  · rw [if_pos h1, if_neg h2, if_neg (fun h => h2 h.2.2)]; rfl
  · rw [if_neg h1, if_pos h2, if_neg (fun h => h1 ⟨h.1, h.2.1⟩)]; rfl
  · rw [if_neg h1, if_neg h2, if_neg (fun h => h2 h.2.2)]; rfl

end Cert.MixerRefIdeal.At

end
-- ==== Proof.MixerRefOut.lean ====
/- The mixer's reference read at an index, continued: the softmax, the convolution, the mix and the normalized result. -/
module

public import proofs.«01_k».proof.Proof.MixerRef
public import proofs.«01_k».proof.Proof.Gen.MixerRefIdeal.Read
public import Idealize.ShloMosaic.Lib.Tactic

@[expose] public section

noncomputable section

open Idealize.ShloMosaic Idealize.ShloMosaic.TcCoe Idealize.SL.Sem

namespace Cert.MixerRefIdeal.At

open Cert.MixerRefIdeal Cert.MixerRefIdeal.Read Cert.Layer

variable (x0 : FVec Ideal S16x2048x1024 .f32) (x1 : FVec Ideal S16x9216 .f32) (x2 : IVec S16x2048 32) (x3 : FVec Ideal S1024x2304 .f32)
    (x4 : FVec Ideal S3x512 .f32) (x5 : FVec Ideal S8 .f32) (x6 : FVec Ideal S1024x1024 .f32) (x7 x8 : FVec Ideal S1024 .f32)

/-- The scores with the sink appended, along the last axis. -/
theorem logits_at (b : Fin 16) (n : Fin 16) (kv : Fin 2) (gq : Fin 4) (q : Fin 128) (w : Fin 257) :
    val_main_v142 (F := Ideal) x0 x1 x2 x3 x5 (ix6 b n kv gq q w)
      = if w.val < 256 then (data x0 x1 x2 x3 x4 x5 x6 x7 x8 b).logit n.val (4 * kv.val + gq.val) q.val w.val else (data x0 x1 x2 x3 x4 x5 x6 x7 x8 b).sink (4 * kv.val + gq.val) := by
  pointwise [val_main_v139, val_main_v140, val_main_v141, val_main_v142]
  simp only [logit_at x0 x1 x2 x3 x4 x5 x6 x7 x8, rd1_val]
  split_ifs
  · rfl
  · show rd1 x5 _ = rd1 x5 _
    congr 1; omega

theorem top_at (b : Fin 16) (n : Fin 16) (kv : Fin 2) (gq : Fin 4) (q : Fin 128) :
    val_main_v145 (F := Ideal) x0 x1 x2 x3 x5 (ix5 b n kv gq q) = (data x0 x1 x2 x3 x4 x5 x6 x7 x8 b).top n.val (4 * kv.val + gq.val) q.val := by
  have e : val_main_v145 (F := Ideal) x0 x1 x2 x3 x5 (ix5 b n kv gq q)
      = max (Ideal.ofBits .f32 0xFF800000#32) (val_main_v143 (F := Ideal) x0 x1 x2 x3 x5 (ix5 b n kv gq q)) := by
    rw [val_main_v145_apply, val_main_v144_apply, val_main_cst_18_apply, Ideal.maximumf_eq_max]
    rfl
  have e' : val_main_cst_17 (F := Ideal) (Shape.Idx.first Gen.h_S_) = Ideal.ofBits .f32 0xFF800000#32 := val_main_cst_17_apply _
  unfold val_main_v143 at e
  rw [e, max_last, e', ofBits_neg_inf, max_eq_right bot_le, max_eq_right bot_le]
  simp only [logits_at x0 x1 x2 x3 x4 x5 x6 x7 x8]
  unfold Data.top
  apply le_antisymm
  · refine Finset.sup_le fun w _ => ?_
    split_ifs with h
    · exact le_max_of_le_left (Finset.le_sup (f := fun w : Fin 256 => (data x0 x1 x2 x3 x4 x5 x6 x7 x8 b).logit n.val (4 * kv.val + gq.val) q.val w.val) (Finset.mem_univ ⟨w.val, h⟩))
    · exact le_max_right _ _
  · refine max_le (Finset.sup_le fun w _ => ?_) ?_
    · refine le_trans (le_of_eq ?_) (Finset.le_sup (Finset.mem_univ (⟨w.val, by omega⟩ : Fin 257)))
      simp only [if_pos w.isLt]
    · refine le_trans (le_of_eq ?_) (Finset.le_sup (Finset.mem_univ (⟨256, by omega⟩ : Fin 257)))
      rfl

theorem den_at (b : Fin 16) (n : Fin 16) (kv : Fin 2) (gq : Fin 4) (q : Fin 128) :
    val_main_v150 (F := Ideal) x0 x1 x2 x3 x5 (ix5 b n kv gq q) = (data x0 x1 x2 x3 x4 x5 x6 x7 x8 b).den n.val (4 * kv.val + gq.val) q.val := by
  have e : ∀ w, val_main_v149 (F := Ideal) x0 x1 x2 x3 x5 (ix6 b n kv gq q w)
      = Ideal.exp (val_main_v142 (F := Ideal) x0 x1 x2 x3 x5 (ix6 b n kv gq q w) - val_main_v145 (F := Ideal) x0 x1 x2 x3 x5 (ix5 b n kv gq q)) := by
    intro w
    pointwise [val_main_v146, val_main_v147, val_main_v148, val_main_v149]
  have e0 : val_main_v150 (F := Ideal) x0 x1 x2 x3 x5 (ix5 b n kv gq q)
      = Ideal.hostReduceAdd Gen.reducesTo_S16x16x2x4x128x257_S16x16x2x4x128_d5 (val_main_v149 (F := Ideal) x0 x1 x2 x3 x5)
        (val_main_cst_19 (F := Ideal) (Shape.Idx.first Gen.h_S_)) (ix5 b n kv gq q) := rfl
  have ez : val_main_cst_19 (F := Ideal) (Shape.Idx.first Gen.h_S_) = 0 := (val_main_cst_19_apply _).trans Ideal.ofBits_zero_f32
  rw [e0, sum_last, ez, zero_add, Fin.sum_univ_castSucc (n := 256)]
  simp only [e, logits_at x0 x1 x2 x3 x4 x5 x6 x7 x8, top_at x0 x1 x2 x3 x4 x5 x6 x7 x8]
  unfold Data.den Data.wt
  congr 1

theorem attn_at (b : Fin 16) (t : Fin 2048) (f : Fin 512) :
    val_main_v157 (F := Ideal) x0 x1 x2 x3 x5 (ix3 b t f) = (data x0 x1 x2 x3 x4 x5 x6 x7 x8 b).attn (t.val / 128) (f.val / 64) (t.val % 128) (f.val % 64) := by
  pointwise [val_main_v139, val_main_v140, val_main_v141, val_main_v142, val_main_v146, val_main_v147, val_main_v148, val_main_v149, val_main_v151, val_main_v152, val_main_v153, val_main_v154, val_main_v155, val_main_v156, val_main_v157]
  simp only [val_at x0 x1 x2 x3 x4 x5 x6 x7 x8, logit_at x0 x1 x2 x3 x4 x5 x6 x7 x8, top_at x0 x1 x2 x3 x4 x5 x6 x7 x8, den_at x0 x1 x2 x3 x4 x5 x6 x7 x8]
  unfold Data.attn Data.wt
  have e1 : 4 * (f.val / 256) + f.val / 64 % 4 = f.val / 64 := by omega
  have e2 : f.val / 64 / 4 = f.val / 256 := by omega
  simp only [e1, e2]

theorem conv_at (b : Fin 16) (t : Fin 2048) (f : Fin 512) :
    val_main_v180 (F := Ideal) x0 x1 x3 x4 (ix3 b t f) = (data x0 x1 x2 x3 x4 x5 x6 x7 x8 b).conv t.val f.val := by
  pointwise [val_main_v20, val_main_v21, val_main_v22, val_main_v158, val_main_c_20, val_main_call3_v0, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180]
  simp only [proj_at x0 x1 x2 x3 x4 x5 x6 x7 x8, zero_pad, rd2_val]
  unfold Data.conv Data.z
  have e1 : t.val + 6 - 8 = t.val - 2 := by omega
  have e2 : t.val + 7 - 8 = 1 + t.val - 2 := by omega
  have e3 : t.val + 8 - 8 = t.val := by omega
  rw [e1, e2, e3, if_neg (by omega : ¬t.val + 8 < 8)]
  split_ifs <;> first | rfl | (exfalso; omega)

theorem res_at (b : Fin 16) (t : Fin 2048) (k : Fin 1024) :
    val_main_v189 (F := Ideal) x0 x1 x2 x3 x4 x5 x6 (ix3 b t k) = (data x0 x1 x2 x3 x4 x5 x6 x7 x8 b).res t.val k.val := by
  pointwise [val_main_v0, val_main_v6, val_main_v181, val_main_v182, val_main_cst_21, val_main_v183, val_main_v184, val_main_cst_22, val_main_v185, val_main_v186, val_main_v187, val_main_v188, val_main_v189]
  simp only [attn_at x0 x1 x2 x3 x4 x5 x6 x7 x8, conv_at x0 x1 x2 x3 x4 x5 x6 x7 x8]
  simp only [rd2_val, rd3_val]
  rfl

/-- The reference's result at an index. -/
theorem result (b : Fin 16) (t : Fin 2048) (j : Fin 1024) :
    val_main_v213 (F := Ideal) x0 x1 x2 x3 x4 x5 x6 x7 x8 (ix3 b t j) = (data x0 x1 x2 x3 x4 x5 x6 x7 x8 b).out t.val j := by
  pointwise [val_main_cst_23, val_main_cst_24, val_main_cst_25, val_main_cst_26, val_main_cst_27, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213]
  simp only [res_at x0 x1 x2 x3 x4 x5 x6 x7 x8, rd1_val]
  rfl

end Cert.MixerRefIdeal.At

end
-- ==== Proof.MixerWindows.lean ====
/- What the mixer's windows hold: each input block at an index is an element of an argument, or one of the two constant
   tables the program builds before the call, the rotary frequencies and the attention window's bias. -/
module

public import proofs.«01_k».proof.Proof.MixerShared
public import proofs.«01_k».proof.Proof.MixerRefOut
public import proofs.«01_k».proof.Proof.Gen.MixerIdeal.Value

@[expose] public section

set_option maxRecDepth 65536

noncomputable section

open Idealize.ShloMosaic Idealize.ShloMosaic.TcCoe Idealize.SL.Sem

namespace Cert.MixerIdeal.Whole

open Cert.MixerIdeal Cert.MixerIdeal.Gen Cert.Layer

variable (m : (ℓ : Loc nD τ sig) → Buf (Elt Ideal) ℓ)

/-- The grid's points and the windows' block indices. -/
theorem coords : ∀ t : Fin cfg0.N, (grid0.coords t 0).val = t.val / 2 ∧ (grid0.coords t 1).val = t.val % 2 :=
  (by decide +kernel : ∀ t : Fin grid0.N, (grid0.coords t 0).val = t.val / 2 ∧ (grid0.coords t 1).val = t.val % 2)
theorem idx : ∀ t : Fin cfg0.N,
    (win0_0.index t 0 = t.val / 2 ∧ win0_0.index t 1 = t.val % 2 ∧ win0_0.index t 2 = 0)
    ∧ (win0_1.index t 0 = 0 ∧ win0_1.index t 1 = 0 ∧ win0_1.index t 2 = 0)
    ∧ (win0_2.index t 0 = t.val / 2 ∧ win0_2.index t 1 = 0 ∧ win0_2.index t 2 = t.val % 2)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = 0 ∧ win0_12.index t 1 = 0)
    ∧ (win0_13.index t 0 = t.val / 2 ∧ win0_13.index t 1 = t.val % 2 ∧ win0_13.index t 2 = 0) :=
  (by decide +kernel : ∀ t : Fin grid0.N, _)

/-! ## What the host operations before the call leave in the arrays the windows read -/

theorem v1_eq (c : Dev nD) : V m c main_v1 = transpose S9x16x1024 [1, 0, 2] (shapeCast S16x9x1024 (m ((c : Thread nD τ).loc main_arg1) : FVec Ideal S16x9216 .f32) shapeCasts_S16x9216_S16x9x1024) transposes_S16x9x1024_S9x16x1024_1_0_2 := rfl
theorem v4_eq (c : Dev nD) : V m c main_v4 = (truncf .bf16 (transpose S768x1024 [1, 0] (extractStridedSlice S1024x768 ![0, 0] (m ((c : Thread nD τ).loc main_arg3) : FVec Ideal S1024x2304 .f32) slices_S1024x2304_S1024x768_0_0) transposes_S1024x768_S768x1024_1_0) bitsLt_bf16_f32 : FVec Ideal S768x1024 .bf16) := rfl
theorem v6_eq (c : Dev nD) : V m c main_v6 = (truncf .bf16 (extractStridedSlice S1024x768 ![0, 768] (m ((c : Thread nD τ).loc main_arg3) : FVec Ideal S1024x2304 .f32) slices_S1024x2304_S1024x768_0_768) bitsLt_bf16_f32 : FVec Ideal S1024x768 .bf16) := rfl
theorem v8_eq (c : Dev nD) : V m c main_v8 = (truncf .bf16 (extractStridedSlice S1024x768 ![0, 1536] (m ((c : Thread nD τ).loc main_arg3) : FVec Ideal S1024x2304 .f32) slices_S1024x2304_S1024x768_0_1536) bitsLt_bf16_f32 : FVec Ideal S1024x768 .bf16) := rfl
theorem v22_eq (c : Dev nD) : V m c main_v22 = shapeCast S1x1024 (shapeCast S1024 (broadcastInDim S8x128 ![0] bcast_S8_S8x128_0 (m ((c : Thread nD τ).loc main_arg5) : FVec Ideal S8 .f32)) shapeCasts_S8x128_S1024) shapeCasts_S1024_S1x1024 := rfl
theorem v33_eq (c : Dev nD) : V m c main_v33 = shapeCast S16x1x2048 (m ((c : Thread nD τ).loc main_arg2) : IVec S16x2048 32) shapeCasts_S16x2048_S16x1x2048 := rfl
theorem v35_eq (c : Dev nD) : V m c main_v35 = shapeCast S1x1024 (m ((c : Thread nD τ).loc main_arg7) : FVec Ideal S1024 .f32) shapeCasts_S1024_S1x1024 := rfl
theorem v36_eq (c : Dev nD) : V m c main_v36 = shapeCast S1x1024 (m ((c : Thread nD τ).loc main_arg8) : FVec Ideal S1024 .f32) shapeCasts_S1024_S1x1024 := rfl
/-! ## The windows' blocks -/

theorem in0 (c : Dev nD) (t : Fin cfg0.N) (o : Fin 1) (r k : Fin 1024) (b : Fin 16) (q : Fin 2048) (hb : b.val = t.val / 2) (hq : q.val = 1024 * (t.val % 2) + r.val) :
    iblk m c 0 t (ix3 o r k) = m ((c : Thread nD τ).loc main_arg0) (ix3 b q k) := by
  obtain rfl : o = 0 := Subsingleton.elim _ _
  blk_ext! [iblk, V, idx t]
theorem in1 (c : Dev nD) (t : Fin cfg0.N) (p : Fin 9) (b : Fin 16) (k : Fin 1024) :
    iblk m c 1 t (ix3 p b k) = m ((c : Thread nD τ).loc main_arg1) (ix2 b (⟨1024 * p.val + k.val, by omega⟩ : Fin 9216)) := by
  have e : iblk m c 1 t (ix3 p b k) = V m c main_v1 (ix3 p b k) := by blk_ext! [iblk, idx t]
  refine e.trans ((congrFun (v1_eq m c) _).trans ?_)
  pointwise
  try blk_ext
theorem v33_at (c : Dev nD) (b : Fin 16) (q : Fin 2048) : V m c main_v33 (ix3 b (0 : Fin 1) q) = m ((c : Thread nD τ).loc main_arg2) (ix2 b q) :=
  (congrFun (v33_eq m c) _).trans (shapeCast_apply _ _ _ (ix2 b q) (by rw [Shape.rowMajor_val_two, Shape.rowMajor_val_three]; show b.val * 2048 + q.val = (b.val * 1 + 0) * 2048 + q.val; omega))
theorem in2 (c : Dev nD) (t : Fin cfg0.N) (o p : Fin 1) (r : Fin 1024) (b : Fin 16) (q : Fin 2048) (hb : b.val = t.val / 2) (hq : q.val = 1024 * (t.val % 2) + r.val) :
    iblk m c 2 t (ix3 o p r) = m ((c : Thread nD τ).loc main_arg2) (ix2 b q) := by
  obtain rfl : o = 0 := Subsingleton.elim _ _
  obtain rfl : p = 0 := Subsingleton.elim _ _
  have e : iblk m c 2 t (ix3 0 0 r) = V m c main_v33 (ix3 b 0 q) := by blk_ext! [iblk, idx t]
  exact e.trans (v33_at m c b q)
theorem in4 (c : Dev nD) (t : Fin cfg0.N) (o : Fin 1) (j : Fin 1024) (h : Fin 8) (hh : h.val = j.val / 128) :
    iblk m c 4 t (ix2 o j) = m ((c : Thread nD τ).loc main_arg5) (ix1 h) := by
  obtain rfl : o = 0 := Subsingleton.elim _ _
  have e : iblk m c 4 t (ix2 0 j) = V m c main_v22 (ix2 0 j) := by blk_ext! [iblk, idx t]
  refine e.trans ((congrFun (v22_eq m c) _).trans ?_)
  pointwise
  try blk_ext
theorem in5 (c : Dev nD) (t : Fin cfg0.N) (f : Fin 768) (k : Fin 1024) (g : Fin 2304) (hg : g.val = f.val) :
    iblk m c 5 t (ix2 f k) = m ((c : Thread nD τ).loc main_arg3) (ix2 k g) := by
  have e : iblk m c 5 t (ix2 f k) = V m c main_v4 (ix2 f k) := by blk_ext! [iblk, idx t]
  refine e.trans ((congrFun (v4_eq m c) _).trans ?_)
  pointwise
  try blk_ext
theorem in6 (c : Dev nD) (t : Fin cfg0.N) (k : Fin 1024) (f : Fin 768) (g : Fin 2304) (hg : g.val = 768 + f.val) :
    iblk m c 6 t (ix2 k f) = m ((c : Thread nD τ).loc main_arg3) (ix2 k g) := by
  have e : iblk m c 6 t (ix2 k f) = V m c main_v6 (ix2 k f) := by blk_ext! [iblk, idx t]
  refine e.trans ((congrFun (v6_eq m c) _).trans ?_)
  pointwise
  try blk_ext
theorem in7 (c : Dev nD) (t : Fin cfg0.N) (k : Fin 1024) (f : Fin 768) (g : Fin 2304) (hg : g.val = 1536 + f.val) :
    iblk m c 7 t (ix2 k f) = m ((c : Thread nD τ).loc main_arg3) (ix2 k g) := by
  have e : iblk m c 7 t (ix2 k f) = V m c main_v8 (ix2 k f) := by blk_ext! [iblk, idx t]
  refine e.trans ((congrFun (v8_eq m c) _).trans ?_)
  pointwise
  try blk_ext
theorem in8 (c : Dev nD) (t : Fin cfg0.N) (p : Fin 3) (f : Fin 512) :
    iblk m c 8 t (ix2 p f) = m ((c : Thread nD τ).loc main_arg4) (ix2 p f) := by
  blk_ext! [iblk, V, idx t]
theorem in9 (c : Dev nD) (t : Fin cfg0.N) (f k : Fin 1024) :
    iblk m c 9 t (ix2 f k) = m ((c : Thread nD τ).loc main_arg6) (ix2 f k) := by
  blk_ext! [iblk, V, idx t]
theorem in10 (c : Dev nD) (t : Fin cfg0.N) (o : Fin 1) (k : Fin 1024) :
    iblk m c 10 t (ix2 o k) = m ((c : Thread nD τ).loc main_arg7) (ix1 k) := by
  obtain rfl : o = 0 := Subsingleton.elim _ _
  have e : iblk m c 10 t (ix2 0 k) = V m c main_v35 (ix2 0 k) := by blk_ext! [iblk, idx t]
  refine e.trans ((congrFun (v35_eq m c) _).trans ?_)
  pointwise
  try blk_ext
theorem in11 (c : Dev nD) (t : Fin cfg0.N) (o : Fin 1) (k : Fin 1024) :
    iblk m c 11 t (ix2 o k) = m ((c : Thread nD τ).loc main_arg8) (ix1 k) := by
  obtain rfl : o = 0 := Subsingleton.elim _ _
  have e : iblk m c 11 t (ix2 0 k) = V m c main_v36 (ix2 0 k) := by blk_ext! [iblk, idx t]
  refine e.trans ((congrFun (v36_eq m c) _).trans ?_)
  pointwise
  try blk_ext

end Cert.MixerIdeal.Whole

end
-- ==== Proof.MixerTables.lean ====
/- The two tables the mixer builds before its call: the rotary frequencies, which are the reference's, and the bias that
   closes the keys outside a query's window of 128. -/
module

public import proofs.«01_k».proof.Proof.MixerWindows

@[expose] public section

set_option maxRecDepth 65536

noncomputable section

open Idealize.ShloMosaic Idealize.ShloMosaic.TcCoe Idealize.SL.Sem

namespace Cert.MixerIdeal.Whole

open Cert.MixerIdeal Cert.MixerIdeal.Gen Cert.Layer

variable (m : (ℓ : Loc nD τ sig) → Buf (Elt Ideal) ℓ)

/-! ## The rotary frequencies -/

theorem v19_eq (c : Dev nD) : V m c main_v19 = (Host.powf (broadcastInDim S8 ![] bcast_S_S8 (constant S_ .f32 0x48F42400#32 : FVec Ideal S_ .f32)) (Host.divf (Host.negf (addf (broadcastInDim S8 ![] bcast_S_S8 (constant S_ .f32 0x00000000#32 : FVec Ideal S_ .f32)) (mulf (broadcastInDim S8 ![] bcast_S_S8 (constant S_ .f32 0x40000000#32 : FVec Ideal S_ .f32)) (sitofp .f32 (iotaInDim S8 32 0))))) (broadcastInDim S8 ![] bcast_S_S8 (constant S_ .f32 0x41800000#32 : FVec Ideal S_ .f32))) : FVec Ideal S8 .f32) := rfl
theorem v34_eq (c : Dev nD) : V m c main_v34 = shapeCast S8x1 (V m c main_v19 : FVec Ideal S8 .f32) shapeCasts_S8_S8x1 := rfl
theorem freq_eq : (Host.powf (broadcastInDim S8 ![] bcast_S_S8 (constant S_ .f32 0x48F42400#32 : FVec Ideal S_ .f32)) (Host.divf (Host.negf (addf (broadcastInDim S8 ![] bcast_S_S8 (constant S_ .f32 0x00000000#32 : FVec Ideal S_ .f32)) (mulf (broadcastInDim S8 ![] bcast_S_S8 (constant S_ .f32 0x40000000#32 : FVec Ideal S_ .f32)) (sitofp .f32 (iotaInDim S8 32 0))))) (broadcastInDim S8 ![] bcast_S_S8 (constant S_ .f32 0x41800000#32 : FVec Ideal S_ .f32))) : FVec Ideal S8 .f32) = Cert.MixerRefIdeal.Read.val_main_v33 (F := Ideal) := by
  unfold Cert.MixerRefIdeal.Read.val_main_v33 Cert.MixerRefIdeal.Read.val_main_v32 Cert.MixerRefIdeal.Read.val_main_v31 Cert.MixerRefIdeal.Read.val_main_v30  Cert.MixerRefIdeal.Read.val_main_v29  Cert.MixerRefIdeal.Read.val_main_v28  Cert.MixerRefIdeal.Read.val_main_v27  Cert.MixerRefIdeal.Read.val_main_v26  Cert.MixerRefIdeal.Read.val_main_v25  Cert.MixerRefIdeal.Read.val_main_v24
  rfl

theorem in3 (c : Dev nD) (t : Fin cfg0.N) (e : Fin 8) (o : Fin 1) :
    iblk m c 3 t (ix2 e o) = Cert.MixerRefIdeal.Read.val_main_v33 (F := Ideal) (ix1 e) := by
  obtain rfl : o = 0 := Subsingleton.elim _ _
  have h : iblk m c 3 t (ix2 e 0) = V m c main_v34 (ix2 e 0) := by blk_ext! [iblk, idx t]
  refine h.trans ((congrFun (v34_eq m c) _).trans ?_)
  rw [v19_eq, freq_eq]
  generalize Cert.MixerRefIdeal.Read.val_main_v33 (F := Ideal) = v
  pointwise

/-- A frequency is a number: a power of a number. -/
theorem freq_num (e : Fin 8) : ∃ r : ℝ, Cert.MixerRefIdeal.Read.val_main_v33 (F := Ideal) (ix1 e) = (r : EReal) := by
  rw [← freq_eq]
  pointwise
  have e0 : Ideal.ofBits .f32 0x48F42400#32 = ((500000 : ℝ) : EReal) := by simp [Ideal.ofBits, Ideal.ieee, -EReal.coe_mul]; norm_num
  have e1 : Ideal.ofBits .f32 0x40000000#32 = ((2 : ℝ) : EReal) := by simp [Ideal.ofBits, Ideal.ieee, -EReal.coe_mul]; norm_num
  have e2 : Ideal.ofBits .f32 0x41800000#32 = ((16 : ℝ) : EReal) := by simp [Ideal.ofBits, Ideal.ieee, -EReal.coe_mul]; norm_num
  have e3 : (FloatOps.sitofp (F := Ideal) .f32 (BitVec.ofNat 32 e.val) : EReal) = (((BitVec.ofNat 32 e.val).toInt : ℝ) : EReal) := rfl
  rw [e0, e1, e2, e3, Ideal.div_coe (by norm_num), ← EReal.coe_mul, ← EReal.coe_neg, ← EReal.coe_mul, Ideal.pow_coe_coe]
  exact ⟨_, rfl⟩

/-! ## The window's bias -/

/-- A lane's place in its tile of 128: the program's remainder of the lane's number. -/
def lane : IVec S256x1024 32 :=
  let n : IVec S256x1024 32 := broadcastInDim S256x1024 ![] bcast_S_S256x1024 (Idealize.ShloMosaic.select (cmpi .eq (constantI S_ 32 128#32) (constantI S_ 32 0#32)) (constantI S_ 32 1#32) (constantI S_ 32 128#32))
  let z : IVec S256x1024 32 := broadcastInDim S256x1024 ![] bcast_S_S256x1024 (constantI S_ 32 0#32)
  let q : IVec S256x1024 32 := Host.remsi (iotaInDim S256x1024 32 1) n
  let s : IVec S256x1024 1 := broadcastInDim S256x1024 ![] bcast_S_S256x1024
    (cmpi .slt (Idealize.ShloMosaic.select (cmpi .eq (constantI S_ 32 128#32) (constantI S_ 32 0#32)) (constantI S_ 32 1#32) (constantI S_ 32 128#32)) (constantI S_ 32 0#32))
  Idealize.ShloMosaic.select (andi (cmpi .ne (cmpi .slt q z) s) (cmpi .ne q z)) (addi q n) q

theorem bias_eq (W : (b : DevRef τ sig) → b.ty.Contents (Elt Ideal)) : StableHlo.after (hostOps0_2 (F := Ideal) ++ (hostOps0_3 ++ (hostOps0_4))) W (Proc.devRef .tc main_v32) =
    (Idealize.ShloMosaic.select
    (andi (cmpi .sgt (W (Proc.devRef .tc main_v23)) (W (Proc.devRef .tc main_v25))) (cmpi .sle (W (Proc.devRef .tc main_v23)) (addi (W (Proc.devRef .tc main_v25)) (broadcastInDim S256x1024 ![] bcast_S_S256x1024 (constantI S_ 32 128#32)))) : IVec S256x1024 1)
    (broadcastInDim S256x1024 ![] bcast_S_S256x1024 (constant S_ .f32 0x00000000#32 : FVec Ideal S_ .f32))
    (broadcastInDim S256x1024 ![] bcast_S_S256x1024 (constant  S_ .f32 0xFF800000#32 : FVec Ideal S_ .f32)) : FVec Ideal S256x1024 .f32) := by
  simp only [hostOps0_2, hostOps0_3, hostOps0_4, List.cons_append, List.nil_append]
  after_results
  rfl
theorem lane_eq (W : (b : DevRef τ sig) → b.ty.Contents (Elt Ideal)) (h : W (Proc.devRef .tc main_c) = constantI S_ 32 128#32) (h' : W (Proc.devRef .tc main_v24) = iotaInDim S256x1024 32 1) : StableHlo.after (hostOps0_1 (F := Ideal)) W (Proc.devRef .tc main_v25) = lane := by
  simp only [hostOps0_1]
  after_results
  rw [h, h']
  rfl
theorem kept (W : (b : DevRef τ sig) → b.ty.Contents (Elt Ideal)) : StableHlo.after (hostOps0_1 (F := Ideal)) W (Proc.devRef .tc main_v23) = W (Proc.devRef .tc main_v23) := by
  simp only [hostOps0_1]
  after_results

/-- A lane's place is its number modulo 128. -/
theorem lane_at (w : Fin 256) (j : Fin 1024) : lane (ix2 w j) = BitVec.ofNat 32 (j.val % 128) := by
  pointwise [lane]
  revert j
  decide +kernel

theorem v32_eq (c : Dev nD) : V m c main_v32 = (Idealize.ShloMosaic.select
    (andi (cmpi .sgt (iotaInDim S256x1024 32 0) lane) (cmpi .sle (iotaInDim S256x1024 32 0) (addi lane (broadcastInDim S256x1024 ![] bcast_S_S256x1024 (constantI S_ 32 128#32)))) : IVec S256x1024 1)
    (broadcastInDim S256x1024 ![] bcast_S_S256x1024 (constant S_ .f32 0x00000000#32 : FVec Ideal S_ .f32))
    (broadcastInDim S256x1024 ![] bcast_S_S256x1024 (constant S_ .f32 0xFF800000#32 : FVec Ideal S_ .f32)) : FVec Ideal S256x1024 .f32) := by
  show StableHlo.after (hostOps0 ++ (hostOps0_1 ++ (hostOps0_2 ++ (hostOps0_3 ++ hostOps0_4)))) (fun b => m (c, b)) (Proc.devRef .tc main_v32) = _
  rw [StableHlo.after_append, StableHlo.after_append, bias_eq, kept, lane_eq _ rfl rfl]
  rfl

/-- The words compare as the numbers do. -/
theorem open_word : ∀ (w : Fin 256) (p : Fin 128), IntOp.andi (IntOp.cmpi .sgt (BitVec.ofNat 32 w.val) (BitVec.ofNat 32 p.val))
    (IntOp.cmpi .sle (BitVec.ofNat 32 w.val) (IntOp.addi (BitVec.ofNat 32 p.val) 128#32)) = if p.val < w.val ∧ w.val ≤ p.val + 128 then 1#1 else 0#1 := by
  decide +kernel

theorem in12 (c : Dev nD) (t : Fin cfg0.N) (w : Fin 256) (j : Fin 1024) :
    iblk m c 12 t (ix2 w j) = (if j.val % 128 < w.val ∧ w.val ≤ j.val % 128 + 128 then (0 : EReal) else ⊥) := by
  have e : iblk m c 12 t (ix2 w j) = V m c main_v32 (ix2 w j) := by blk_ext! [iblk, idx t]
  refine e.trans ((congrFun (v32_eq m c) _).trans ?_)
  pointwise
  rw [lane_at, open_word w ⟨j.val % 128, Nat.mod_lt _ (by norm_num)⟩]
  dsimp only
  by_cases h : j.val % 128 < w.val ∧ w.val ≤ j.val % 128 + 128
  · rw [if_pos h, if_pos h]
    rfl
  · rw [if_neg h, if_neg h]
    exact ofBits_neg_inf

end Cert.MixerIdeal.Whole

end
-- ==== Proof.MixerFinite.lean ====
/- The mixer's precondition read back: it says of the tokens, the modulation table, the input projection and the attention
   sinks that every element's absolute value is below infinity, so each is a number. -/
module

public import proofs.«01_k».proof.Pre_finite
public import proofs.«01_k».proof.Proof.MixerTables
public import Idealize.ShloMosaic.Lib.ReduceAll
public import Idealize.ShloMosaic.Lib.Affine

@[expose] public section

noncomputable section

open Idealize.ShloMosaic Idealize.ShloMosaic.TcCoe

namespace Cert.Pre_finite.Gen

open Cert.Pre_finite

/-- The shape relations the predicate's operations take. -/
instance facts : Cert.Pre_finite.Facts where
  bcast_S_S16x2048x1024 := by decide
  reducesTo_S16x2048x1024_S_d0_1_2 := by decide
  h_S_ := by decide
  bcast_S_S16x9216 := by decide
  reducesTo_S16x9216_S_d0_1 := by decide
  bcast_S_S1024x2304 := by decide
  reducesTo_S1024x2304_S_d0_1 := by decide
  bcast_S_S8 := by decide
  reducesTo_S8_S_d0 := by decide

end Cert.Pre_finite.Gen

namespace Cert.MixerIdeal.Whole

open Cert.Layer

/-- The comparison `|x| < ∞` holds of numbers only. -/
theorem num_of_cmp (x : EReal) (h : Ideal.cmp .olt (max x (-x)) (Ideal.ofBits .f32 0x7F800000#32) = 1#1) : IsNum x := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  refine ⟨x.toReal, (EReal.coe_toReal hlt.1.ne ?_).symm⟩
  rintro rfl
  simp at hlt

variable (x0 : FVec Ideal ⟨3, ![16, 2048, 1024]⟩ .f32) (x1 : FVec Ideal ⟨2, ![16, 9216]⟩ .f32) (x2 : IVec ⟨2, ![16, 2048]⟩ 32) (x3 : FVec Ideal ⟨2, ![1024, 2304]⟩ .f32)
  (x4 : FVec Ideal ⟨2, ![3, 512]⟩ .f32) (x5 : FVec Ideal ⟨1, ![8]⟩ .f32) (x6 : FVec Ideal ⟨2, ![1024, 1024]⟩ .f32) (x7 x8 : FVec Ideal ⟨1, ![1024]⟩ .f32)

/-- Every element of the four arrays the precondition names is a number. -/
theorem nums (h : Cert.Pre_finite.fn (F := Ideal) x0 x1 x2 x3 x4 x5 x6 x7 x8 = fun _ => 1#1) :
    (∀ i, IsNum (x0 i)) ∧ (∀ i, IsNum (x1 i)) ∧ (∀ i, IsNum (x3 i)) ∧ (∀ i, IsNum (x5 i)) := by
  have h' := congrFun h ((fun a => a.elim0) : Cert.Pre_finite.S_.Idx)
  dsimp only [Cert.Pre_finite.fn, Cert.Pre_finite.fn_part1] at h'
  haveI : Subsingleton Cert.Pre_finite.S_.Idx := ⟨fun a b => funext fun i => i.elim0⟩
  obtain ⟨h123, h4⟩ := IntOp.andi_eq_one.1 h'
  obtain ⟨h12, h3⟩ := IntOp.andi_eq_one.1 h123
  obtain ⟨h1, h2⟩ := IntOp.andi_eq_one.1 h12
  exact ⟨fun i => num_of_cmp _ (Host.reduce_andi_all _ _ _ _ _ h1 i), fun i => num_of_cmp _ (Host.reduce_andi_all _ _ _ _ _ h2 i),
    fun i => num_of_cmp _ (Host.reduce_andi_all _ _ _ _ _ h3 i), fun i => num_of_cmp _ (Host.reduce_andi_all _ _ _ _ _ h4 i)⟩

theorem num_rd1 {n : ℕ} (x : FVec Ideal ⟨1, ![n]⟩ .f32) (h : ∀ i, IsNum (x i)) (a : ℕ) : IsNum (rd1 x a) := by
  unfold rd1; split_ifs
  · exact h _
  · exact IsNum.zero
theorem num_rd2 {n k : ℕ} (x : FVec Ideal ⟨2, ![n, k]⟩ .f32) (h : ∀ i, IsNum (x i)) (a b : ℕ) : IsNum (rd2 x a b) := by
  unfold rd2; split_ifs
  · exact h _
  · exact IsNum.zero
theorem num_rd3 {n k l : ℕ} (x : FVec Ideal ⟨3, ![n, k, l]⟩ .f32) (h : ∀ i, IsNum (x i)) (a b c : ℕ) : IsNum (rd3 x a b c) := by
  unfold rd3; split_ifs
  · exact h _
  · exact IsNum.zero

/-- The rotary frequencies, read anywhere, are numbers. -/
theorem num_freq (i : (⟨1, ![8]⟩ : Shape).Idx) : IsNum (Cert.MixerRefIdeal.Read.val_main_v33 (F := Ideal) i) := by
  idx_vars i
  exact freq_num _

/-- Under the precondition a batch's operands are finite. -/
theorem finite_data (h : Cert.Pre_finite.fn (F := Ideal) x0 x1 x2 x3 x4 x5 x6 x7 x8 = fun _ => 1#1) (b : Fin 16) :
    (Cert.MixerRefIdeal.At.data x0 x1 x2 x3 x4 x5 x6 x7 x8 b).Finite := by
  obtain ⟨h0, h1, h3, h5⟩ := nums x0 x1 x2 x3 x4 x5 x6 x7 x8 h
  refine ⟨fun t k => num_rd3 x0 h0 _ _ _, fun k f => num_rd2 x3 h3 _ _, fun k => num_rd2 x1 h1 _ _, fun k => num_rd2 x1 h1 _ _, fun t => ?_,
    fun e => num_rd1 _ num_freq e, fun hd => num_rd1 x5 h5 hd⟩
  show IsNum (if h : t < 2048 then FloatOps.sitofp (F := Ideal) .f32 (x2 (ix2 b ⟨t, h⟩)) else 0)
  split_ifs
  · exact ⟨_, rfl⟩
  · exact IsNum.zero

end Cert.MixerIdeal.Whole

end
-- ==== Proof.MixerValue.lean ====
/- The mixer's claim: the kernel's result array is the specification's value at every index, and the reference computes the
   same. A batch takes two grid points; the second reads what the first left of the keys, values and gated inputs. -/
module

public import proofs.«01_k».proof.Defs
public import proofs.«01_k».proof.Proof.MixerFrames
public import proofs.«01_k».proof.Proof.MixerPointA
public import proofs.«01_k».proof.Proof.MixerPointB
public import proofs.«01_k».proof.Proof.MixerFinite
public import proofs.«01_k».proof.Proof.Gen.MixerRefIdeal.Run

@[expose] public section

set_option maxRecDepth 65536

noncomputable section

open Idealize.ShloMosaic Idealize.ShloMosaic.TcCoe Idealize.SL.Sem

namespace Cert.MixerIdeal.Whole

open Cert.MixerIdeal Cert.MixerIdeal.Gen Cert.MixerIdeal.Point Cert.Layer

variable (m : (ℓ : Loc nD τ sig) → Buf (Elt Ideal) ℓ) (ρ : Dev nD → PrngReg)

/-- Batch `b`'s operands on device `c`. -/
def operands (c : Dev nD) (b : Fin 16) : Data :=
  Cert.MixerRefIdeal.At.data (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) b

/-- The layer's value of device `c`'s argument arrays. -/
def layer (c : Dev nD) : Buf (Elt Ideal) ((c : Thread nD τ).loc main_v37) := fun y =>
  (operands m c (y 0)).out (y 1).val (y 2)

/-- Batch `b`'s positions as words; zero beyond the last token. -/
def words (c : Dev nD) (b : Fin 16) (t : ℕ) : BitVec 32 :=
  if h : t < 2048 then (m ((c : Thread nD τ).loc main_arg2) : IVec S16x2048 32) (ix2 b ⟨t, h⟩) else 0#32

theorem words_val (c : Dev nD) (b : Fin 16) (q : Fin 2048) : (m ((c : Thread nD τ).loc main_arg2) : IVec S16x2048 32) (ix2 b q) = words m c b q.val := by
  unfold words; rw [dif_pos q.isLt]

/-- A grid point's blocks, in the specification's terms. -/
theorem reads (hm : Cert.Pre_MixerIdeal_finite m) (c : Dev nD) (t : Fin cfg0.N) (b : Fin 16) (hb : b.val = t.val / 2) :
    Reads (operands m c b) (words m c b) (grid0.coords t) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) := by
  have hc0 := (coords t).1
  have hc1 := (coords t).2
  constructor
  · exact finite_data _ _ _ _ _ _ _ _ _ (hm c) b
  · intro t'
    show _ = (if h : t' < 2048 then FloatOps.sitofp (F := Ideal) .f32 ((m ((c : Thread nD τ).loc main_arg2) : IVec S16x2048 32) (ix2 b ⟨t', h⟩)) else 0)
    unfold words
    split_ifs with h
    · rfl
    · simp
  · intro o r k
    have hq : 1024 * (t.val % 2) + r.val < 2048 := by omega
    rw [hc1]
    exact (in0 m c t o r k b ⟨_, hq⟩ hb rfl).trans (rd3_val _ _ _ _)
  · intro p b' k hp hb'
    obtain rfl : b' = b := Fin.ext (by omega)
    refine (in1 m c t p b' k).trans ((rd2_val _ _ _).trans ?_)
    dsimp only
    rw [hp]; rfl
  · intro p b' k hp hb'
    obtain rfl : b' = b := Fin.ext (by omega)
    refine (in1 m c t p b' k).trans ((rd2_val _ _ _).trans ?_)
    dsimp only
    rw [hp]; rfl
  · intro p b' k hp hb'
    obtain rfl : b' = b := Fin.ext (by omega)
    refine (in1 m c t p b' k).trans ((rd2_val _ _ _).trans ?_)
    dsimp only
    rw [hp]; rfl
  · intro o p r
    have hq : 1024 * (t.val % 2) + r.val < 2048 := by omega
    rw [hc1]
    exact (in2 m c t o p r b ⟨_, hq⟩ hb rfl).trans (words_val m c b ⟨_, hq⟩)
  · intro e o
    exact (in3 m c t e o).trans (rd1_val _ _)
  · intro o j
    exact (in4 m c t o j ⟨j.val / 128, by omega⟩ rfl).trans (rd1_val _ _)
  · intro f k
    exact (in5 m c t f k ⟨f.val, by omega⟩ rfl).trans (rd2_val _ _ _)
  · intro k f
    exact (in6 m c t k f ⟨768 + f.val, by omega⟩ rfl).trans (rd2_val _ _ _)
  · intro k f
    exact (in7 m c t k f ⟨1536 + f.val, by omega⟩ rfl).trans (rd2_val _ _ _)
  · intro p f
    exact (in8 m c t p f).trans (rd2_val _ _ _)
  · intro f k
    exact (in9 m c t f k).trans (rd2_val _ _ _)
  · intro o k
    exact (in10 m c t o k).trans (rd1_val _ _)
  · intro o k
    exact (in11 m c t o k).trans (rd1_val _ _)
  · intro w j
    exact in12 m c t w j

/-- What a batch's first grid point leaves for its second. -/
theorem carry (hm : Cert.Pre_MixerIdeal_finite m) (c : Dev nD) (t : Fin cfg0.N) (h0 : t.val % 2 = 0) (b : Fin 16) (hb : b.val = t.val / 2) :
    Carry (operands m c b) (1024 * (grid0.coords t 1).val + 1024) (outsAt0 m c t.val t.isLt).2.1 (outsAt0 m c t.val t.isLt).2.2.1
      (outsAt0 m c t.val t.isLt).2.2.2 := by
  have hR := reads m hm c t b hb
  have hz : (grid0.coords t 1).val = 0 := (coords t).2.trans h0
  rw [outsAt0_A m c t h0]
  dsimp only
  constructor
  · intro P Q hP
    exact PointA.key_at hR hz P Q hP
  · intro P Q hQ
    exact PointA.val_at hR hz P Q hQ
  · intro J P Q hP
    exact PointA.z_at hR hz J P Q hP

/-- The block a grid point leaves, at row `r` and column `j`: the layer's value at the row's place in the array. -/
theorem block (hm : Cert.Pre_MixerIdeal_finite m) (c : Dev nD) (t : Fin cfg0.N) (o : Fin 1) (r j : Fin 1024) (b : Fin 16) (q : Fin 2048)
    (hb : b.val = t.val / 2) (hq : q.val = 1024 * (t.val % 2) + r.val) :
    (outsAt0 m c t.val t.isLt).1 (ix3 o r j) = layer m c (ix3 b q j) := by
  have hR := reads m hm c t b hb
  have hc1 := (coords t).2
  have e : (operands m c b).out (1024 * (grid0.coords t 1).val + r.val) j = layer m c (ix3 b q j) := by
    rw [hc1, ← hq]; rfl
  refine Eq.trans ?_ e
  by_cases h0 : t.val % 2 = 0
  · rw [outsAt0_A m c t h0]
    dsimp only
    exact PointA.out_at hR (hc1.trans h0) o r j
  · have hC := carry m hm c ⟨t.val - 1, Nat.lt_of_le_of_lt (Nat.sub_le _ _) t.isLt⟩ (by dsimp only; omega) b (by dsimp only; omega)
    have e1 : 1024 * (grid0.coords ⟨t.val - 1, Nat.lt_of_le_of_lt (Nat.sub_le _ _) t.isLt⟩ 1).val + 1024 = 1024 * (grid0.coords t 1).val := by
      rw [hc1, (coords _).2]; dsimp only; omega
    rw [e1] at hC
    rw [outsAt0_B m c t h0]
    dsimp only
    exact PointB.out_at hR hC o r j

/-- What point `t` writes back is its block of the layer's value. -/
theorem flushed_eq (hm : Cert.Pre_MixerIdeal_finite m) (c : Dev nD) (t : Fin cfg0.N) :
    (dats m 0 c).flushed 13 t = (win0_13.blk t).view.read (Elt Ideal) (layer m c) := by
  rw [Value.flushed13]
  funext y
  have h0 := (idx t).2.2.2.2.2.2.2.2.2.2.2.2.2
  have ht : t.val < 32 := lt_of_lt_of_eq t.isLt N_0
  idx_vars y
  refine (block m hm c t y0 y1 y2 (⟨t.val / 2, by omega⟩ : Fin 16) (⟨1024 * (t.val % 2) + y1.val, by omega⟩ : Fin 2048) rfl rfl).trans (congrArg (layer m c) ?_)
  funext a
  apply Fin.ext
  fin_cases a
  · show t.val / 2 = win0_13.index t 0 * 1 + 1 * y0.val
    rw [h0.1]; omega
  · show 1024 * (t.val % 2) + y1.val = win0_13.index t 1 * 1024 + 1 * y1.val
    rw [h0.2.1]; omega
  · show y2.val = win0_13.index t 2 * 1024 + 1 * y2.val
    rw [h0.2.2]; omega

/-- An index of the result array is in point `t`'s block when its batch and its half of the tokens are the point's. -/
theorem mem_blk (t : Fin cfg0.N) (i : S16x2048x1024.Idx) (hb : (i 0).val = t.val / 2) (hq : t.val % 2 = (i 1).val / 1024) :
    i ∈ ((cfg0.win 13).blk t).view.set := by
  show i ∈ ((View.whole main_v37).slice (win0_13.rect t)).set
  rw [View.set_slice_whole, Rect.mem_set_unit]
  have h1 : (i 1).val < 2048 := (i 1).isLt
  have h2 : (i 2).val < 1024 := (i 2).isLt
  have h0 := (idx t).2.2.2.2.2.2.2.2.2.2.2.2.2
  have e : win0_13.xsize (grid0.coords t) 0 = 1 ∧ win0_13.xsize (grid0.coords t) 1 = 1024 ∧ win0_13.xsize (grid0.coords t) 2 = 1024 :=
    (by decide +kernel : ∀ t : Fin grid0.N, win0_13.xsize (grid0.coords t) 0 = 1 ∧ win0_13.xsize (grid0.coords t) 1 = 1024 ∧ win0_13.xsize (grid0.coords t) 2 = 1024) t
  intro a
  match a with
  | ⟨0, _⟩ =>
    show win0_13.index t 0 * 1 ≤ (i 0).val ∧ (i 0).val < win0_13.index t 0 * 1 + win0_13.xsize (grid0.coords t) 0
    rw [h0.1, e.1]; omega
  | ⟨1, _⟩ =>
    show win0_13.index t 1 * 1024 ≤ (i 1).val ∧ (i 1).val < win0_13.index t 1 * 1024 + win0_13.xsize (grid0.coords t) 1
    rw [h0.2.1, e.2.1]; omega
  | ⟨2, _⟩ =>
    show win0_13.index t 2 * 1024 ≤ (i 2).val ∧ (i 2).val < win0_13.index t 2 * 1024 + win0_13.xsize (grid0.coords t) 2
    rw [h0.2.2, e.2.2]; omega

/-- The blocks tile the array. -/
theorem cover (i : S16x2048x1024.Idx) : ∃ t : Fin cfg0.N, (cfg0.win 13).flush t = true ∧ i ∈ ((cfg0.win 13).blk t).view.set := by
  have h0 : (i 0).val < 16 := (i 0).isLt
  have h1 : (i 1).val < 2048 := (i 1).isLt
  have hN : cfg0.N = 32 := N_0
  refine ⟨⟨(i 0).val * 2 + (i 1).val / 1024, by omega⟩, flush0_13 _, mem_blk _ i ?_ ?_⟩ <;> dsimp only <;> omega

/-- The result array ends holding the layer's value. -/
theorem final (hm : Cert.Pre_MixerIdeal_finite m) (c : Dev nD) : (dats m 0 c).arrAt 13 cfg0.N = layer m c :=
  (dats m 0 c).arrAt_eq_of_cover 13 (layer m c) (fun t _ => flushed_eq m hm c t) cover

end Cert.MixerIdeal.Whole

namespace Cert.MixerClaims

theorem frame_pi_finite : Cert.quiescent_MixerIdeal_pre_finite := fun m ρ _ => frame_pi m ρ trivial
theorem frame_ri_finite : Cert.quiescent_MixerRefIdeal_pre_finite := fun m ρ _ => frame_ri m ρ trivial

/-- From memories that agree on the arguments, finite where the precondition asks, the kernel's result array and the
    reference's are the same layer's value. -/
theorem algebraic : Cert.algebraic_MixerIdeal_MixerRefIdeal_pre_finite := by
  intro m ρ m' ρ' hm hagree
  refine ⟨fun c => Cert.MixerIdeal.Whole.layer m c, ?_, ?_⟩
  · exact (θ_run Cert.MixerIdeal.defs _ _).mono (fun _ h c => ⟨(h c).1.trans (Cert.MixerIdeal.Whole.final m hm c), (h c).2⟩)
      (Cert.MixerIdeal.Value.run_blocks (F := Ideal) m ρ)
  refine (θ_run Cert.MixerRefIdeal.defs _ _).mono (fun _ h c => ⟨(h c).1.trans ?_, (h c).2⟩) (Cert.MixerRefIdeal.Value.run (F := Ideal) m' ρ')
  obtain ⟨e0, e1, e2, e3, e4, e5, e6, e7, e8⟩ := hagree c
  rw [Cert.MixerRefIdeal.Read.val_main_v213_eq]
  show Cert.MixerRefIdeal.Read.val_main_v213 (F := Ideal)
    (m' ((c.tc : Thread Cert.MixerRefIdeal.nD Cert.MixerRefIdeal.τ).loc Cert.MixerRefIdeal.main_arg0))
    (m' ((c.tc : Thread Cert.MixerRefIdeal.nD Cert.MixerRefIdeal.τ).loc Cert.MixerRefIdeal.main_arg1))
    (m' ((c.tc : Thread Cert.MixerRefIdeal.nD Cert.MixerRefIdeal.τ).loc Cert.MixerRefIdeal.main_arg2))
    (m' ((c.tc : Thread Cert.MixerRefIdeal.nD Cert.MixerRefIdeal.τ).loc Cert.MixerRefIdeal.main_arg3))
    (m' ((c.tc : Thread Cert.MixerRefIdeal.nD Cert.MixerRefIdeal.τ).loc Cert.MixerRefIdeal.main_arg4))
    (m' ((c.tc : Thread Cert.MixerRefIdeal.nD Cert.MixerRefIdeal.τ).loc Cert.MixerRefIdeal.main_arg5))
    (m' ((c.tc : Thread Cert.MixerRefIdeal.nD Cert.MixerRefIdeal.τ).loc Cert.MixerRefIdeal.main_arg6))
    (m' ((c.tc : Thread Cert.MixerRefIdeal.nD Cert.MixerRefIdeal.τ).loc Cert.MixerRefIdeal.main_arg7))
    (m' ((c.tc : Thread Cert.MixerRefIdeal.nD Cert.MixerRefIdeal.τ).loc Cert.MixerRefIdeal.main_arg8)) = _
  rw [e0, e1, e2, e3, e4, e5, e6, e7, e8]
  funext y
  idx_vars y
  exact Cert.MixerRefIdeal.At.result _ _ _ _ _ _ _ _ _ _ _ _

end Cert.MixerClaims

end
-- ==== Proof.FfnBlock.lean ====
/- The feed-forward kernel's block: what one grid point leaves in the output's staging buffer, read at an index. The body
   keeps the modulated rows in one scratch buffer and the gated activation, stored in rectangular tiles, in another; each
   tile is the same function of the modulated rows and of the weights, so the buffer reads back as that one function,
   whatever the order in which the tiles were stored. -/
module

public import proofs.«01_k».proof.Proof.Math
public import proofs.«01_k».proof.Proof.Gen.FfnIdeal.Value
public import Idealize.ShloMosaic.Lib.Tactic

@[expose] public section

noncomputable section

open Idealize.ShloMosaic Idealize.ShloMosaic.TcCoe Idealize.SL.Sem

namespace Cert.FfnIdeal.Block

open Cert.FfnIdeal Cert.FfnIdeal.Gen Cert.Layer

/-! ## The tiles' values: one text under many names -/

theorem pay_7 (a : Vec Ideal S512x1024 .bf16) (b : Vec Ideal S1024x256 .bf16) (a' : Vec Ideal S512x1024 .bf16) (b' : Vec Ideal S1024x256 .bf16) :
    k0_pay7 a b a' b' = k0_pay6 a b a' b' := rfl
theorem pay_8 (a : Vec Ideal S512x1024 .bf16) (b : Vec Ideal S1024x256 .bf16) (a' : Vec Ideal S512x1024 .bf16) (b' : Vec Ideal S1024x256 .bf16) :
    k0_pay8 a b a' b' = k0_pay6 a b a' b' := rfl
theorem pay_9 (a : Vec Ideal S512x1024 .bf16) (b : Vec Ideal S1024x256 .bf16) (a' : Vec Ideal S512x1024 .bf16) (b' : Vec Ideal S1024x256 .bf16) :
    k0_pay9 a b a' b' = k0_pay6 a b a' b' := rfl
theorem pay_10 (a : Vec Ideal S512x1024 .bf16) (b : Vec Ideal S1024x256 .bf16) (a' : Vec Ideal S512x1024 .bf16) (b' : Vec Ideal S1024x256 .bf16) :
    k0_pay10 a b a' b' = k0_pay6 a b a' b' := rfl
theorem pay_11 (a : Vec Ideal S512x1024 .bf16) (b : Vec Ideal S1024x256 .bf16) (a' : Vec Ideal S512x1024 .bf16) (b' : Vec Ideal S1024x256 .bf16) :
    k0_pay11 a b a' b' = k0_pay6 a b a' b' := rfl
theorem pay_14 (a : Vec Ideal S512x1024 .bf16) (b : Vec Ideal S1024x256 .bf16) (a' : Vec Ideal S512x1024 .bf16) (b' : Vec Ideal S1024x256 .bf16) :
    k0_pay14 a b a' b' = k0_pay6 a b a' b' := rfl
theorem pay_17 (a : Vec Ideal S512x1024 .bf16) (b : Vec Ideal S1024x256 .bf16) (a' : Vec Ideal S512x1024 .bf16) (b' : Vec Ideal S1024x256 .bf16) :
    k0_pay17 a b a' b' = k0_pay6 a b a' b' := rfl
theorem pay_24 (a : Vec Ideal S512x1024 .bf16) (b : Vec Ideal S1024x256 .bf16) (a' : Vec Ideal S512x1024 .bf16) (b' : Vec Ideal S1024x256 .bf16) :
    k0_pay24 a b a' b' = k0_pay6 a b a' b' := rfl
theorem pay_25 (a : Vec Ideal S512x1024 .bf16) (b : Vec Ideal S1024x256 .bf16) (a' : Vec Ideal S512x1024 .bf16) (b' : Vec Ideal S1024x256 .bf16) :
    k0_pay25 a b a' b' = k0_pay6 a b a' b' := rfl
theorem pay_28 (a : Vec Ideal S512x1024 .bf16) (b : Vec Ideal S1024x256 .bf16) (a' : Vec Ideal S512x1024 .bf16) (b' : Vec Ideal S1024x256 .bf16) :
    k0_pay28 a b a' b' = k0_pay6 a b a' b' := rfl
theorem pay_31 (a : Vec Ideal S512x1024 .bf16) (b : Vec Ideal S1024x256 .bf16) (a' : Vec Ideal S512x1024 .bf16) (b' : Vec Ideal S1024x256 .bf16) :
    k0_pay31 a b a' b' = k0_pay6 a b a' b' := rfl
theorem pay_35 (a : Vec Ideal S512x1024 .bf16) (b : Vec Ideal S1024x256 .bf16) (a' : Vec Ideal S512x1024 .bf16) (b' : Vec Ideal S1024x256 .bf16) :
    k0_pay35 a b a' b' = k0_pay6 a b a' b' := rfl
theorem pay_39 (a : Vec Ideal S512x1024 .bf16) (b : Vec Ideal S1024x256 .bf16) (a' : Vec Ideal S512x1024 .bf16) (b' : Vec Ideal S1024x256 .bf16) :
    k0_pay39 a b a' b' = k0_pay6 a b a' b' := rfl
theorem pay_13 (a : Vec Ideal S512x1024 .bf16) (b : Vec Ideal S1024x256 .bf16) (a' : Vec Ideal S512x1024 .bf16) (b' : Vec Ideal S1024x256 .bf16) :
    k0_pay13 a (k0_pay12 b) (constant S512x256 .f32 0x00000000#32) a' b' = k0_pay6 a b a' b' := rfl
theorem pay_27 (a : Vec Ideal S512x1024 .bf16) (b : Vec Ideal S1024x256 .bf16) (a' : Vec Ideal S512x1024 .bf16) (b' : Vec Ideal S1024x256 .bf16) :
    k0_pay27 a (k0_pay26 b) (constant S512x256 .f32 0x00000000#32) a' b' = k0_pay6 a b a' b' := rfl
theorem pay_16 (a : Vec Ideal S512x1024 .bf16) (b : Vec Ideal S1024x256 .bf16) (a' : Vec Ideal S512x1024 .bf16) (b' : Vec Ideal S1024x256 .bf16) :
    k0_pay16 (k0_pay15 a b) a' b' = k0_pay6 a b a' b' := rfl
theorem pay_30 (a : Vec Ideal S512x1024 .bf16) (b : Vec Ideal S1024x256 .bf16) (a' : Vec Ideal S512x1024 .bf16) (b' : Vec Ideal S1024x256 .bf16) :
    k0_pay30 (k0_pay29 a b) a' b' = k0_pay6 a b a' b' := rfl
theorem pay_34 (a : Vec Ideal S512x1024 .bf16) (b : Vec Ideal S1024x256 .bf16) (a' : Vec Ideal S512x1024 .bf16) (b' : Vec Ideal S1024x256 .bf16) :
    k0_pay34 (k0_pay32 a b) a' (k0_pay33 b') = k0_pay6 a b a' b' := rfl
theorem pay_38 (a : Vec Ideal S512x1024 .bf16) (b : Vec Ideal S1024x256 .bf16) (a' : Vec Ideal S512x1024 .bf16) (b' : Vec Ideal S1024x256 .bf16) :
    k0_pay38 (k0_pay36 a' b') (k0_pay37 a b) = k0_pay6 a b a' b' := rfl
theorem fin_21 (g : FVec Ideal S1x1024 .f32) (a : Vec Ideal S256x2816 .bf16) (w : Vec Ideal S2816x1024 .bf16) (x : Vec Ideal S1x256x1024 .f32) (p q : Vec Ideal S1x1024 .f32) :
    k0_pay21 g (k0_pay18 a w) (k0_pay19 x) k0_pay20 p q = k0_pay23 g (k0_pay22 a w) x p q := rfl
theorem fin_43 (g : FVec Ideal S1x1024 .f32) (a : Vec Ideal S256x2816 .bf16) (w : Vec Ideal S2816x1024 .bf16) (x : Vec Ideal S1x256x1024 .f32) (p q : Vec Ideal S1x1024 .f32) :
    k0_pay43 (k0_pay40 a w) (k0_pay41 x) (k0_pay42 g) p q = k0_pay23 g (k0_pay22 a w) x p q := rfl
theorem fin_46 (g : FVec Ideal S1x1024 .f32) (a : Vec Ideal S256x2816 .bf16) (w : Vec Ideal S2816x1024 .bf16) (x : Vec Ideal S1x256x1024 .f32) (p q : Vec Ideal S1x1024 .f32) :
    k0_pay1 (k0_pay46 g (k0_pay44 a w) (k0_pay45 x) (Scalar.ofBits .f32 0x3F800000#32) p q) = k0_pay23 g (k0_pay22 a w) x p q := rfl

/-- A tile of the gated activation at an index. -/
theorem pay6_apply (h h' : Vec Ideal S512x1024 .bf16) (wg wu : Vec Ideal S1024x256 .bf16) (p : Fin 512) (q : Fin 256) :
    k0_pay6 (F := Ideal) h wg h' wu (ix2 p q) = glu (∑ k, h (ix2 p k) * wg (ix2 k q)) (∑ k, h' (ix2 p k) * wu (ix2 k q)) := by
  pointwise [k0_pay6, dot_S512x1024_S1024x256_S512x256_1_0_0_1_n_n]
  rfl

/-- The first tile, which is as tall as the block. -/
theorem pay5_apply (h h' : Vec Ideal S1024x1024 .bf16) (wg wu : Vec Ideal S1024x256 .bf16) (p : Fin 1024) (q : Fin 256) :
    k0_pay5 (F := Ideal) (k0_pay4 h wg h' wu) (ix2 p q) = glu (∑ k, h (ix2 p k) * wg (ix2 k q)) (∑ k, h' (ix2 p k) * wu (ix2 k q)) := by
  pointwise [k0_pay5, k0_pay4, dot_S1024x1024_S1024x256_S1024x256_1_0_0_1_n_n]
  rfl

/-- The modulated rows. -/
theorem pay3_apply (a b : Vec Ideal S1x1x1024 .f32) (x : Vec Ideal S1x1024x1024 .f32) (p q : Fin 1024) :
    k0_pay3 (F := Ideal) a b x (ix2 p q) = x (ix3 0 p q) * (1 + b (ix3 0 0 q)) + a (ix3 0 0 q) := by
  pointwise [k0_pay3]

/-- A tile of the output: the layer normalization of the residual sum. -/
theorem fin_apply (g : Vec Ideal S1x1x1024 .f32) (a : Vec Ideal S256x2816 .bf16) (w : Vec Ideal S2816x1024 .bf16)
    (x : Vec Ideal S1x256x1024 .f32) (p q : Vec Ideal S1x1024 .f32) (o : Fin 1) (r : Fin 256) (j : Fin 1024) :
    k0_pay23 (F := Ideal) (k0_pay2 g) (k0_pay22 a w) x p q (ix3 o r j)
      = lnRow (fun k => pre (x (ix3 0 r k)) (g (ix3 0 0 k)) (∑ f, a (ix2 r f) * w (ix2 f k)))
          (fun k => p (ix2 0 k)) (fun k => q (ix2 0 k)) j := by
  obtain rfl : o = 0 := Subsingleton.elim _ _
  pointwise [k0_pay23, k0_pay2, k0_pay22, dot_S256x2816_S2816x1024_S256x1024_1_0_0_1_n_n]
  rfl

/-! ## The gated activation as one function -/

/-- The gated activation of the modulated rows `H` under the joined weights `W`: the gate's columns first, the linear ones after. -/
def act (H : Vec Ideal S1024x1024 .bf16) (W : Vec Ideal S1024x5632 .bf16) : Vec Ideal S1024x2816 .bf16 := fun y =>
  let i : Fin 1024 := y 0
  let j : Fin 2816 := y 1
  glu (∑ k, H (ix2 i k) * W (ix2 k (⟨j.val, by omega⟩ : Fin 5632))) (∑ k, H (ix2 i k) * W (ix2 k (⟨2816 + j.val, by omega⟩ : Fin 5632)))

/-- A tile at row offset `r` and column offset `c` holds the activation's values there. -/
theorem tile (H : Vec Ideal S1024x1024 .bf16) (W : Vec Ideal S1024x5632 .bf16) (r c c' : ℕ)
    (inbH : ∀ a, (![r, 0] : Fin 2 → ℕ) a + S512x1024.size a ≤ S1024x1024.size a)
    (inbG : ∀ a, (![0, c] : Fin 2 → ℕ) a + S1024x256.size a ≤ S1024x5632.size a)
    (hc : c' = 2816 + c) (inbU : ∀ a, (![0, c'] : Fin 2 → ℕ) a + S1024x256.size a ≤ S1024x5632.size a)
    (i : Fin 1024) (j : Fin 2816) (p : Fin 512) (q : Fin 256) (hp : i.val = r + p.val) (hq : j.val = c + q.val) :
    k0_pay6 (F := Ideal) (View.ld H (Rect.unit (s := S1024x1024) ![r, 0] S512x1024.size inbH))
      (View.ld W (Rect.unit (s := S1024x5632) ![0, c] S1024x256.size inbG))
      (View.ld H (Rect.unit (s := S1024x1024) ![r, 0] S512x1024.size inbH))
      (View.ld W (Rect.unit (s := S1024x5632) ![0, c'] S1024x256.size inbU)) (ix2 p q) = act H W (ix2 i j) := by
  have eH : ∀ k : Fin 1024, View.ld (Val := Elt Ideal) (e' := .bf16) H (Rect.unit (s := S1024x1024) ![r, 0] S512x1024.size inbH) (ix2 p k) = H (ix2 i k) := fun k =>
    View.ld_unit_apply_of (Val := Elt Ideal) (e := .bf16) H _ _ inbH (ix2 p k) (ix2 i k) (by intro a; fin_cases a <;> simp [ix2, hp])
  have eG : ∀ k : Fin 1024, View.ld (Val := Elt Ideal) (e' := .bf16) W (Rect.unit (s := S1024x5632) ![0, c] S1024x256.size inbG) (ix2 k q) = W (ix2 k (⟨j.val, by omega⟩ : Fin 5632)) := fun k =>
    View.ld_unit_apply_of (Val := Elt Ideal) (e := .bf16) W _ _ inbG (ix2 k q) _ (by intro a; fin_cases a <;> simp [ix2, hq])
  have eU : ∀ k : Fin 1024, View.ld (Val := Elt Ideal) (e' := .bf16) W (Rect.unit (s := S1024x5632) ![0, c'] S1024x256.size inbU) (ix2 k q) = W (ix2 k (⟨2816 + j.val, by omega⟩ : Fin 5632)) := fun k =>
    View.ld_unit_apply_of (Val := Elt Ideal) (e := .bf16) W _ _ inbU (ix2 k q) _ (by intro a; fin_cases a <;> simp [ix2, hq, hc]; omega)
  rw [pay6_apply]
  unfold act
  simp only [eH, eG, eU]
  rfl

/-- The first tile likewise. -/
theorem tile0 (H : Vec Ideal S1024x1024 .bf16) (W : Vec Ideal S1024x5632 .bf16)
    (i : Fin 1024) (j : Fin 2816) (p : Fin 1024) (q : Fin 256) (hp : i.val = 0 + p.val) (hq : j.val = 0 + q.val) :
    k0_pay5 (F := Ideal) (k0_pay4 H (View.ld W (Rect.unit (s := S1024x5632) ![0, 0] S1024x256.size inb_S1024x5632_S1024x256_0_0))
          H (View.ld W (Rect.unit (s := S1024x5632) ![0, 2816] S1024x256.size inb_S1024x5632_S1024x256_0_2816))) (ix2 p q) = act H W (ix2 i j) := by
  obtain rfl : i = p := Fin.ext (by omega)
  have eG : ∀ k : Fin 1024, View.ld (Val := Elt Ideal) (e' := .bf16) W (Rect.unit (s := S1024x5632) ![0, 0] S1024x256.size inb_S1024x5632_S1024x256_0_0) (ix2 k q) = W (ix2 k (⟨j.val, by omega⟩ : Fin 5632)) := fun k =>
    View.ld_unit_apply_of (Val := Elt Ideal) (e := .bf16) W _ _ _ (ix2 k q) _ (by intro a; fin_cases a <;> simp [ix2, hq])
  have eU : ∀ k : Fin 1024, View.ld (Val := Elt Ideal) (e' := .bf16) W (Rect.unit (s := S1024x5632) ![0, 2816] S1024x256.size inb_S1024x5632_S1024x256_0_2816) (ix2 k q) = W (ix2 k (⟨2816 + j.val, by omega⟩ : Fin 5632)) := fun k =>
    View.ld_unit_apply_of (Val := Elt Ideal) (e := .bf16) W _ _ _ (ix2 k q) _ (by intro a; fin_cases a <;> simp [ix2, hq])
  rw [pay5_apply]
  unfold act
  simp only [eG, eU]
  rfl

set_option maxRecDepth 65536 in
/-- The upper half of the gated activation, read back from the tiles stored so far. -/
theorem upper (H : Vec Ideal S1024x1024 .bf16) (W : Vec Ideal S1024x5632 .bf16) (i : Fin 1024) (j : Fin 2816) (hi : i.val < 512 ∨ j.val < 256) :
    View.canon (Val := Elt Ideal) (s := S1024x2816) (e := .bf16) [
      ⟨Rect.unit (s := S1024x2816) ![0, 2560] S512x256.size inb_S1024x2816_S512x256_0_2560,
        k0_pay6 (View.ld H (Rect.unit (s := S1024x1024) ![0, 0] S512x1024.size inb_S1024x1024_S512x1024_0_0))
          (View.ld W (Rect.unit (s := S1024x5632) ![0, 2560] S1024x256.size inb_S1024x5632_S1024x256_0_2560))
          (View.ld H (Rect.unit (s := S1024x1024) ![0, 0] S512x1024.size inb_S1024x1024_S512x1024_0_0))
          (View.ld W (Rect.unit (s := S1024x5632) ![0, 5376] S1024x256.size inb_S1024x5632_S1024x256_0_5376))⟩,
      ⟨Rect.unit (s := S1024x2816) ![0, 2304] S512x256.size inb_S1024x2816_S512x256_0_2304,
        k0_pay6 (View.ld H (Rect.unit (s := S1024x1024) ![0, 0] S512x1024.size inb_S1024x1024_S512x1024_0_0))
          (View.ld W (Rect.unit (s := S1024x5632) ![0, 2304] S1024x256.size inb_S1024x5632_S1024x256_0_2304))
          (View.ld H (Rect.unit (s := S1024x1024) ![0, 0] S512x1024.size inb_S1024x1024_S512x1024_0_0))
          (View.ld W (Rect.unit (s := S1024x5632) ![0, 5120] S1024x256.size inb_S1024x5632_S1024x256_0_5120))⟩,
      ⟨Rect.unit (s := S1024x2816) ![0, 2048] S512x256.size inb_S1024x2816_S512x256_0_2048,
        k0_pay6 (View.ld H (Rect.unit (s := S1024x1024) ![0, 0] S512x1024.size inb_S1024x1024_S512x1024_0_0))
          (View.ld W (Rect.unit (s := S1024x5632) ![0, 2048] S1024x256.size inb_S1024x5632_S1024x256_0_2048))
          (View.ld H (Rect.unit (s := S1024x1024) ![0, 0] S512x1024.size inb_S1024x1024_S512x1024_0_0))
          (View.ld W (Rect.unit (s := S1024x5632) ![0, 4864] S1024x256.size inb_S1024x5632_S1024x256_0_4864))⟩,
      ⟨Rect.unit (s := S1024x2816) ![0, 1792] S512x256.size inb_S1024x2816_S512x256_0_1792,
        k0_pay6 (View.ld H (Rect.unit (s := S1024x1024) ![0, 0] S512x1024.size inb_S1024x1024_S512x1024_0_0))
          (View.ld W (Rect.unit (s := S1024x5632) ![0, 1792] S1024x256.size inb_S1024x5632_S1024x256_0_1792))
          (View.ld H (Rect.unit (s := S1024x1024) ![0, 0] S512x1024.size inb_S1024x1024_S512x1024_0_0))
          (View.ld W (Rect.unit (s := S1024x5632) ![0, 4608] S1024x256.size inb_S1024x5632_S1024x256_0_4608))⟩,
      ⟨Rect.unit (s := S1024x2816) ![0, 1536] S512x256.size inb_S1024x2816_S512x256_0_1536,
        k0_pay6 (View.ld H (Rect.unit (s := S1024x1024) ![0, 0] S512x1024.size inb_S1024x1024_S512x1024_0_0))
          (View.ld W (Rect.unit (s := S1024x5632) ![0, 1536] S1024x256.size inb_S1024x5632_S1024x256_0_1536))
          (View.ld H (Rect.unit (s := S1024x1024) ![0, 0] S512x1024.size inb_S1024x1024_S512x1024_0_0))
          (View.ld W (Rect.unit (s := S1024x5632) ![0, 4352] S1024x256.size inb_S1024x5632_S1024x256_0_4352))⟩,
      ⟨Rect.unit (s := S1024x2816) ![0, 1280] S512x256.size inb_S1024x2816_S512x256_0_1280,
        k0_pay6 (View.ld H (Rect.unit (s := S1024x1024) ![0, 0] S512x1024.size inb_S1024x1024_S512x1024_0_0))
          (View.ld W (Rect.unit (s := S1024x5632) ![0, 1280] S1024x256.size inb_S1024x5632_S1024x256_0_1280))
          (View.ld H (Rect.unit (s := S1024x1024) ![0, 0] S512x1024.size inb_S1024x1024_S512x1024_0_0))
          (View.ld W (Rect.unit (s := S1024x5632) ![0, 4096] S1024x256.size inb_S1024x5632_S1024x256_0_4096))⟩,
      ⟨Rect.unit (s := S1024x2816) ![0, 1024] S512x256.size inb_S1024x2816_S512x256_0_1024,
        k0_pay6 (View.ld H (Rect.unit (s := S1024x1024) ![0, 0] S512x1024.size inb_S1024x1024_S512x1024_0_0))
          (View.ld W (Rect.unit (s := S1024x5632) ![0, 1024] S1024x256.size inb_S1024x5632_S1024x256_0_1024))
          (View.ld H (Rect.unit (s := S1024x1024) ![0, 0] S512x1024.size inb_S1024x1024_S512x1024_0_0))
          (View.ld W (Rect.unit (s := S1024x5632) ![0, 3840] S1024x256.size inb_S1024x5632_S1024x256_0_3840))⟩,
      ⟨Rect.unit (s := S1024x2816) ![0, 768] S512x256.size inb_S1024x2816_S512x256_0_768,
        k0_pay6 (View.ld H (Rect.unit (s := S1024x1024) ![0, 0] S512x1024.size inb_S1024x1024_S512x1024_0_0))
          (View.ld W (Rect.unit (s := S1024x5632) ![0, 768] S1024x256.size inb_S1024x5632_S1024x256_0_768))
          (View.ld H (Rect.unit (s := S1024x1024) ![0, 0] S512x1024.size inb_S1024x1024_S512x1024_0_0))
          (View.ld W (Rect.unit (s := S1024x5632) ![0, 3584] S1024x256.size inb_S1024x5632_S1024x256_0_3584))⟩,
      ⟨Rect.unit (s := S1024x2816) ![0, 512] S512x256.size inb_S1024x2816_S512x256_0_512,
        k0_pay6 (View.ld H (Rect.unit (s := S1024x1024) ![0, 0] S512x1024.size inb_S1024x1024_S512x1024_0_0))
          (View.ld W (Rect.unit (s := S1024x5632) ![0, 512] S1024x256.size inb_S1024x5632_S1024x256_0_512))
          (View.ld H (Rect.unit (s := S1024x1024) ![0, 0] S512x1024.size inb_S1024x1024_S512x1024_0_0))
          (View.ld W (Rect.unit (s := S1024x5632) ![0, 3328] S1024x256.size inb_S1024x5632_S1024x256_0_3328))⟩,
      ⟨Rect.unit (s := S1024x2816) ![0, 256] S512x256.size inb_S1024x2816_S512x256_0_256,
        k0_pay6 (View.ld H (Rect.unit (s := S1024x1024) ![0, 0] S512x1024.size inb_S1024x1024_S512x1024_0_0))
          (View.ld W (Rect.unit (s := S1024x5632) ![0, 256] S1024x256.size inb_S1024x5632_S1024x256_0_256))
          (View.ld H (Rect.unit (s := S1024x1024) ![0, 0] S512x1024.size inb_S1024x1024_S512x1024_0_0))
          (View.ld W (Rect.unit (s := S1024x5632) ![0, 3072] S1024x256.size inb_S1024x5632_S1024x256_0_3072))⟩,
      ⟨Rect.unit (s := S1024x2816) ![0, 0] S1024x256.size inb_S1024x2816_S1024x256_0_0,
        k0_pay5 (k0_pay4 H (View.ld W (Rect.unit (s := S1024x5632) ![0, 0] S1024x256.size inb_S1024x5632_S1024x256_0_0))
          H (View.ld W (Rect.unit (s := S1024x5632) ![0, 2816] S1024x256.size inb_S1024x5632_S1024x256_0_2816)))⟩] (ix2 i j) = act H W (ix2 i j) := by
  refine canon_step2 _ _ _ _ _ _ _ _ (fun p q hp hq => tile H W _ _ _ _ _ (by norm_num) _ _ _ p q hp hq) fun _ => ?_
  refine canon_step2 _ _ _ _ _ _ _ _ (fun p q hp hq => tile H W _ _ _ _ _ (by norm_num) _ _ _ p q hp hq) fun _ => ?_
  refine canon_step2 _ _ _ _ _ _ _ _ (fun p q hp hq => tile H W _ _ _ _ _ (by norm_num) _ _ _ p q hp hq) fun _ => ?_
  refine canon_step2 _ _ _ _ _ _ _ _ (fun p q hp hq => tile H W _ _ _ _ _ (by norm_num) _ _ _ p q hp hq) fun _ => ?_
  refine canon_step2 _ _ _ _ _ _ _ _ (fun p q hp hq => tile H W _ _ _ _ _ (by norm_num) _ _ _ p q hp hq) fun _ => ?_
  refine canon_step2 _ _ _ _ _ _ _ _ (fun p q hp hq => tile H W _ _ _ _ _ (by norm_num) _ _ _ p q hp hq) fun _ => ?_
  refine canon_step2 _ _ _ _ _ _ _ _ (fun p q hp hq => tile H W _ _ _ _ _ (by norm_num) _ _ _ p q hp hq) fun _ => ?_
  refine canon_step2 _ _ _ _ _ _ _ _ (fun p q hp hq => tile H W _ _ _ _ _ (by norm_num) _ _ _ p q hp hq) fun _ => ?_
  refine canon_step2 _ _ _ _ _ _ _ _ (fun p q hp hq => tile H W _ _ _ _ _ (by norm_num) _ _ _ p q hp hq) fun _ => ?_
  refine canon_step2 _ _ _ _ _ _ _ _ (fun p q hp hq => tile H W _ _ _ _ _ (by norm_num) _ _ _ p q hp hq) fun _ => ?_
  refine canon_step2 _ _ _ _ _ _ _ _ (fun p q hp hq => tile0 H W _ _ p q hp hq) fun _ => ?_
  exfalso
  omega

set_option maxRecDepth 65536 in
/-- The lower half of the gated activation, read back from the tiles stored so far. -/
theorem lower (H : Vec Ideal S1024x1024 .bf16) (W : Vec Ideal S1024x5632 .bf16) (i : Fin 1024) (j : Fin 2816) (hi : 512 ≤ i.val) :
    View.canon (Val := Elt Ideal) (s := S1024x2816) (e := .bf16) [
      ⟨Rect.unit (s := S1024x2816) ![512, 2560] S512x256.size inb_S1024x2816_S512x256_512_2560,
        k0_pay6 (View.ld H (Rect.unit (s := S1024x1024) ![512, 0] S512x1024.size inb_S1024x1024_S512x1024_512_0))
          (View.ld W (Rect.unit (s := S1024x5632) ![0, 2560] S1024x256.size inb_S1024x5632_S1024x256_0_2560))
          (View.ld H (Rect.unit (s := S1024x1024) ![512, 0] S512x1024.size inb_S1024x1024_S512x1024_512_0))
          (View.ld W (Rect.unit (s := S1024x5632) ![0, 5376] S1024x256.size inb_S1024x5632_S1024x256_0_5376))⟩,
      ⟨Rect.unit (s := S1024x2816) ![512, 2304] S512x256.size inb_S1024x2816_S512x256_512_2304,
        k0_pay6 (View.ld H (Rect.unit (s := S1024x1024) ![512, 0] S512x1024.size inb_S1024x1024_S512x1024_512_0))
          (View.ld W (Rect.unit (s := S1024x5632) ![0, 2304] S1024x256.size inb_S1024x5632_S1024x256_0_2304))
          (View.ld H (Rect.unit (s := S1024x1024) ![512, 0] S512x1024.size inb_S1024x1024_S512x1024_512_0))
          (View.ld W (Rect.unit (s := S1024x5632) ![0, 5120] S1024x256.size inb_S1024x5632_S1024x256_0_5120))⟩,
      ⟨Rect.unit (s := S1024x2816) ![512, 2048] S512x256.size inb_S1024x2816_S512x256_512_2048,
        k0_pay6 (View.ld H (Rect.unit (s := S1024x1024) ![512, 0] S512x1024.size inb_S1024x1024_S512x1024_512_0))
          (View.ld W (Rect.unit (s := S1024x5632) ![0, 2048] S1024x256.size inb_S1024x5632_S1024x256_0_2048))
          (View.ld H (Rect.unit (s := S1024x1024) ![512, 0] S512x1024.size inb_S1024x1024_S512x1024_512_0))
          (View.ld W (Rect.unit (s := S1024x5632) ![0, 4864] S1024x256.size inb_S1024x5632_S1024x256_0_4864))⟩,
      ⟨Rect.unit (s := S1024x2816) ![512, 1792] S512x256.size inb_S1024x2816_S512x256_512_1792,
        k0_pay6 (View.ld H (Rect.unit (s := S1024x1024) ![512, 0] S512x1024.size inb_S1024x1024_S512x1024_512_0))
          (View.ld W (Rect.unit (s := S1024x5632) ![0, 1792] S1024x256.size inb_S1024x5632_S1024x256_0_1792))
          (View.ld H (Rect.unit (s := S1024x1024) ![512, 0] S512x1024.size inb_S1024x1024_S512x1024_512_0))
          (View.ld W (Rect.unit (s := S1024x5632) ![0, 4608] S1024x256.size inb_S1024x5632_S1024x256_0_4608))⟩,
      ⟨Rect.unit (s := S1024x2816) ![512, 1536] S512x256.size inb_S1024x2816_S512x256_512_1536,
        k0_pay6 (View.ld H (Rect.unit (s := S1024x1024) ![512, 0] S512x1024.size inb_S1024x1024_S512x1024_512_0))
          (View.ld W (Rect.unit (s := S1024x5632) ![0, 1536] S1024x256.size inb_S1024x5632_S1024x256_0_1536))
          (View.ld H (Rect.unit (s := S1024x1024) ![512, 0] S512x1024.size inb_S1024x1024_S512x1024_512_0))
          (View.ld W (Rect.unit (s := S1024x5632) ![0, 4352] S1024x256.size inb_S1024x5632_S1024x256_0_4352))⟩,
      ⟨Rect.unit (s := S1024x2816) ![512, 1280] S512x256.size inb_S1024x2816_S512x256_512_1280,
        k0_pay6 (View.ld H (Rect.unit (s := S1024x1024) ![512, 0] S512x1024.size inb_S1024x1024_S512x1024_512_0))
          (View.ld W (Rect.unit (s := S1024x5632) ![0, 1280] S1024x256.size inb_S1024x5632_S1024x256_0_1280))
          (View.ld H (Rect.unit (s := S1024x1024) ![512, 0] S512x1024.size inb_S1024x1024_S512x1024_512_0))
          (View.ld W (Rect.unit (s := S1024x5632) ![0, 4096] S1024x256.size inb_S1024x5632_S1024x256_0_4096))⟩,
      ⟨Rect.unit (s := S1024x2816) ![512, 1024] S512x256.size inb_S1024x2816_S512x256_512_1024,
        k0_pay6 (View.ld H (Rect.unit (s := S1024x1024) ![512, 0] S512x1024.size inb_S1024x1024_S512x1024_512_0))
          (View.ld W (Rect.unit (s := S1024x5632) ![0, 1024] S1024x256.size inb_S1024x5632_S1024x256_0_1024))
          (View.ld H (Rect.unit (s := S1024x1024) ![512, 0] S512x1024.size inb_S1024x1024_S512x1024_512_0))
          (View.ld W (Rect.unit (s := S1024x5632) ![0, 3840] S1024x256.size inb_S1024x5632_S1024x256_0_3840))⟩,
      ⟨Rect.unit (s := S1024x2816) ![512, 768] S512x256.size inb_S1024x2816_S512x256_512_768,
        k0_pay6 (View.ld H (Rect.unit (s := S1024x1024) ![512, 0] S512x1024.size inb_S1024x1024_S512x1024_512_0))
          (View.ld W (Rect.unit (s := S1024x5632) ![0, 768] S1024x256.size inb_S1024x5632_S1024x256_0_768))
          (View.ld H (Rect.unit (s := S1024x1024) ![512, 0] S512x1024.size inb_S1024x1024_S512x1024_512_0))
          (View.ld W (Rect.unit (s := S1024x5632) ![0, 3584] S1024x256.size inb_S1024x5632_S1024x256_0_3584))⟩,
      ⟨Rect.unit (s := S1024x2816) ![512, 512] S512x256.size inb_S1024x2816_S512x256_512_512,
        k0_pay6 (View.ld H (Rect.unit (s := S1024x1024) ![512, 0] S512x1024.size inb_S1024x1024_S512x1024_512_0))
          (View.ld W (Rect.unit (s := S1024x5632) ![0, 512] S1024x256.size inb_S1024x5632_S1024x256_0_512))
          (View.ld H (Rect.unit (s := S1024x1024) ![512, 0] S512x1024.size inb_S1024x1024_S512x1024_512_0))
          (View.ld W (Rect.unit (s := S1024x5632) ![0, 3328] S1024x256.size inb_S1024x5632_S1024x256_0_3328))⟩,
      ⟨Rect.unit (s := S1024x2816) ![512, 256] S512x256.size inb_S1024x2816_S512x256_512_256,
        k0_pay6 (View.ld H (Rect.unit (s := S1024x1024) ![512, 0] S512x1024.size inb_S1024x1024_S512x1024_512_0))
          (View.ld W (Rect.unit (s := S1024x5632) ![0, 256] S1024x256.size inb_S1024x5632_S1024x256_0_256))
          (View.ld H (Rect.unit (s := S1024x1024) ![512, 0] S512x1024.size inb_S1024x1024_S512x1024_512_0))
          (View.ld W (Rect.unit (s := S1024x5632) ![0, 3072] S1024x256.size inb_S1024x5632_S1024x256_0_3072))⟩,
      ⟨Rect.unit (s := S1024x2816) ![0, 2560] S512x256.size inb_S1024x2816_S512x256_0_2560,
        k0_pay6 (View.ld H (Rect.unit (s := S1024x1024) ![0, 0] S512x1024.size inb_S1024x1024_S512x1024_0_0))
          (View.ld W (Rect.unit (s := S1024x5632) ![0, 2560] S1024x256.size inb_S1024x5632_S1024x256_0_2560))
          (View.ld H (Rect.unit (s := S1024x1024) ![0, 0] S512x1024.size inb_S1024x1024_S512x1024_0_0))
          (View.ld W (Rect.unit (s := S1024x5632) ![0, 5376] S1024x256.size inb_S1024x5632_S1024x256_0_5376))⟩,
      ⟨Rect.unit (s := S1024x2816) ![0, 2304] S512x256.size inb_S1024x2816_S512x256_0_2304,
        k0_pay6 (View.ld H (Rect.unit (s := S1024x1024) ![0, 0] S512x1024.size inb_S1024x1024_S512x1024_0_0))
          (View.ld W (Rect.unit (s := S1024x5632) ![0, 2304] S1024x256.size inb_S1024x5632_S1024x256_0_2304))
          (View.ld H (Rect.unit (s := S1024x1024) ![0, 0] S512x1024.size inb_S1024x1024_S512x1024_0_0))
          (View.ld W (Rect.unit (s := S1024x5632) ![0, 5120] S1024x256.size inb_S1024x5632_S1024x256_0_5120))⟩,
      ⟨Rect.unit (s := S1024x2816) ![0, 2048] S512x256.size inb_S1024x2816_S512x256_0_2048,
        k0_pay6 (View.ld H (Rect.unit (s := S1024x1024) ![0, 0] S512x1024.size inb_S1024x1024_S512x1024_0_0))
          (View.ld W (Rect.unit (s := S1024x5632) ![0, 2048] S1024x256.size inb_S1024x5632_S1024x256_0_2048))
          (View.ld H (Rect.unit (s := S1024x1024) ![0, 0] S512x1024.size inb_S1024x1024_S512x1024_0_0))
          (View.ld W (Rect.unit (s := S1024x5632) ![0, 4864] S1024x256.size inb_S1024x5632_S1024x256_0_4864))⟩,
      ⟨Rect.unit (s := S1024x2816) ![0, 1792] S512x256.size inb_S1024x2816_S512x256_0_1792,
        k0_pay6 (View.ld H (Rect.unit (s := S1024x1024) ![0, 0] S512x1024.size inb_S1024x1024_S512x1024_0_0))
          (View.ld W (Rect.unit (s := S1024x5632) ![0, 1792] S1024x256.size inb_S1024x5632_S1024x256_0_1792))
          (View.ld H (Rect.unit (s := S1024x1024) ![0, 0] S512x1024.size inb_S1024x1024_S512x1024_0_0))
          (View.ld W (Rect.unit (s := S1024x5632) ![0, 4608] S1024x256.size inb_S1024x5632_S1024x256_0_4608))⟩,
      ⟨Rect.unit (s := S1024x2816) ![0, 1536] S512x256.size inb_S1024x2816_S512x256_0_1536,
        k0_pay6 (View.ld H (Rect.unit (s := S1024x1024) ![0, 0] S512x1024.size inb_S1024x1024_S512x1024_0_0))
          (View.ld W (Rect.unit (s := S1024x5632) ![0, 1536] S1024x256.size inb_S1024x5632_S1024x256_0_1536))
          (View.ld H (Rect.unit (s := S1024x1024) ![0, 0] S512x1024.size inb_S1024x1024_S512x1024_0_0))
          (View.ld W (Rect.unit (s := S1024x5632) ![0, 4352] S1024x256.size inb_S1024x5632_S1024x256_0_4352))⟩,
      ⟨Rect.unit (s := S1024x2816) ![0, 1280] S512x256.size inb_S1024x2816_S512x256_0_1280,
        k0_pay6 (View.ld H (Rect.unit (s := S1024x1024) ![0, 0] S512x1024.size inb_S1024x1024_S512x1024_0_0))
          (View.ld W (Rect.unit (s := S1024x5632) ![0, 1280] S1024x256.size inb_S1024x5632_S1024x256_0_1280))
          (View.ld H (Rect.unit (s := S1024x1024) ![0, 0] S512x1024.size inb_S1024x1024_S512x1024_0_0))
          (View.ld W (Rect.unit (s := S1024x5632) ![0, 4096] S1024x256.size inb_S1024x5632_S1024x256_0_4096))⟩,
      ⟨Rect.unit (s := S1024x2816) ![0, 1024] S512x256.size inb_S1024x2816_S512x256_0_1024,
        k0_pay6 (View.ld H (Rect.unit (s := S1024x1024) ![0, 0] S512x1024.size inb_S1024x1024_S512x1024_0_0))
          (View.ld W (Rect.unit (s := S1024x5632) ![0, 1024] S1024x256.size inb_S1024x5632_S1024x256_0_1024))
          (View.ld H (Rect.unit (s := S1024x1024) ![0, 0] S512x1024.size inb_S1024x1024_S512x1024_0_0))
          (View.ld W (Rect.unit (s := S1024x5632) ![0, 3840] S1024x256.size inb_S1024x5632_S1024x256_0_3840))⟩,
      ⟨Rect.unit (s := S1024x2816) ![0, 768] S512x256.size inb_S1024x2816_S512x256_0_768,
        k0_pay6 (View.ld H (Rect.unit (s := S1024x1024) ![0, 0] S512x1024.size inb_S1024x1024_S512x1024_0_0))
          (View.ld W (Rect.unit (s := S1024x5632) ![0, 768] S1024x256.size inb_S1024x5632_S1024x256_0_768))
          (View.ld H (Rect.unit (s := S1024x1024) ![0, 0] S512x1024.size inb_S1024x1024_S512x1024_0_0))
          (View.ld W (Rect.unit (s := S1024x5632) ![0, 3584] S1024x256.size inb_S1024x5632_S1024x256_0_3584))⟩,
      ⟨Rect.unit (s := S1024x2816) ![0, 512] S512x256.size inb_S1024x2816_S512x256_0_512,
        k0_pay6 (View.ld H (Rect.unit (s := S1024x1024) ![0, 0] S512x1024.size inb_S1024x1024_S512x1024_0_0))
          (View.ld W (Rect.unit (s := S1024x5632) ![0, 512] S1024x256.size inb_S1024x5632_S1024x256_0_512))
          (View.ld H (Rect.unit (s := S1024x1024) ![0, 0] S512x1024.size inb_S1024x1024_S512x1024_0_0))
          (View.ld W (Rect.unit (s := S1024x5632) ![0, 3328] S1024x256.size inb_S1024x5632_S1024x256_0_3328))⟩,
      ⟨Rect.unit (s := S1024x2816) ![0, 256] S512x256.size inb_S1024x2816_S512x256_0_256,
        k0_pay6 (View.ld H (Rect.unit (s := S1024x1024) ![0, 0] S512x1024.size inb_S1024x1024_S512x1024_0_0))
          (View.ld W (Rect.unit (s := S1024x5632) ![0, 256] S1024x256.size inb_S1024x5632_S1024x256_0_256))
          (View.ld H (Rect.unit (s := S1024x1024) ![0, 0] S512x1024.size inb_S1024x1024_S512x1024_0_0))
          (View.ld W (Rect.unit (s := S1024x5632) ![0, 3072] S1024x256.size inb_S1024x5632_S1024x256_0_3072))⟩,
      ⟨Rect.unit (s := S1024x2816) ![0, 0] S1024x256.size inb_S1024x2816_S1024x256_0_0,
        k0_pay5 (k0_pay4 H (View.ld W (Rect.unit (s := S1024x5632) ![0, 0] S1024x256.size inb_S1024x5632_S1024x256_0_0))
          H (View.ld W (Rect.unit (s := S1024x5632) ![0, 2816] S1024x256.size inb_S1024x5632_S1024x256_0_2816)))⟩] (ix2 i j) = act H W (ix2 i j) := by
  refine canon_step2 _ _ _ _ _ _ _ _ (fun p q hp hq => tile H W _ _ _ _ _ (by norm_num) _ _ _ p q hp hq) fun _ => ?_
  refine canon_step2 _ _ _ _ _ _ _ _ (fun p q hp hq => tile H W _ _ _ _ _ (by norm_num) _ _ _ p q hp hq) fun _ => ?_
  refine canon_step2 _ _ _ _ _ _ _ _ (fun p q hp hq => tile H W _ _ _ _ _ (by norm_num) _ _ _ p q hp hq) fun _ => ?_
  refine canon_step2 _ _ _ _ _ _ _ _ (fun p q hp hq => tile H W _ _ _ _ _ (by norm_num) _ _ _ p q hp hq) fun _ => ?_
  refine canon_step2 _ _ _ _ _ _ _ _ (fun p q hp hq => tile H W _ _ _ _ _ (by norm_num) _ _ _ p q hp hq) fun _ => ?_
  refine canon_step2 _ _ _ _ _ _ _ _ (fun p q hp hq => tile H W _ _ _ _ _ (by norm_num) _ _ _ p q hp hq) fun _ => ?_
  refine canon_step2 _ _ _ _ _ _ _ _ (fun p q hp hq => tile H W _ _ _ _ _ (by norm_num) _ _ _ p q hp hq) fun _ => ?_
  refine canon_step2 _ _ _ _ _ _ _ _ (fun p q hp hq => tile H W _ _ _ _ _ (by norm_num) _ _ _ p q hp hq) fun _ => ?_
  refine canon_step2 _ _ _ _ _ _ _ _ (fun p q hp hq => tile H W _ _ _ _ _ (by norm_num) _ _ _ p q hp hq) fun _ => ?_
  refine canon_step2 _ _ _ _ _ _ _ _ (fun p q hp hq => tile H W _ _ _ _ _ (by norm_num) _ _ _ p q hp hq) fun _ => ?_
  exact upper H W i j (by omega)

/-! ## The block -/

theorem hz2 : (![0, 0] : Fin 2 → ℕ) = fun _ => 0 := funext fun a => by fin_cases a <;> rfl
theorem hz3 : (![0, 0, 0] : Fin 3 → ℕ) = fun _ => 0 := funext fun a => by fin_cases a <;> rfl

/-- The row of the modulation table that belongs to the point's batch: the program's word for it is the coordinate. -/
theorem word (i : grid0.Coords) : BitVec.toNat (Scalar.indexCast (BitVec.ofNat 32 (i 0).val)) = (i 0).val := by
  have : (i 0).val < 16 := (i 0).isLt
  simp [Scalar.indexCast]
  omega

theorem hall (v : View sig .tc .vmem S1024x1024 .bf16) (inb : ∀ a, (![0, 0] : Fin 2 → ℕ) a + S1024x1024.size a ≤ S1024x1024.size a)
    (w : Vec Ideal S1024x1024 .bf16) (r : Rect S1024x1024) :
    v.readCov (Val := Elt Ideal) [⟨Rect.unit (s := S1024x1024) ![0, 0] ![1024, 1024] inb, w⟩] r.toLoadRect = View.ld w r :=
  readCov_one v hz2 inb w r

theorem whole_hall (H : Vec Ideal S1024x1024 .bf16) (inb : ∀ a, (![0, 0] : Fin 2 → ℕ) a + S1024x1024.size a ≤ S1024x1024.size a) :
    View.ld (Val := Elt Ideal) H (Rect.unit (s := S1024x1024) ![0, 0] ![1024, 1024] inb) = H := View.ld_unit_zero hz2 inb H
theorem whole_down (H : Vec Ideal S2816x1024 .bf16) (inb : ∀ a, (![0, 0] : Fin 2 → ℕ) a + S2816x1024.size a ≤ S2816x1024.size a) :
    View.ld (Val := Elt Ideal) H (Rect.unit (s := S2816x1024) ![0, 0] ![2816, 1024] inb) = H := View.ld_unit_zero hz2 inb H
theorem whole_vec (H : Vec Ideal S1x1024 .f32) (inb : ∀ a, (![0, 0] : Fin 2 → ℕ) a + S1x1024.size a ≤ S1x1024.size a) :
    View.ld (Val := Elt Ideal) H (Rect.unit (s := S1x1024) ![0, 0] ![1, 1024] inb) = H := View.ld_unit_zero hz2 inb H
theorem whole_x (H : Vec Ideal S1x1024x1024 .f32) (inb : ∀ a, (![0, 0, 0] : Fin 3 → ℕ) a + S1x1024x1024.size a ≤ S1x1024x1024.size a) :
    View.ld (Val := Elt Ideal) H (Rect.unit (s := S1x1024x1024) ![0, 0, 0] ![1, 1024, 1024] inb) = H := View.ld_unit_zero hz3 inb H

/-- A row of the activation, in the buffer's own numbering. -/
theorem row_idx (r : ℕ) (inb : ∀ a, (![r, 0] : Fin 2 → ℕ) a + S256x2816.size a ≤ S1024x2816.size a) (p : Fin 256) (i : Fin 1024) (f : Fin 2816) (h : i.val = r + p.val) :
    (Rect.unit (s := S1024x2816) ![r, 0] S256x2816.size inb).toLoadRect.idx (ix2 p f) = ix2 i f := by
  funext a
  apply Fin.ext
  fin_cases a
  · show r + 1 * p.val = i.val; omega
  · show 0 + 1 * f.val = f.val; omega

/-- The value one grid point leaves at row `r` and column `j` of its block of the output, from its blocks of the operands and
    the table's three rows. -/
def value (x : Vec Ideal S1x1024x1024 .f32) (shift scale gate : Fin 1024 → EReal) (W : Vec Ideal S1024x5632 .bf16) (D : Vec Ideal S2816x1024 .bf16)
    (g b : Vec Ideal S1x1024 .f32) (r j : Fin 1024) : EReal :=
  lnRow (fun k => pre (x (ix3 0 r k)) (gate k) (∑ f : Fin 2816,
      glu (∑ l : Fin 1024, modRow (fun l => x (ix3 0 r l)) scale shift l * W (ix2 l (⟨f.val, by omega⟩ : Fin 5632)))
          (∑ l : Fin 1024, modRow (fun l => x (ix3 0 r l)) scale shift l * W (ix2 l (⟨2816 + f.val, by omega⟩ : Fin 5632))) * D (ix2 f k)))
    (fun k => g (ix2 0 k)) (fun k => b (ix2 0 k)) j

/-- The same value with the activation's row handed over. -/
theorem fin_tile (r0 : ℕ) (hr : r0 + 256 ≤ 1024) (x0 : Vec Ideal S1x1024x1024 .f32) (g : Vec Ideal S1x1x1024 .f32) (a : Vec Ideal S256x2816 .bf16)
    (x3 : Vec Ideal S2816x1024 .bf16) (x4 x5 : Vec Ideal S1x1024 .f32) {H : Vec Ideal S1024x1024 .bf16} {W : Vec Ideal S1024x5632 .bf16}
    (inb : ∀ a, (![0, r0, 0] : Fin 3 → ℕ) a + S1x256x1024.size a ≤ S1x1024x1024.size a)
    (o : Fin 1) (p : Fin 256) (q : Fin 1024) (r j : Fin 1024) (hp : r.val = r0 + p.val) (hq : j.val = 0 + q.val)
    (ha : ∀ f : Fin 2816, a (ix2 p f) = act H W (ix2 r f)) :
    k0_pay23 (F := Ideal) (k0_pay2 g) (k0_pay22 a x3) (View.ld x0 (Rect.unit (s := S1x1024x1024) ![0, r0, 0] S1x256x1024.size inb)) x4 x5 (ix3 o p q)
      = lnRow (fun k => pre (x0 (ix3 0 r k)) (g (ix3 0 0 k)) (∑ f : Fin 2816, act H W (ix2 r f) * x3 (ix2 f k))) (fun k => x4 (ix2 0 k)) (fun k => x5 (ix2 0 k)) j := by
  obtain rfl : j = q := Fin.ext (by omega)
  have e : ∀ k : Fin 1024, View.ld (Val := Elt Ideal) (e' := .f32) x0 (Rect.unit (s := S1x1024x1024) ![0, r0, 0] S1x256x1024.size inb) (ix3 0 p k) = x0 (ix3 0 r k) := fun k =>
    View.ld_unit_apply_of (Val := Elt Ideal) (e := .f32) x0 _ _ inb (ix3 0 p k) _ (by intro a; fin_cases a <;> simp [ix3, hp])
  rw [fin_apply]
  simp only [ha, e]

set_option maxRecDepth 65536 in
set_option maxHeartbeats 1000000 in
/-- What a grid point leaves in the output's buffer. -/
theorem out_A (c : Dev nD) (i : grid0.Coords) (arg2 : Memref sig .tc .vmem S1x1024x1024 .f32) (harg2 : arg2.IsWhole) (arg3 : Memref sig .tc .vmem S9x16x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1024 .bf16) (harg9 : arg9.IsWhole) (arg10 : Memref sig .tc .vmem S1024x2816 .bf16) (harg10 : arg10.IsWhole)
    (x0 : Vec Ideal S1x1024x1024 .f32) (x1 : Vec Ideal S9x16x1024 .f32) (x2 : Vec Ideal S1024x5632 .bf16) (x3 : Vec Ideal S2816x1024 .bf16) (x4 : Vec Ideal S1x1024 .f32) (x5 : Vec Ideal S1x1024 .f32) (b : Fin 16) (hb : b = i 0) (r j : Fin 1024) :
    out0_A_6 c i arg2 harg2 arg3 harg3 arg4 harg4 arg5 harg5 arg6 harg6 arg7 harg7 arg8 harg8 arg9 harg9 arg10 harg10 x0 x1 x2 x3 x4 x5 (ix3 0 r j)
      = value x0 (fun k => x1 (ix3 6 b k)) (fun k => x1 (ix3 7 b k)) (fun k => x1 (ix3 8 b k)) x2 x3 x4 x5 r j := by
  have row : ∀ (m : ℕ) (hm : m < 9) (inb) (k : Fin 1024), View.ld (Val := Elt Ideal) (e' := .f32) x1
      (Rect.unit (s := S9x16x1024) ![m, BitVec.toNat (Scalar.indexCast (BitVec.ofNat 32 (i 0).val)), 0] S1x1x1024.size inb) (ix3 0 0 k)
        = x1 (ix3 (⟨m, hm⟩ : Fin 9) b k) := fun m hm inb k =>
    View.ld_unit_apply_of (Val := Elt Ideal) (e := .f32) x1 _ _ inb (ix3 0 0 k) _ (by
      intro a
      fin_cases a
      · show m = m + 0; rfl
      · show b.val = BitVec.toNat (Scalar.indexCast (BitVec.ofNat 32 (i 0).val)) + 0
        rw [word, hb]; rfl
      · show k.val = 0 + k.val; omega)
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 x5)]
  unfold kernelRun0_A
  dsimp only
  sl_unfold_words
  simp only [View.readAt_eq_ld, harg2.read_unread, harg3.read_unread, harg4.read_unread, harg5.read_unread, harg6.read_unread, harg7.read_unread]
  simp only [hall, whole_hall, whole_down, whole_vec, whole_x, pay_7, pay_8, pay_9, pay_10, pay_11, pay_14, pay_17, pay_24, pay_25, pay_28, pay_31, pay_35, pay_39, pay_13, pay_27, pay_16, pay_30, pay_34, pay_38, fin_21, fin_43, fin_46]
  have key : ∀ (H : Vec Ideal S1024x1024 .bf16) (g : Vec Ideal S1x1x1024 .f32),
      (∀ l, H (ix2 r l) = modRow (fun l => x0 (ix3 0 r l)) (fun k => x1 (ix3 7 b k)) (fun k => x1 (ix3 6 b k)) l) →
      (∀ k, g (ix3 0 0 k) = x1 (ix3 8 b k)) →
      lnRow (fun k => pre (x0 (ix3 0 r k)) (g (ix3 0 0 k)) (∑ f : Fin 2816, act H x2 (ix2 r f) * x3 (ix2 f k))) (fun k => x4 (ix2 0 k)) (fun k => x5 (ix2 0 k)) j
        = value x0 (fun k => x1 (ix3 6 b k)) (fun k => x1 (ix3 7 b k)) (fun k => x1 (ix3 8 b k)) x2 x3 x4 x5 r j := by
    intro H g hH hg
    unfold value
    have ha : ∀ f : Fin 2816, act H x2 (ix2 r f) = glu (∑ l : Fin 1024, H (ix2 r l) * x2 (ix2 l (⟨f.val, by omega⟩ : Fin 5632)))
        (∑ l : Fin 1024, H (ix2 r l) * x2 (ix2 l (⟨2816 + f.val, by omega⟩ : Fin 5632))) := fun f => rfl
    simp only [hg, ha, hH]
  generalize hH : k0_pay3 (F := Ideal) _ _ x0 = H
  have inb8 : ∀ a, (![8, BitVec.toNat (Scalar.indexCast (BitVec.ofNat 32 (i 0).val)), 0] : Fin 3 → ℕ) a + S1x1x1024.size a ≤ S9x16x1024.size a := by
    rw [word]
    have : (i 0).val < 16 := (i 0).isLt
    intro a
    fin_cases a
    · show 8 + 1 ≤ 9; omega
    · show (i 0).val + 1 ≤ 16; omega
    · show 0 + 1024 ≤ 1024; omega
  refine Eq.trans ?_ (key H (View.ld (Val := Elt Ideal) (e' := .f32) x1 (Rect.unit (s := S9x16x1024) ![8, BitVec.toNat (Scalar.indexCast (BitVec.ofNat 32 (i 0).val)), 0] S1x1x1024.size inb8)) (fun l => by
    rw [← hH, pay3_apply]
    exact congrArg₂ (· + ·) (congrArg (fun z => x0 (ix3 0 r l) * (1 + z)) (row 7 (by norm_num) _ l)) (row 6 (by norm_num) _ l))
    (fun k => row 8 (by norm_num) _ k))
  refine canon_step3 _ _ _ _ _ _ _ _ _ _ (fun o p q _ hp hq => fin_tile _ (by norm_num) x0 _ _ x3 x4 x5 _ o p q r j hp hq
    (fun f => ((congrFun (View.readCov_eq_canon' _ _ _) _).trans (congrArg _ (row_idx 768 _ p r f hp))).trans (lower H x2 r f (by omega)))) fun _ => ?_
  refine canon_step3 _ _ _ _ _ _ _ _ _ _ (fun o p q _ hp hq => fin_tile _ (by norm_num) x0 _ _ x3 x4 x5 _ o p q r j hp hq
    (fun f => ((congrFun (View.readCov_eq_canon' _ _ _) _).trans (congrArg _ (row_idx 512 _ p r f hp))).trans (lower H x2 r f (by omega)))) fun _ => ?_
  refine canon_step3 _ _ _ _ _ _ _ _ _ _ (fun o p q _ hp hq => fin_tile _ (by norm_num) x0 _ _ x3 x4 x5 _ o p q r j hp hq
    (fun f => ((congrFun (View.readCov_eq_canon' _ _ _) _).trans (congrArg _ (row_idx 256 _ p r f hp))).trans (upper H x2 r f (by omega)))) fun _ => ?_
  refine canon_step3 _ _ _ _ _ _ _ _ _ _ (fun o p q _ hp hq => fin_tile _ (by norm_num) x0 _ _ x3 x4 x5 _ o p q r j hp hq
    (fun f => ((congrFun (View.readCov_eq_canon' _ _ _) _).trans (congrArg _ (row_idx 0 _ p r f hp))).trans (upper H x2 r f (by omega)))) fun _ => ?_
  exfalso
  omega

end Cert.FfnIdeal.Block

end
-- ==== Proof.FfnRef.lean ====
/- The feed-forward reference's result read at an index. -/
module

public import proofs.«01_k».proof.Proof.Math
public import proofs.«01_k».proof.Proof.Gen.FfnRefIdeal.Read
public import Idealize.ShloMosaic.Lib.Tactic

@[expose] public section

noncomputable section

open Idealize.ShloMosaic Idealize.ShloMosaic.TcCoe Idealize.SL.Sem

namespace Cert.FfnRefIdeal.At

open Cert.FfnRefIdeal Cert.FfnRefIdeal.Read Cert.Layer

/-- The layer at batch `b`, token `t` and feature `j`: the rows modulated by the table's seventh and eighth parts, the gated
    linear unit and its projection, the residual sum gated by the table's ninth part, normalized. -/
def ffnAt (x : FVec Ideal S16x2048x1024 .f32) (mod : FVec Ideal S16x9216 .f32) (W : FVec Ideal S1024x5632 .f32) (D : FVec Ideal S2816x1024 .f32)
    (g bias : FVec Ideal S1024 .f32) (b : Fin 16) (t : Fin 2048) (j : Fin 1024) : EReal :=
  let h := modRow (fun k : Fin 1024 => x (ix3 b t k)) (fun k => mod (ix2 b (⟨7168 + k.val, by omega⟩ : Fin 9216))) (fun k => mod (ix2 b (⟨6144 + k.val, by omega⟩ : Fin 9216)))
  lnRow (fun k => pre (x (ix3 b t k)) (mod (ix2 b (⟨8192 + k.val, by omega⟩ : Fin 9216))) (∑ f : Fin 2816,
      glu (∑ l : Fin 1024, h l * W (ix2 l (⟨f.val, by omega⟩ : Fin 5632)))
          (∑ l : Fin 1024, h l * W (ix2 l (⟨2816 + f.val, by omega⟩ : Fin 5632))) * D (ix2 f k)))
    (fun k => g (ix1 k)) (fun k => bias (ix1 k)) j

variable (x0 : FVec Ideal S16x2048x1024 .f32) (x1 : FVec Ideal S16x9216 .f32) (x2 : FVec Ideal S1024x5632 .f32) (x3 : FVec Ideal S2816x1024 .f32)
    (x4 x5 : FVec Ideal S1024 .f32)

/-- The residual sum at an index. -/
theorem residual (b : Fin 16) (t : Fin 2048) (j : Fin 1024) : val_main_v30 (F := Ideal) x0 x1 x2 x3 (ix3 b t j)
    = pre (x0 (ix3 b t j)) (x1 (ix2 b (⟨8192 + j.val, by omega⟩ : Fin 9216))) (∑ f : Fin 2816,
      glu (∑ l : Fin 1024, modRow (fun k : Fin 1024 => x0 (ix3 b t k)) (fun k => x1 (ix2 b (⟨7168 + k.val, by omega⟩ : Fin 9216))) (fun k => x1 (ix2 b (⟨6144 + k.val, by omega⟩ : Fin 9216))) l * x2 (ix2 l (⟨f.val, by omega⟩ : Fin 5632)))
          (∑ l : Fin 1024, modRow (fun k : Fin 1024 => x0 (ix3 b t k)) (fun k => x1 (ix2 b (⟨7168 + k.val, by omega⟩ : Fin 9216))) (fun k => x1 (ix2 b (⟨6144 + k.val, by omega⟩ : Fin 9216))) l * x2 (ix2 l (⟨2816 + f.val, by omega⟩ : Fin 5632))) * x3 (ix2 f j)) := by
  pointwise [val_main_v0, val_main_v1, val_main_v2, val_main_v3, val_main_v4, val_main_v5, val_main_v6, val_main_v7, val_main_v8, val_main_v9, val_main_cst, val_main_v10, val_main_v11, val_main_v12, val_main_v13, val_main_v14, val_main_v15, val_main_cst_0, val_main_v16, val_main_v17, val_main_cst_1, val_main_v18, val_main_v19, val_main_cst_2, val_main_v20, val_main_v21, val_main_v22, val_main_v23, val_main_v24, val_main_call0_v0, val_main_call0_v1, val_main_call0_cst, val_main_call0_v2, val_main_call0_v3, val_main_call0_cst_0, val_main_call0_v4, val_main_call0_v5, val_main_v25, val_main_v26, val_main_v27, val_main_v28, val_main_v29, val_main_v30]
  rfl

/-- The reference's result at an index. -/
theorem result (b : Fin 16) (t : Fin 2048) (j : Fin 1024) :
    val_main_v54 (F := Ideal) x0 x1 x2 x3 x4 x5 (ix3 b t j) = ffnAt x0 x1 x2 x3 x4 x5 b t j := by
  have e : ∀ k : Fin 1024, _ := residual x0 x1 x2 x3 b t
  pointwise [val_main_cst_3, val_main_v31, val_main_v32, val_main_cst_4, val_main_v33, val_main_v34, val_main_v35, val_main_v36, val_main_v37, val_main_cst_5, val_main_v38, val_main_v39, val_main_cst_6, val_main_v40, val_main_v41, val_main_v42, val_main_v43, val_main_cst_7, val_main_v44, val_main_v45, val_main_v46, val_main_v47, val_main_v48, val_main_v49, val_main_v50, val_main_v51, val_main_v52, val_main_v53, val_main_v54]
  simp only [e]
  rfl

end Cert.FfnRefIdeal.At

end
-- ==== Proof.FfnValue.lean ====
/- The feed-forward layer's claim: the kernel's result array is the layer's value at every index, and the reference computes
   the same. Each grid point writes one block of the result; the blocks tile the array. -/
module

public import proofs.«01_k».proof.Defs
public import proofs.«01_k».proof.Proof.FfnBlock
public import proofs.«01_k».proof.Proof.FfnRef
public import proofs.«01_k».proof.Proof.Gen.Ffn.Frame
public import Idealize.ShloMosaic.Lib.Quiescent

@[expose] public section

noncomputable section

open Idealize.ShloMosaic Idealize.ShloMosaic.TcCoe Idealize.SL.Sem

namespace Cert.FfnIdeal.Whole

open Cert.FfnIdeal Cert.FfnIdeal.Gen Cert.FfnIdeal.Block Cert.Layer

variable (m : (ℓ : Loc nD τ sig) → Buf (Elt Ideal) ℓ) (ρ : Dev nD → PrngReg)

/-- The layer's value of device `c`'s argument arrays. -/
def layer (c : Dev nD) : Buf (Elt Ideal) ((c : Thread nD τ).loc main_v6) := fun y =>
  Cert.FfnRefIdeal.At.ffnAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (y 0) (y 1) (y 2)

/-- The grid's points and the windows' block indices. -/
theorem coords : ∀ t : Fin cfg0.N, (grid0.coords t 0).val = t.val / 2 ∧ (grid0.coords t 1).val = t.val % 2 :=
  (by decide +kernel : ∀ t : Fin grid0.N, (grid0.coords t 0).val = t.val / 2 ∧ (grid0.coords t 1).val = t.val % 2)
theorem idx : ∀ t : Fin cfg0.N,
    (win0_0.index t 0 = t.val / 2 ∧ win0_0.index t 1 = t.val % 2 ∧ win0_0.index t 2 = 0)
    ∧ (win0_1.index t 0 = 0 ∧ win0_1.index t 1 = 0 ∧ win0_1.index t 2 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = t.val / 2 ∧ win0_6.index t 1 = t.val % 2 ∧ win0_6.index t 2 = 0) :=
  (by decide +kernel : ∀ t : Fin grid0.N, _)

theorem in0 (c : Dev nD) (t : Fin cfg0.N) (r k : Fin 1024) (b : Fin 16) (q : Fin 2048) (hb : b.val = t.val / 2) (hq : q.val = (t.val % 2) * 1024 + r.val) :
    iblk m c 0 t (ix3 0 r k) = m ((c : Thread nD τ).loc main_arg0) (ix3 b q k) := by
  blk_ext! [iblk, V, idx t]
theorem in1 (c : Dev nD) (t : Fin cfg0.N) (p : Fin 9) (b : Fin 16) (k : Fin 1024) :
    iblk m c 1 t (ix3 p b k) = m ((c : Thread nD τ).loc main_arg1) (ix2 b (⟨1024 * p.val + k.val, by omega⟩ : Fin 9216)) := by
  blk_ext! [iblk, V, idx t]
theorem in2 (c : Dev nD) (t : Fin cfg0.N) (l : Fin 1024) (f : Fin 5632) :
    iblk m c 2 t (ix2 l f) = m ((c : Thread nD τ).loc main_arg2) (ix2 l f) := by
  blk_ext! [iblk, V, idx t]
theorem in3 (c : Dev nD) (t : Fin cfg0.N) (f : Fin 2816) (k : Fin 1024) :
    iblk m c 3 t (ix2 f k) = m ((c : Thread nD τ).loc main_arg3) (ix2 f k) := by
  blk_ext! [iblk, V, idx t]
theorem in4 (c : Dev nD) (t : Fin cfg0.N) (k : Fin 1024) :
    iblk m c 4 t (ix2 0 k) = m ((c : Thread nD τ).loc main_arg4) (ix1 k) := by
  blk_ext! [iblk, V, idx t]
theorem in5 (c : Dev nD) (t : Fin cfg0.N) (k : Fin 1024) :
    iblk m c 5 t (ix2 0 k) = m ((c : Thread nD τ).loc main_arg5) (ix1 k) := by
  blk_ext! [iblk, V, idx t]

/-- The block a grid point leaves, at row `r` and column `j`: the layer's value at the row's place in the array. -/
theorem block (c : Dev nD) (t : Fin cfg0.N) (o : Fin 1) (r j : Fin 1024) (b : Fin 16) (q : Fin 2048) (hb : b.val = t.val / 2) (hq : q.val = (t.val % 2) * 1024 + r.val) :
    outsAt0 m c t (ix3 o r j) = layer m c (ix3 b q j) := by
  obtain rfl : o = 0 := Subsingleton.elim _ _
  unfold outsAt0
  rw [out_A _ _ _ _ _ _ _ _ _ _ _ _ _ _ _ _ _ _ _ _ _ _ _ _ _ _ b (Fin.ext (hb.trans (coords t).1.symm))]
  unfold value
  simp only [in0 m c t r _ b q hb hq, in1, in2, in3, in4, in5]
  rfl

/-- What point `t` writes back is its block of the layer's value. -/
theorem flushed_eq (c : Dev nD) (t : Fin cfg0.N) :
    (dats m 0 c).flushed 6 t = (win0_6.blk t).view.read (Elt Ideal) (layer m c) := by
  rw [Value.flushed6]
  funext y
  have h0 := (idx t).2.2.2.2.2.2
  have ht : t.val < 32 := lt_of_lt_of_eq t.isLt N_0
  idx_vars y
  refine (block m c t y0 y1 y2 (⟨t.val / 2, by omega⟩ : Fin 16) (⟨(t.val % 2) * 1024 + y1.val, by omega⟩ : Fin 2048) rfl rfl).trans (congrArg (layer m c) ?_)
  funext a
  apply Fin.ext
  fin_cases a
  · show t.val / 2 = win0_6.index t 0 * 1 + 1 * y0.val
    rw [h0.1]; omega
  · show (t.val % 2) * 1024 + y1.val = win0_6.index t 1 * 1024 + 1 * y1.val
    rw [h0.2.1]; omega
  · show y2.val = win0_6.index t 2 * 1024 + 1 * y2.val
    rw [h0.2.2]; omega

/-- An index of the result array is in point `t`'s block when its batch and its half of the tokens are the point's. -/
theorem mem_blk (t : Fin cfg0.N) (i : S16x2048x1024.Idx) (hb : (i 0).val = t.val / 2) (hq : t.val % 2 = (i 1).val / 1024) :
    i ∈ ((cfg0.win 6).blk t).view.set := by
  show i ∈ ((View.whole main_v6).slice (win0_6.rect t)).set
  rw [View.set_slice_whole, Rect.mem_set_unit]
  have h1 : (i 1).val < 2048 := (i 1).isLt
  have h2 : (i 2).val < 1024 := (i 2).isLt
  have h0 := (idx t).2.2.2.2.2.2
  have e : win0_6.xsize (grid0.coords t) 0 = 1 ∧ win0_6.xsize (grid0.coords t) 1 = 1024 ∧ win0_6.xsize (grid0.coords t) 2 = 1024 :=
    (by decide +kernel : ∀ t : Fin grid0.N, win0_6.xsize (grid0.coords t) 0 = 1 ∧ win0_6.xsize (grid0.coords t) 1 = 1024 ∧ win0_6.xsize (grid0.coords t) 2 = 1024) t
  intro a
  match a with
  | ⟨0, _⟩ =>
    show win0_6.index t 0 * 1 ≤ (i 0).val ∧ (i 0).val < win0_6.index t 0 * 1 + win0_6.xsize (grid0.coords t) 0
    rw [h0.1, e.1]; omega
  | ⟨1, _⟩ =>
    show win0_6.index t 1 * 1024 ≤ (i 1).val ∧ (i 1).val < win0_6.index t 1 * 1024 + win0_6.xsize (grid0.coords t) 1
    rw [h0.2.1, e.2.1]; omega
  | ⟨2, _⟩ =>
    show win0_6.index t 2 * 1024 ≤ (i 2).val ∧ (i 2).val < win0_6.index t 2 * 1024 + win0_6.xsize (grid0.coords t) 2
    rw [h0.2.2, e.2.2]; omega

/-- The blocks tile the array. -/
theorem cover (i : S16x2048x1024.Idx) : ∃ t : Fin cfg0.N, (cfg0.win 6).flush t = true ∧ i ∈ ((cfg0.win 6).blk t).view.set := by
  have h0 : (i 0).val < 16 := (i 0).isLt
  have h1 : (i 1).val < 2048 := (i 1).isLt
  have hN : cfg0.N = 32 := N_0
  refine ⟨⟨(i 0).val * 2 + (i 1).val / 1024, by omega⟩, flush0_6 _, mem_blk _ i ?_ ?_⟩ <;> dsimp only <;> omega

/-- The result array ends holding the layer's value. -/
theorem final (c : Dev nD) : (dats m 0 c).arrAt 6 cfg0.N = layer m c :=
  (dats m 0 c).arrAt_eq_of_cover 6 (layer m c) (fun t _ => flushed_eq m c t) cover

end Cert.FfnIdeal.Whole

namespace Cert.FfnClaims

theorem frame_p : Cert.quiescent_Ffn := fun m ρ _ => Cert.Ffn.Gen.frame m ρ
theorem frame_pi : Cert.quiescent_FfnIdeal := fun m ρ _ => Cert.FfnIdeal.Gen.frame m ρ
theorem frame_ri : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)
theorem preserves : Cert.preserves_Ffn_FfnIdeal := trivial

/-- From memories that agree on the arguments the kernel's result array and the reference's are the same layer's value. -/
theorem algebraic : Cert.algebraic_FfnIdeal_FfnRefIdeal := by
  intro m ρ m' ρ' _ hagree
  refine ⟨fun c => Cert.FfnIdeal.Whole.layer m c, ?_, ?_⟩
  · exact (θ_run Cert.FfnIdeal.defs _ _).mono (fun _ h c => ⟨(h c).1.trans (Cert.FfnIdeal.Whole.final m c), (h c).2⟩)
      (Cert.FfnIdeal.Value.run_blocks (F := Ideal) m ρ)
  refine (θ_run Cert.FfnRefIdeal.defs _ _).mono (fun _ h c => ⟨(h c).1.trans ?_, (h c).2⟩) (Cert.FfnRefIdeal.Value.run (F := Ideal) m' ρ')
  obtain ⟨e0, e1, e2, e3, e4, e5⟩ := hagree c
  rw [Cert.FfnRefIdeal.Read.val_main_v54_eq, e0, e1, e2, e3, e4, e5]
  funext y
  idx_vars y
  exact Cert.FfnRefIdeal.At.result _ _ _ _ _ _ _ _ _

end Cert.FfnClaims

end
-- ==== Proof.lean ====
module

public import proofs.«01_k».proof.Defs
public import proofs.«01_k».proof.Proof.Gen.Mixer
public import proofs.«01_k».proof.Proof.Gen.MixerIdeal
public import proofs.«01_k».proof.Proof.Gen.MixerRefIdeal
public import proofs.«01_k».proof.Proof.Gen.Ffn
public import proofs.«01_k».proof.Proof.Gen.FfnIdeal
public import proofs.«01_k».proof.Proof.Gen.FfnRefIdeal
public import proofs.«01_k».proof.Proof.MixerFrames
public import proofs.«01_k».proof.Proof.MixerValue
public import proofs.«01_k».proof.Proof.FfnValue

@[expose] public section

noncomputable section

namespace Cert.Proof

theorem claim : Cert.Claim :=
  ⟨Cert.Mixer.Gen.facts, Cert.MixerIdeal.Gen.facts, Cert.MixerRefIdeal.Gen.facts, Cert.Ffn.Gen.facts, Cert.FfnIdeal.Gen.facts, Cert.FfnRefIdeal.Gen.facts, Cert.Pre_finite.Gen.facts,
   MixerClaims.frame_p, MixerClaims.frame_pi, MixerClaims.frame_pi_finite, MixerClaims.frame_ri, MixerClaims.frame_ri_finite,  FfnClaims.frame_p, FfnClaims.frame_pi, FfnClaims.frame_ri,
   MixerClaims.preserves, MixerClaims.algebraic, FfnClaims.preserves, FfnClaims.algebraic⟩

end Cert.Proof

end
